-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_v41) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v65) = v0 c
          ∧ r.2.mem ((c.tc : Thread Cert.Reference11Ideal.nD Cert.Reference11Ideal.τ).loc Cert.Reference11Ideal.main_v67) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v175) = v0 c
          ∧ r.2.mem ((c.tc : Thread Cert.Reference12Ideal.nD Cert.Reference12Ideal.τ).loc Cert.Reference12Ideal.main_v176) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v25) = v2 c
          ∧ r.2.mem ((c.tc : Thread Cert.Reference13Ideal.nD Cert.Reference13Ideal.τ).loc Cert.Reference13Ideal.main_v26) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v9_0)) (v1 : (c : Dev Cert.Kernel16Ideal.nD) → Buf (Elt Ideal) ((c.tc : Thread Cert.Kernel16Ideal.nD Cert.Kernel16Ideal.τ).loc Cert.Kernel16Ideal.main_v9_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v9_0) = v0 c
          ∧ r.2.mem ((c.tc : Thread Cert.Kernel16Ideal.nD Cert.Kernel16Ideal.τ).loc Cert.Kernel16Ideal.main_v9_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v31) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
-- ==== Pre_finite.lean ====
abbrev S2x2048x4x64 : Shape := ⟨4, ![2, 2048, 4, 64]⟩
abbrev S2x2048x2x64 : Shape := ⟨4, ![2, 2048, 2, 64]⟩
abbrev S4096x1024 : Shape := ⟨2, ![4096, 1024]⟩
abbrev S_ : Shape := ⟨0, ![]⟩
abbrev S4096x256 : Shape := ⟨2, ![4096, 256]⟩

class Facts : Prop where
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_
  slices_S4096x1024_S4096x256_0_768 : S4096x1024.Slices ![0, 768] S4096x256
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v15 : FVec F S4096x256 .f32) (main_v16 : FVec F S4096x256 .f32) : IVec S_ 1 :=
  let main_v17 : IVec S4096x256 1 := cmpf .olt main_v15 main_v16
  let main_c_5 : IVec S_ 1 := constantI S_ 1 1#1
  let main_v18 : IVec S_ 1 := (fun x v => Host.reduce IntOp.andi x v reducesTo_S4096x256_S_d0_1 h_S_) main_v17 main_c_5
  let main_v19 : IVec S_ 1 := andi main_v13 main_v18
  main_v19

def fn {F : FTy → Type} [FloatOps F] (main_arg0 : FVec F S2x2048x4x64 .f32) (main_arg1 : FVec F S2x2048x2x64 .f32) (main_arg2 : FVec F S2x2048x2x64 .f32) (main_arg3 : FVec F S4096x1024 .f32) : IVec S_ 1 :=
  let main_v0 : FVec F S2x2048x4x64 .f32 := Host.absf main_arg0
  let main_cst : FVec F S_ .f32 := constant S_ .f32 0x7F800000#32
  let main_v1 : FVec F S2x2048x4x64 .f32 := broadcastInDim S2x2048x4x64 ![] bcast_S_S2x2048x4x64 main_cst
  let main_v2 : IVec S2x2048x4x64 1 := cmpf .olt main_v0 main_v1
  let main_c : IVec S_ 1 := constantI S_ 1 1#1
  let main_v3 : IVec S_ 1 := (fun x v => Host.reduce IntOp.andi x v reducesTo_S2x2048x4x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : IVec S_ 1 := andi main_v3 main_v7
  let main_v9 : FVec F S2x2048x2x64 .f32 := Host.absf main_arg2
  let main_cst_2 : FVec F S_ .f32 := constant S_ .f32 0x7F800000#32
  let main_v10 : FVec F S2x2048x2x64 .f32 := broadcastInDim S2x2048x2x64 ![] bcast_S_S2x2048x2x64 main_cst_2
  let main_v11 : IVec S2x2048x2x64 1 := cmpf .olt main_v9 main_v10
  let main_c_3 : IVec S_ 1 := constantI S_ 1 1#1
  let main_v12 : IVec S_ 1 := (fun x v => Host.reduce IntOp.andi x v reducesTo_S2x2048x2x64_S_d0_1_2_3 h_S_) main_v11 main_c_3
  let main_v13 : IVec S_ 1 := andi main_v8 main_v12
  let main_v14 : FVec F S4096x256 .f32 := (extractStridedSlice S4096x256 ![0, 768] · slices_S4096x1024_S4096x256_0_768) main_arg3
  let main_v15 : FVec F S4096x256 .f32 := Host.absf main_v14
  let main_cst_4 : FVec F S_ .f32 := constant S_ .f32 0x7F800000#32
  let main_v16 : FVec F S4096x256 .f32 := broadcastInDim S4096x256 ![] bcast_S_S4096x256 main_cst_4
  fn_part1 (F := F) main_v13 main_v15 main_v16
-- ==== Pre_finite16.lean ====
abbrev S2x2048x4x64 : Shape := ⟨4, ![2, 2048, 4, 64]⟩
abbrev S2x2048x2x64 : Shape := ⟨4, ![2, 2048, 2, 64]⟩
abbrev S_ : Shape := ⟨0, ![]⟩

class Facts : Prop where
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_

variable [Facts]

def fn {F : FTy → Type} [FloatOps F] (main_arg0 : FVec F S2x2048x4x64 .f32) (main_arg1 : FVec F S2x2048x2x64 .f32) (main_arg2 : FVec F S2x2048x2x64 .f32) : IVec S_ 1 :=
  let main_v0 : FVec F S2x2048x4x64 .f32 := Host.absf main_arg0
  let main_cst : FVec F S_ .f32 := constant S_ .f32 0x7F800000#32
  let main_v1 : FVec F S2x2048x4x64 .f32 := broadcastInDim S2x2048x4x64 ![] bcast_S_S2x2048x4x64 main_cst
  let main_v2 : IVec S2x2048x4x64 1 := cmpf .olt main_v0 main_v1
  let main_c : IVec S_ 1 := constantI S_ 1 1#1
  let main_v3 : IVec S_ 1 := (fun x v => Host.reduce IntOp.andi x v reducesTo_S2x2048x4x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : IVec S_ 1 := andi main_v3 main_v7
  main_v8
-- ==== Kernel.lean ====
abbrev S2x2048x4x64 : Shape := ⟨4, ![2, 2048, 4, 64]⟩
abbrev S2x2048x2x64 : Shape := ⟨4, ![2, 2048, 2, 64]⟩
abbrev S4096x1024 : Shape := ⟨2, ![4096, 1024]⟩
abbrev S2x2048x256 : Shape := ⟨3, ![2, 2048, 256]⟩
abbrev S_ : Shape := ⟨0, ![]⟩
abbrev S2x2048x128 : Shape := ⟨3, ![2, 2048, 128]⟩
abbrev S2x2048x512 : Shape := ⟨3, ![2, 2048, 512]⟩
abbrev S2x2048x2x2x64 : Shape := ⟨5, ![2, 2048, 2, 2, 64]⟩
abbrev S2x2x2048x2048x2 : Shape := ⟨5, ![2, 2, 2048, 2048, 2]⟩
abbrev S2x2x2x2048x2048 : Shape := ⟨5, ![2, 2, 2, 2048, 2048]⟩
abbrev S2x2x2x2048 : Shape := ⟨4, ![2, 2, 2, 2048]⟩
abbrev S2x2x2x2048x1 : Shape := ⟨5, ![2, 2, 2, 2048, 1]⟩
abbrev S2x2x64x2x2048 : Shape := ⟨5, ![2, 2, 64, 2, 2048]⟩
abbrev S4096x256 : Shape := ⟨2, ![4096, 256]⟩
abbrev S2x2048x2x2x1 : Shape := ⟨5, ![2, 2048, 2, 2, 1]⟩
abbrev S4096x4x64 : Shape := ⟨3, ![4096, 4, 64]⟩
abbrev S4096x4 : Shape := ⟨2, ![4096, 4]⟩
abbrev S4096x4x1 : Shape := ⟨3, ![4096, 4, 1]⟩
abbrev S4096x512 : Shape := ⟨2, ![4096, 512]⟩
abbrev S2x2048x1024 : Shape := ⟨3, ![2, 2048, 1024]⟩
abbrev S1x128x256 : Shape := ⟨3, ![1, 128, 256]⟩
abbrev S1x2048x128 : Shape := ⟨3, ![1, 2048, 128]⟩
abbrev S128x2048 : Shape := ⟨2, ![128, 2048]⟩
abbrev S128x256 : Shape := ⟨2, ![128, 256]⟩
abbrev S128x64 : Shape := ⟨2, ![128, 64]⟩
abbrev S256x64 : Shape := ⟨2, ![256, 64]⟩
abbrev S128x1 : Shape := ⟨2, ![128, 1]⟩
abbrev S256x1 : Shape := ⟨2, ![256, 1]⟩
abbrev S1x2048x64 : Shape := ⟨3, ![1, 2048, 64]⟩
abbrev S2048x64 : Shape := ⟨2, ![2048, 64]⟩
abbrev S256x2048 : Shape := ⟨2, ![256, 2048]⟩
abbrev S1x128x64 : Shape := ⟨3, ![1, 128, 64]⟩
abbrev S64x2048 : Shape := ⟨2, ![64, 2048]⟩
abbrev S2048x128 : Shape := ⟨2, ![2048, 128]⟩

abbrev nBuf : Space → Nat
  | .hbm => 56
  | .vmem => 20
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S4096x1024, .f32⟩
  | .hbm, ⟨4, _⟩ => ⟨S2x2048x256, .f32⟩
  | .hbm, ⟨5, _⟩ => ⟨S_, .f32⟩
  | .hbm, ⟨6, _⟩ => ⟨S2x2048x256, .f32⟩
  | .hbm, ⟨7, _⟩ => ⟨S2x2048x256, .f32⟩
  | .hbm, ⟨8, _⟩ => ⟨S2x2048x128, .f32⟩
  | .hbm, ⟨9, _⟩ => ⟨S2x2048x128, .f32⟩
  | .hbm, ⟨10, _⟩ => ⟨S2x2048x512, .f32⟩
  | .hbm, ⟨11, _⟩ => ⟨S2x2048x512, .bf16⟩
  | .hbm, ⟨12, _⟩ => ⟨S2x2048x2x2x64, .f32⟩
  | .hbm, ⟨13, _⟩ => ⟨S2x2x2048x2048x2, .f32⟩
  | .hbm, ⟨14, _⟩ => ⟨S2x2x2x2048x2048, .f32⟩
  | .hbm, ⟨15, _⟩ => ⟨S_, .f32⟩
  | .hbm, ⟨16, _⟩ => ⟨S2x2x2x2048x2048, .f32⟩
  | .hbm, ⟨17, _⟩ => ⟨S2x2x2x2048x2048, .f32⟩
  | .hbm, ⟨18, _⟩ => ⟨S_, .f32⟩
  | .hbm, ⟨19, _⟩ => ⟨S2x2x2x2048, .f32⟩
  | .hbm, ⟨20, _⟩ => ⟨S2x2x2x2048x1, .f32⟩
  | .hbm, ⟨21, _⟩ => ⟨S2x2x2x2048x2048, .f32⟩
  | .hbm, ⟨22, _⟩ => ⟨S2x2x2x2048x2048, .f32⟩
  | .hbm, ⟨23, _⟩ => ⟨S2x2x2x2048x2048, .f32⟩
  | .hbm, ⟨24, _⟩ => ⟨S_, .f32⟩
  | .hbm, ⟨25, _⟩ => ⟨S2x2x2x2048, .f32⟩
  | .hbm, ⟨26, _⟩ => ⟨S2x2x2x2048x1, .f32⟩
  | .hbm, ⟨27, _⟩ => ⟨S2x2x2x2048x2048, .f32⟩
  | .hbm, ⟨28, _⟩ => ⟨S2x2x2x2048x2048, .f32⟩
  | .hbm, ⟨29, _⟩ => ⟨S2x2x2x2048x2048, .f32⟩
  | .hbm, ⟨30, _⟩ => ⟨S2x2x2x2048x2048, .f32⟩
  | .hbm, ⟨31, _⟩ => ⟨S2x2x2x2048x2048, .f32⟩
  | .hbm, ⟨32, _⟩ => ⟨S2x2x64x2x2048, .f32⟩
  | .hbm, ⟨33, _⟩ => ⟨S2x2048x2x2x64, .f32⟩
  | .hbm, ⟨34, _⟩ => ⟨S4096x256, .f32⟩
  | .hbm, ⟨35, _⟩ => ⟨S2x2x2x2048x1, .f32⟩
  | .hbm, ⟨36, _⟩ => ⟨S2x2x2x2048x1, .f32⟩
  | .hbm, ⟨37, _⟩ => ⟨S2x2048x2x2x1, .f32⟩
  | .hbm, ⟨38, _⟩ => ⟨S2x2048x2x2x64, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x4x64, .f32⟩
  | .hbm, ⟨43, _⟩ => ⟨S_, .f32⟩
  | .hbm, ⟨44, _⟩ => ⟨S4096x4, .f32⟩
  | .hbm, ⟨45, _⟩ => ⟨S4096x4x1, .f32⟩
  | .hbm, ⟨46, _⟩ => ⟨S4096x4x64, .f32⟩
  | .hbm, ⟨47, _⟩ => ⟨S4096x256, .f32⟩
  | .hbm, ⟨48, _⟩ => ⟨S4096x512, .bf16⟩
  | .hbm, ⟨49, _⟩ => ⟨S2x2048x512, .bf16⟩
  | .hbm, ⟨50, _⟩ => ⟨S2x2048x1024, .f32⟩
  | .hbm, ⟨51, _⟩ => ⟨S2x2048x256, .f32⟩
  | .hbm, ⟨52, _⟩ => ⟨S2x2048x256, .f32⟩
  | .hbm, ⟨53, _⟩ => ⟨S2x2048x256, .bf16⟩
  | .hbm, ⟨54, _⟩ => ⟨S2x2048x128, .bf16⟩
  | .hbm, ⟨55, _⟩ => ⟨S2x2048x128, .bf16⟩
  | .local _ .vmem, ⟨0, _⟩ => ⟨S1x128x256, .bf16⟩
  | .local _ .vmem, ⟨1, _⟩ => ⟨S1x128x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .bf16⟩
  | .local _ .vmem, ⟨13, _⟩ => ⟨S1x128x256, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S128x2048, .f32⟩
  | .local _ .vmem, ⟨19, _⟩ => ⟨S128x2048, .f32⟩
  | _, _ => ⟨S2x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44_0 : Ref sig .tc := ⟨.hbm, 53, rfl⟩
abbrev main_v44_1 : Ref sig .tc := ⟨.hbm, 54, rfl⟩
abbrev main_v44_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v110 : BitVec 1 := Scalar.cmpi .eq arg1 c15_i32
  let v111 : BitVec 32 := Scalar.extui v110
  let c0_i32_58 : BitVec 32 := 0#32
  let v112 : BitVec 1 := Scalar.cmpi .ne v111 c0_i32_58
  v112

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x2048x4x64 : Shape := ⟨4, ![2, 2048, 4, 64]⟩
abbrev S2x2048x2x64 : Shape := ⟨4, ![2, 2048, 2, 64]⟩
abbrev S4096x1024 : Shape := ⟨2, ![4096, 1024]⟩
abbrev S4096x256 : Shape := ⟨2, ![4096, 256]⟩
abbrev S2x2048x2x2x64 : Shape := ⟨5, ![2, 2048, 2, 2, 64]⟩
abbrev S2x2x2048x2048x2 : Shape := ⟨5, ![2, 2, 2048, 2048, 2]⟩
abbrev S2x2x2x2048x2048 : Shape := ⟨5, ![2, 2, 2, 2048, 2048]⟩
abbrev S_ : Shape := ⟨0, ![]⟩
abbrev S2x2x2x2048 : Shape := ⟨4, ![2, 2, 2, 2048]⟩
abbrev S2x2x2x2048x1 : Shape := ⟨5, ![2, 2, 2, 2048, 1]⟩
abbrev S2x2x64x2x2048 : Shape := ⟨5, ![2, 2, 64, 2, 2048]⟩
abbrev S2x2x64x2048 : Shape := ⟨4, ![2, 2, 64, 2048]⟩
abbrev S2x2x2048x2x64 : Shape := ⟨5, ![2, 2, 2048, 2, 64]⟩
abbrev S2x2x2048x64 : Shape := ⟨4, ![2, 2, 2048, 64]⟩
abbrev S2x2048x256 : Shape := ⟨3, ![2, 2048, 256]⟩
abbrev S2x2048x128 : Shape := ⟨3, ![2, 2048, 128]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S4096x1024, .f32⟩
  | .hbm, ⟨4, _⟩ => ⟨S4096x256, .f32⟩
  | .hbm, ⟨5, _⟩ => ⟨S2x2048x4x64, .f32⟩
  | .hbm, ⟨6, _⟩ => ⟨S2x2048x2x2x64, .f32⟩
  | .hbm, ⟨7, _⟩ => ⟨S2x2x2048x2048x2, .f32⟩
  | .hbm, ⟨8, _⟩ => ⟨S2x2x2x2048x2048, .f32⟩
  | .hbm, ⟨9, _⟩ => ⟨S_, .f32⟩
  | .hbm, ⟨10, _⟩ => ⟨S2x2x2x2048x2048, .f32⟩
  | .hbm, ⟨11, _⟩ => ⟨S2x2x2x2048x2048, .f32⟩
  | .hbm, ⟨12, _⟩ => ⟨S_, .f32⟩
  | .hbm, ⟨13, _⟩ => ⟨S2x2x2x2048, .f32⟩
  | .hbm, ⟨14, _⟩ => ⟨S2x2x2x2048x1, .f32⟩
  | .hbm, ⟨15, _⟩ => ⟨S2x2x2x2048x2048, .f32⟩
  | .hbm, ⟨16, _⟩ => ⟨S2x2x2x2048x2048, .i1⟩
  | .hbm, ⟨17, _⟩ => ⟨S2x2x2x2048x2048, .f32⟩
  | .hbm, ⟨18, _⟩ => ⟨S_, .f32⟩
  | .hbm, ⟨19, _⟩ => ⟨S2x2x2x2048, .f32⟩
  | .hbm, ⟨20, _⟩ => ⟨S_, .f32⟩
  | .hbm, ⟨21, _⟩ => ⟨S2x2x2x2048, .f32⟩
  | .hbm, ⟨22, _⟩ => ⟨S2x2x2x2048, .f32⟩
  | .hbm, ⟨23, _⟩ => ⟨S_, .f32⟩
  | .hbm, ⟨24, _⟩ => ⟨S2x2x2x2048, .f32⟩
  | .hbm, ⟨25, _⟩ => ⟨S2x2x2x2048, .i1⟩
  | .hbm, ⟨26, _⟩ => ⟨S_, .f32⟩
  | .hbm, ⟨27, _⟩ => ⟨S2x2x2x2048, .f32⟩
  | .hbm, ⟨28, _⟩ => ⟨S2x2x2x2048, .i1⟩
  | .hbm, ⟨29, _⟩ => ⟨S_, .f32⟩
  | .hbm, ⟨30, _⟩ => ⟨S2x2x2x2048, .f32⟩
  | .hbm, ⟨31, _⟩ => ⟨S_, .f32⟩
  | .hbm, ⟨32, _⟩ => ⟨S2x2x2x2048, .f32⟩
  | .hbm, ⟨33, _⟩ => ⟨S_, .f32⟩
  | .hbm, ⟨34, _⟩ => ⟨S2x2x2x2048, .f32⟩
  | .hbm, ⟨35, _⟩ => ⟨S2x2x2x2048, .f32⟩
  | .hbm, ⟨36, _⟩ => ⟨S2x2x2x2048, .f32⟩
  | .hbm, ⟨37, _⟩ => ⟨S2x2x2x2048x1, .f32⟩
  | .hbm, ⟨38, _⟩ => ⟨S2x2x2x2048x2048, .f32⟩
  | .hbm, ⟨39, _⟩ => ⟨S2x2x2x2048x2048, .f32⟩
  | .hbm, ⟨40, _⟩ => ⟨S2x2x2x2048x2048, .f32⟩
  | .hbm, ⟨41, _⟩ => ⟨S_, .f32⟩
  | .hbm, ⟨42, _⟩ => ⟨S2x2x2x2048, .f32⟩
  | .hbm, ⟨43, _⟩ => ⟨S2x2x2x2048x1, .f32⟩
  | .hbm, ⟨44, _⟩ => ⟨S2x2x2x2048x2048, .f32⟩
  | .hbm, ⟨45, _⟩ => ⟨S2x2x2x2048x2048, .f32⟩
  | .hbm, ⟨46, _⟩ => ⟨S2x2x2x2048x1, .f32⟩
  | .hbm, ⟨47, _⟩ => ⟨S_, .f32⟩
  | .hbm, ⟨48, _⟩ => ⟨S2x2x2x2048x1, .f32⟩
  | .hbm, ⟨49, _⟩ => ⟨S2x2x2x2048x1, .f32⟩
  | .hbm, ⟨50, _⟩ => ⟨S2x2x64x2x2048, .f32⟩
  | .hbm, ⟨51, _⟩ => ⟨S2x2048x2x2x64, .f32⟩
  | .hbm, ⟨52, _⟩ => ⟨S2x2048x4x64, .f32⟩
  | .hbm, ⟨53, _⟩ => ⟨S2x2048x2x2x64, .f32⟩
  | .hbm, ⟨54, _⟩ => ⟨S2x2x64x2x2048, .f32⟩
  | .hbm, ⟨55, _⟩ => ⟨S2x2x2x2048x2048, .f32⟩
  | .hbm, ⟨56, _⟩ => ⟨S2x2x64x2048, .f32⟩
  | .hbm, ⟨57, _⟩ => ⟨S2x2048x2x64, .f32⟩
  | .hbm, ⟨58, _⟩ => ⟨S2x2x2x2048x2048, .f32⟩
  | .hbm, ⟨59, _⟩ => ⟨S2x2x2x2048x2048, .f32⟩
  | .hbm, ⟨60, _⟩ => ⟨S2x2x2x2048x2048, .f32⟩
  | .hbm, ⟨61, _⟩ => ⟨S_, .f32⟩
  | .hbm, ⟨62, _⟩ => ⟨S2x2x2x2048, .f32⟩
  | .hbm, ⟨63, _⟩ => ⟨S2x2x2x2048x1, .f32⟩
  | .hbm, ⟨64, _⟩ => ⟨S2x2x2x2048x1, .f32⟩
  | .hbm, ⟨65, _⟩ => ⟨S2x2x2x2048x2048, .f32⟩
  | .hbm, ⟨66, _⟩ => ⟨S2x2x2x2048x2048, .f32⟩
  | .hbm, ⟨67, _⟩ => ⟨S_, .f32⟩
  | .hbm, ⟨68, _⟩ => ⟨S2x2x2x2048, .f32⟩
  | .hbm, ⟨69, _⟩ => ⟨S2x2x2x2048x2048, .f32⟩
  | .hbm, ⟨70, _⟩ => ⟨S2x2x2x2048x2048, .f32⟩
  | .hbm, ⟨71, _⟩ => ⟨S2x2x2x2048x2048, .f32⟩
  | .hbm, ⟨72, _⟩ => ⟨S_, .f32⟩
  | .hbm, ⟨73, _⟩ => ⟨S2x2x2x2048x2048, .f32⟩
  | .hbm, ⟨74, _⟩ => ⟨S2x2x2x2048x2048, .f32⟩
  | .hbm, ⟨75, _⟩ => ⟨S2x2x2048x2048x2, .f32⟩
  | .hbm, ⟨76, _⟩ => ⟨S2x2x2048x2x64, .f32⟩
  | .hbm, ⟨77, _⟩ => ⟨S2x2048x2x2x64, .f32⟩
  | .hbm, ⟨78, _⟩ => ⟨S2x2x2048x64, .f32⟩
  | .hbm, ⟨79, _⟩ => ⟨S2x2048x2x64, .f32⟩
  | .hbm, ⟨80, _⟩ => ⟨S2x2048x4x64, .f32⟩
  | .hbm, ⟨81, _⟩ => ⟨S_, .f32⟩
  | .hbm, ⟨82, _⟩ => ⟨S2x2048x4x64, .f32⟩
  | .hbm, ⟨83, _⟩ => ⟨S2x2048x4x64, .f32⟩
  | .hbm, ⟨84, _⟩ => ⟨S2x2048x256, .f32⟩
  | .hbm, ⟨85, _⟩ => ⟨S2x2048x256, .bf16⟩
  | .hbm, ⟨86, _⟩ => ⟨S2x2048x128, .f32⟩
  | .hbm, ⟨87, _⟩ => ⟨S2x2048x128, .bf16⟩
  | .hbm, ⟨88, _⟩ => ⟨S2x2048x128, .f32⟩
  | .hbm, ⟨89, _⟩ => ⟨S2x2048x128, .bf16⟩
  | _, _ => ⟨S2x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S1x1024 : Shape := ⟨2, ![1, 1024]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S1024x5632, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_5 : BitVec 32 := 0#32
  let v15 : BitVec 1 := Scalar.cmpi .ne v14 c0_i32_5
  v15

def k0_cond5 (i : grid0.Coords) : BitVec 1 :=
  let arg0 : BitVec 32 := BitVec.ofNat 32 (i 0).val
  let c0_i32_6 : BitVec 32 := 0#32
  let v16 : BitVec 1 := Scalar.cmpi .eq arg0 c0_i32_6
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩
abbrev S4096x1408 : Shape := ⟨2, ![4096, 1408]⟩
abbrev S1024x1408 : Shape := ⟨2, ![1024, 1408]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2816, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x2816, .bf16⟩
  | .local _ .vmem, ⟨0, _⟩ => ⟨S4096x1024, .bf16⟩
  | .local _ .vmem, ⟨1, _⟩ => ⟨S4096x1408, .bf16⟩
  | .local _ .vmem, ⟨2, _⟩ => ⟨S4096x1408, .bf16⟩
  | .local _ .vmem, ⟨3, _⟩ => ⟨S1024x1408, .bf16⟩
  | .local _ .vmem, ⟨4, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S1024 : Shape := ⟨1, ![1024]⟩
abbrev S4096x2816 : Shape := ⟨2, ![4096, 2816]⟩
abbrev S_ : Shape := ⟨0, ![]⟩
abbrev S1024x2816 : Shape := ⟨2, ![1024, 2816]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2816, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S1024x2816, .f32⟩
  | .hbm, ⟨25, _⟩ => ⟨S1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S2816x1024, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S1x1024 : Shape := ⟨2, ![1, 1024]⟩
abbrev S1024x1152 : Shape := ⟨2, ![1024, 1152]⟩
abbrev S1024x1024 : Shape := ⟨2, ![1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .bf16⟩
  | .hbm, ⟨4, _⟩ => ⟨S4096x1024, .f32⟩
  | .hbm, ⟨5, _⟩ => ⟨S1024x2304, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def k0_cond4 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference6Ideal.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2304, .f32⟩
  | .hbm, ⟨26, _⟩ => ⟨S4096x2304, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2304 : Shape := ⟨2, ![1024, 2304]⟩
abbrev S4096x768 : Shape := ⟨2, ![4096, 768]⟩
abbrev S1024x768 : Shape := ⟨2, ![1024, 768]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2304, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x2304, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024 : Shape := ⟨1, ![1024]⟩
abbrev S4096x2304 : Shape := ⟨2, ![4096, 2304]⟩
abbrev S_ : Shape := ⟨0, ![]⟩
abbrev S1024x2304 : Shape := ⟨2, ![1024, 2304]⟩
abbrev S4096 : Shape := ⟨1, ![4096]⟩
abbrev S4096x1 : Shape := ⟨2, ![4096, 1]⟩
abbrev S1x1024 : Shape := ⟨2, ![1, 1024]⟩
abbrev S2304x1024 : Shape := ⟨2, ![2304, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2304, .bf16⟩
  | .hbm, ⟨3, _⟩ => ⟨S_, .f32⟩
  | .hbm, ⟨4, _⟩ => ⟨S1024x2304, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2304, .f32⟩
  | .hbm, ⟨22, _⟩ => ⟨S4096x2304, .f32⟩
  | .hbm, ⟨23, _⟩ => ⟨S2304x1024, .f32⟩
  | .hbm, ⟨24, _⟩ => ⟨S1024x2304, .f32⟩
  | .hbm, ⟨25, _⟩ => ⟨S1024x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x1024, .f32⟩
  | .hbm, ⟨5, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_5 : BitVec 32 := 0#32
  let v11 : BitVec 1 := Scalar.cmpi .eq arg0 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference10Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel11.lean ====
abbrev S4096x256 : Shape := ⟨2, ![4096, 256]⟩
abbrev S4x256 : Shape := ⟨2, ![4, 256]⟩
abbrev S1024x1024 : Shape := ⟨2, ![1024, 1024]⟩
abbrev S4096x1024 : Shape := ⟨2, ![4096, 1024]⟩
abbrev S1x1024 : Shape := ⟨2, ![1, 1024]⟩
abbrev S1024x256 : Shape := ⟨2, ![1024, 256]⟩
abbrev S1024 : Shape := ⟨1, ![1024]⟩
abbrev S1024x1 : Shape := ⟨2, ![1024, 1]⟩
abbrev S1x256 : Shape := ⟨2, ![1, 256]⟩

abbrev nBuf : Space → Nat
  | .hbm => 11
  | .vmem => 17
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x256, .bf16⟩
  | .hbm, ⟨3, _⟩ => ⟨S4096x256, .bf16⟩
  | .hbm, ⟨4, _⟩ => ⟨S4x256, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S1024x1024, .bf16⟩
  | .hbm, ⟨9, _⟩ => ⟨S4096x1024, .bf16⟩
  | .hbm, ⟨10, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S4096x256 : Shape := ⟨2, ![4096, 256]⟩
abbrev S4x256 : Shape := ⟨2, ![4, 256]⟩
abbrev S1024x1024 : Shape := ⟨2, ![1024, 1024]⟩
abbrev S4096x1024 : Shape := ⟨2, ![4096, 1024]⟩
abbrev S1x256 : Shape := ⟨2, ![1, 256]⟩
abbrev S256 : Shape := ⟨1, ![256]⟩
abbrev S_ : Shape := ⟨0, ![]⟩
abbrev S4096 : Shape := ⟨1, ![4096]⟩
abbrev S4096x1 : Shape := ⟨2, ![4096, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x256, .bf16⟩
  | .hbm, ⟨3, _⟩ => ⟨S4096x256, .bf16⟩
  | .hbm, ⟨4, _⟩ => ⟨S4x256, .f32⟩
  | .hbm, ⟨5, _⟩ => ⟨S1024x1024, .f32⟩
  | .hbm, ⟨6, _⟩ => ⟨S4096x1024, .f32⟩
  | .hbm, ⟨7, _⟩ => ⟨S4096x256, .f32⟩
  | .hbm, ⟨8, _⟩ => ⟨S1x256, .f32⟩
  | .hbm, ⟨9, _⟩ => ⟨S256, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S1x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S1x256, .f32⟩
  | .hbm, ⟨28, _⟩ => ⟨S256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S1x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S1x256, .f32⟩
  | .hbm, ⟨47, _⟩ => ⟨S256, .f32⟩
  | .hbm, ⟨48, _⟩ => ⟨S4096x256, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x256, .f32⟩
  | .hbm, ⟨60, _⟩ => ⟨S4096x256, .f32⟩
  | .hbm, ⟨61, _⟩ => ⟨S1x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S1x256, .f32⟩
  | .hbm, ⟨66, _⟩ => ⟨S256, .f32⟩
  | .hbm, ⟨67, _⟩ => ⟨S4096x256, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x256, .f32⟩
  | .hbm, ⟨79, _⟩ => ⟨S4096x256, .f32⟩
  | .hbm, ⟨80, _⟩ => ⟨S1x256, .f32⟩
  | .hbm, ⟨81, _⟩ => ⟨S4096x256, .f32⟩
  | .hbm, ⟨82, _⟩ => ⟨S4096x256, .f32⟩
  | .hbm, ⟨83, _⟩ => ⟨S4096x1024, .f32⟩
  | .hbm, ⟨84, _⟩ => ⟨S4096x1024, .bf16⟩
  | .hbm, ⟨85, _⟩ => ⟨S4096x1024, .f32⟩
  | .hbm, ⟨86, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Kernel12.lean ====
abbrev S4096x256 : Shape := ⟨2, ![4096, 256]⟩
abbrev S4x256 : Shape := ⟨2, ![4, 256]⟩
abbrev S1024x1024 : Shape := ⟨2, ![1024, 1024]⟩
abbrev S4096x1024 : Shape := ⟨2, ![4096, 1024]⟩
abbrev S1x1024 : Shape := ⟨2, ![1, 1024]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S256 : Shape := ⟨1, ![256]⟩

abbrev nBuf : Space → Nat
  | .hbm => 11
  | .vmem => 16
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x256, .bf16⟩
  | .hbm, ⟨3, _⟩ => ⟨S4096x256, .bf16⟩
  | .hbm, ⟨4, _⟩ => ⟨S4x256, .f32⟩
  | .hbm, ⟨5, _⟩ => ⟨S1024x1024, .f32⟩
  | .hbm, ⟨6, _⟩ => ⟨S4096x1024, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_5 : BitVec 32 := 0#32
  let v11 : BitVec 1 := Scalar.cmpi .eq arg0 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference12Ideal.lean ====
abbrev S4096x256 : Shape := ⟨2, ![4096, 256]⟩
abbrev S4x256 : Shape := ⟨2, ![4, 256]⟩
abbrev S1024x1024 : Shape := ⟨2, ![1024, 1024]⟩
abbrev S4096x1024 : Shape := ⟨2, ![4096, 1024]⟩
abbrev S1x256 : Shape := ⟨2, ![1, 256]⟩
abbrev S256 : Shape := ⟨1, ![256]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 224
  | .vmem => 0
  | .smem => 0
  | _ => 0

abbrev hbmTy0_0 (i : Nat) : BufTy := match i % 128 with
  | 0 => ⟨S4096x256, .bf16⟩
  | 1 => ⟨S4096x256, .bf16⟩
  | 2 => ⟨S4096x256, .bf16⟩
  | 3 => ⟨S4096x256, .bf16⟩
  | 4 => ⟨S4x256, .f32⟩
  | 5 => ⟨S1024x1024, .f32⟩
  | 6 => ⟨S4096x1024, .bf16⟩
  | 7 => ⟨S4096x256, .f32⟩
  | 8 => ⟨S4096x256, .f32⟩
  | 9 => ⟨S4096x256, .f32⟩
  | 10 => ⟨S4096x256, .f32⟩
  | 11 => ⟨S1x256, .f32⟩
  | 12 => ⟨S256, .f32⟩
  | 13 => ⟨S4096x256, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x256, .f32⟩
  | 29 => ⟨S4096x256, .f32⟩
  | 30 => ⟨S1x256, .f32⟩
  | 31 => ⟨S4096x256, .f32⟩
  | 32 => ⟨S4096x256, .f32⟩
  | 33 => ⟨S1x256, .f32⟩
  | 34 => ⟨S256, .f32⟩
  | 35 => ⟨S4096x256, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x256, .f32⟩
  | 51 => ⟨S4096x256, .f32⟩
  | 52 => ⟨S1x256, .f32⟩
  | 53 => ⟨S4096x256, .f32⟩
  | 54 => ⟨S4096x256, .f32⟩
  | 55 => ⟨S1x256, .f32⟩
  | 56 => ⟨S256, .f32⟩
  | 57 => ⟨S4096x256, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x256, .f32⟩
  | 73 => ⟨S4096x256, .f32⟩
  | 74 => ⟨S1x256, .f32⟩
  | 75 => ⟨S4096x256, .f32⟩
  | 76 => ⟨S4096x256, .f32⟩
  | 77 => ⟨S1x256, .f32⟩
  | 78 => ⟨S256, .f32⟩
  | 79 => ⟨S4096x256, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x256, .f32⟩
  | 95 => ⟨S4096x256, .f32⟩
  | 96 => ⟨S1x256, .f32⟩
  | 97 => ⟨S4096x256, .f32⟩
  | 98 => ⟨S4096x256, .f32⟩
  | 99 => ⟨S4096x1024, .f32⟩
  | 100 => ⟨S4096x1024, .f32⟩
  | 101 => ⟨S4096x1024, .f32⟩
  | 102 => ⟨S4096x1024, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S_, .f32⟩
  | 109 => ⟨S256, .f32⟩
  | 110 => ⟨S1x256, .f32⟩
  | 111 => ⟨S4096x256, .f32⟩
  | 112 => ⟨S4096x256, .f32⟩
  | 113 => ⟨S_, .f32⟩
  | 114 => ⟨S256, .f32⟩
  | 115 => ⟨S4096x256, .f32⟩
  | 116 => ⟨S_, .f32⟩
  | 117 => ⟨S4096, .f32⟩
  | 118 => ⟨S4096x1, .f32⟩
  | 119 => ⟨S4096x256, .f32⟩
  | 120 => ⟨S4096x256, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x256, .f32⟩
  | _ => ⟨S4096x256, .bf16⟩

abbrev hbmTy0_1 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S1x256, .f32⟩
  | 5 => ⟨S_, .f32⟩
  | 6 => ⟨S4x256, .f32⟩
  | 7 => ⟨S4096x256, .f32⟩
  | 8 => ⟨S_, .f32⟩
  | 9 => ⟨S256, .f32⟩
  | 10 => ⟨S1x256, .f32⟩
  | 11 => ⟨S4096x256, .f32⟩
  | 12 => ⟨S4096x256, .f32⟩
  | 13 => ⟨S_, .f32⟩
  | 14 => ⟨S256, .f32⟩
  | 15 => ⟨S4096x256, .f32⟩
  | 16 => ⟨S_, .f32⟩
  | 17 => ⟨S4096, .f32⟩
  | 18 => ⟨S4096x1, .f32⟩
  | 19 => ⟨S4096x256, .f32⟩
  | 20 => ⟨S4096x256, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096, .f32⟩
  | 27 => ⟨S4096x256, .f32⟩
  | 28 => ⟨S4096x256, .f32⟩
  | 29 => ⟨S4096x256, .f32⟩
  | 30 => ⟨S4096x256, .f32⟩
  | 31 => ⟨S4096x256, .f32⟩
  | 32 => ⟨S1x256, .f32⟩
  | 33 => ⟨S_, .f32⟩
  | 34 => ⟨S4x256, .f32⟩
  | 35 => ⟨S4x256, .f32⟩
  | 36 => ⟨S4096x256, .f32⟩
  | 37 => ⟨S_, .f32⟩
  | 38 => ⟨S256, .f32⟩
  | 39 => ⟨S1x256, .f32⟩
  | 40 => ⟨S4096x256, .f32⟩
  | 41 => ⟨S4096x256, .f32⟩
  | 42 => ⟨S_, .f32⟩
  | 43 => ⟨S256, .f32⟩
  | 44 => ⟨S4096x256, .f32⟩
  | 45 => ⟨S_, .f32⟩
  | 46 => ⟨S4096, .f32⟩
  | 47 => ⟨S4096x1, .f32⟩
  | 48 => ⟨S4096x256, .f32⟩
  | 49 => ⟨S4096x256, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096, .f32⟩
  | 56 => ⟨S4096x256, .f32⟩
  | 57 => ⟨S4096x256, .f32⟩
  | 58 => ⟨S4096x256, .f32⟩
  | 59 => ⟨S4096x256, .f32⟩
  | 60 => ⟨S4096x256, .f32⟩
  | 61 => ⟨S1x256, .f32⟩
  | 62 => ⟨S_, .f32⟩
  | 63 => ⟨S4x256, .f32⟩
  | 64 => ⟨S4x256, .f32⟩
  | 65 => ⟨S4096x256, .f32⟩
  | 66 => ⟨S_, .f32⟩
  | 67 => ⟨S256, .f32⟩
  | 68 => ⟨S1x256, .f32⟩
  | 69 => ⟨S4096x256, .f32⟩
  | 70 => ⟨S4096x256, .f32⟩
  | 71 => ⟨S_, .f32⟩
  | 72 => ⟨S256, .f32⟩
  | 73 => ⟨S4096x256, .f32⟩
  | 74 => ⟨S_, .f32⟩
  | 75 => ⟨S4096, .f32⟩
  | 76 => ⟨S4096x1, .f32⟩
  | 77 => ⟨S4096x256, .f32⟩
  | 78 => ⟨S4096x256, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096, .f32⟩
  | 85 => ⟨S4096x256, .f32⟩
  | 86 => ⟨S4096x256, .f32⟩
  | 87 => ⟨S4096x256, .f32⟩
  | 88 => ⟨S4096x256, .f32⟩
  | 89 => ⟨S4096x256, .f32⟩
  | 90 => ⟨S1x256, .f32⟩
  | 91 => ⟨S_, .f32⟩
  | 92 => ⟨S4x256, .f32⟩
  | 93 => ⟨S4x256, .f32⟩
  | 94 => ⟨S4096x1024, .f32⟩
  | 95 => ⟨S1x1024, .f32⟩
  | _ => ⟨S4096x256, .bf16⟩

abbrev hbmTy (i : Nat) : BufTy := match i / 128 with
  | 0 => hbmTy0_0 i
  | 1 => hbmTy0_1 i
  | _ => ⟨S4096x256, .bf16⟩

abbrev bufTy : (tb : Table) → Fin (tcTables nBuf tb) → BufTy
  | .hbm, ⟨i, _⟩ => hbmTy i
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_16 : Ref sig .tc := ⟨.hbm, 113, rfl⟩
abbrev main_v89 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_cst_19 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_20 : Ref sig .tc := ⟨.hbm, 133, rfl⟩
abbrev main_v105 : Ref sig .tc := ⟨.hbm, 134, rfl⟩
abbrev main_v106 : Ref sig .tc := ⟨.hbm, 135, rfl⟩
abbrev main_cst_21 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_22 : Ref sig .tc := ⟨.hbm, 141, rfl⟩
abbrev main_v111 : Ref sig .tc := ⟨.hbm, 142, rfl⟩
abbrev main_v112 : Ref sig .tc := ⟨.hbm, 143, rfl⟩
abbrev main_cst_23 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_24 : Ref sig .tc := ⟨.hbm, 150, rfl⟩
abbrev main_v118 : Ref sig .tc := ⟨.hbm, 151, rfl⟩
abbrev main_v119 : Ref sig .tc := ⟨.hbm, 152, rfl⟩
abbrev main_cst_25 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_26 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_27 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_28 : Ref sig .tc := ⟨.hbm, 170, rfl⟩
abbrev main_v134 : Ref sig .tc := ⟨.hbm, 171, rfl⟩
abbrev main_v135 : Ref sig .tc := ⟨.hbm, 172, rfl⟩
abbrev main_cst_29 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_30 : Ref sig .tc := ⟨.hbm, 179, rfl⟩
abbrev main_v141 : Ref sig .tc := ⟨.hbm, 180, rfl⟩
abbrev main_v142 : Ref sig .tc := ⟨.hbm, 181, rfl⟩
abbrev main_cst_31 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_32 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_33 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_34 : Ref sig .tc := ⟨.hbm, 199, rfl⟩
abbrev main_v157 : Ref sig .tc := ⟨.hbm, 200, rfl⟩
abbrev main_v158 : Ref sig .tc := ⟨.hbm, 201, rfl⟩
abbrev main_cst_35 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_36 : Ref sig .tc := ⟨.hbm, 208, rfl⟩
abbrev main_v164 : Ref sig .tc := ⟨.hbm, 209, rfl⟩
abbrev main_v165 : Ref sig .tc := ⟨.hbm, 210, rfl⟩
abbrev main_cst_37 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_38 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x256, .f32⟩
  | .local _ .vmem, ⟨5, _⟩ => ⟨S1024x256, .f32⟩
  | .local _ .vmem, ⟨6, _⟩ => ⟨S256x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4096x1024 : Shape := ⟨2, ![4096, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x256 : Shape := ⟨2, ![4096, 256]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x256, .f32⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S4096x5632 : Shape := ⟨2, ![4096, 5632]⟩
abbrev S1024x1024 : Shape := ⟨2, ![1024, 1024]⟩
abbrev S1024x2816 : Shape := ⟨2, ![1024, 2816]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S4096x1024, .bf16⟩
  | .hbm, ⟨6, _⟩ => ⟨S4096x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2816, .bf16⟩
  | .local _ .vmem, ⟨8, _⟩ => ⟨S1024x2816, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x5632, .f32⟩
  | .hbm, ⟨21, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel15.lean ====
abbrev S4096x1024 : Shape := ⟨2, ![4096, 1024]⟩
abbrev S1024 : Shape := ⟨1, ![1024]⟩
abbrev S1024x2304 : Shape := ⟨2, ![1024, 2304]⟩
abbrev S1x1024 : Shape := ⟨2, ![1, 1024]⟩
abbrev S4096x2304 : Shape := ⟨2, ![4096, 2304]⟩
abbrev S1024x1024 : Shape := ⟨2, ![1024, 1024]⟩
abbrev S1024x1152 : Shape := ⟨2, ![1024, 1152]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S1x1024, .f32⟩
  | .hbm, ⟨4, _⟩ => ⟨S1024x2304, .bf16⟩
  | .hbm, ⟨5, _⟩ => ⟨S4096x1024, .bf16⟩
  | .hbm, ⟨6, _⟩ => ⟨S4096x2304, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1152, .bf16⟩
  | .local _ .vmem, ⟨4, _⟩ => ⟨S1024x1152, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1152, .bf16⟩
  | .local _ .vmem, ⟨8, _⟩ => ⟨S1024x1152, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x1024 : Shape := ⟨2, ![4096, 1024]⟩
abbrev S1024 : Shape := ⟨1, ![1024]⟩
abbrev S1024x2304 : Shape := ⟨2, ![1024, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2304 : Shape := ⟨2, ![4096, 2304]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2304, .f32⟩
  | .hbm, ⟨21, _⟩ => ⟨S4096x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel16.lean ====
abbrev S2x2048x4x64 : Shape := ⟨4, ![2, 2048, 4, 64]⟩
abbrev S2x2048x2x64 : Shape := ⟨4, ![2, 2048, 2, 64]⟩
abbrev S2x2048x256 : Shape := ⟨3, ![2, 2048, 256]⟩
abbrev S_ : Shape := ⟨0, ![]⟩
abbrev S2x2048x128 : Shape := ⟨3, ![2, 2048, 128]⟩
abbrev S2x2048x512 : Shape := ⟨3, ![2, 2048, 512]⟩
abbrev S4096x512 : Shape := ⟨2, ![4096, 512]⟩
abbrev S1x256x256 : Shape := ⟨3, ![1, 256, 256]⟩
abbrev S1x2048x128 : Shape := ⟨3, ![1, 2048, 128]⟩
abbrev S256x256 : Shape := ⟨2, ![256, 256]⟩
abbrev S256x64 : Shape := ⟨2, ![256, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x256x64 : Shape := ⟨3, ![1, 256, 64]⟩

abbrev nBuf : Space → Nat
  | .hbm => 15
  | .vmem => 10
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S2x2048x256, .f32⟩
  | .hbm, ⟨4, _⟩ => ⟨S_, .f32⟩
  | .hbm, ⟨5, _⟩ => ⟨S2x2048x256, .f32⟩
  | .hbm, ⟨6, _⟩ => ⟨S2x2048x256, .f32⟩
  | .hbm, ⟨7, _⟩ => ⟨S2x2048x128, .f32⟩
  | .hbm, ⟨8, _⟩ => ⟨S2x2048x128, .f32⟩
  | .hbm, ⟨9, _⟩ => ⟨S2x2048x512, .f32⟩
  | .hbm, ⟨10, _⟩ => ⟨S2x2048x512, .bf16⟩
  | .hbm, ⟨11, _⟩ => ⟨S4096x512, .bf16⟩
  | .hbm, ⟨12, _⟩ => ⟨S2x2048x512, .bf16⟩
  | .hbm, ⟨13, _⟩ => ⟨S2x2048x256, .bf16⟩
  | .hbm, ⟨14, _⟩ => ⟨S2x2048x256, .f32⟩
  | .local _ .vmem, ⟨0, _⟩ => ⟨S1x256x256, .bf16⟩
  | .local _ .vmem, ⟨1, _⟩ => ⟨S1x256x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .f32⟩
  | .local _ .vmem, ⟨9, _⟩ => ⟨S1x256x256, .f32⟩
  | _, _ => ⟨S2x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S2x2048x4x64 : Shape := ⟨4, ![2, 2048, 4, 64]⟩
abbrev S2x2048x2x64 : Shape := ⟨4, ![2, 2048, 2, 64]⟩
abbrev S2x2048x2x2x64 : Shape := ⟨5, ![2, 2048, 2, 2, 64]⟩
abbrev S2x2x2048x2048x2 : Shape := ⟨5, ![2, 2, 2048, 2048, 2]⟩
abbrev S2x2x2x2048x2048 : Shape := ⟨5, ![2, 2, 2, 2048, 2048]⟩
abbrev S_ : Shape := ⟨0, ![]⟩
abbrev S2x2x2x2048 : Shape := ⟨4, ![2, 2, 2, 2048]⟩
abbrev S2x2x2x2048x1 : Shape := ⟨5, ![2, 2, 2, 2048, 1]⟩
abbrev S2x2x64x2x2048 : Shape := ⟨5, ![2, 2, 64, 2, 2048]⟩
abbrev S2x2048x256 : Shape := ⟨3, ![2, 2048, 256]⟩
abbrev S2x2048x2x2x1 : Shape := ⟨5, ![2, 2048, 2, 2, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x4x64, .f32⟩
  | .hbm, ⟨1, _⟩ => ⟨S2x2048x2x64, .f32⟩
  | .hbm, ⟨2, _⟩ => ⟨S2x2048x2x64, .f32⟩
  | .hbm, ⟨3, _⟩ => ⟨S2x2048x2x2x64, .f32⟩
  | .hbm, ⟨4, _⟩ => ⟨S2x2x2048x2048x2, .f32⟩
  | .hbm, ⟨5, _⟩ => ⟨S2x2x2x2048x2048, .f32⟩
  | .hbm, ⟨6, _⟩ => ⟨S_, .f32⟩
  | .hbm, ⟨7, _⟩ => ⟨S2x2x2x2048x2048, .f32⟩
  | .hbm, ⟨8, _⟩ => ⟨S2x2x2x2048x2048, .f32⟩
  | .hbm, ⟨9, _⟩ => ⟨S_, .f32⟩
  | .hbm, ⟨10, _⟩ => ⟨S2x2x2x2048, .f32⟩
  | .hbm, ⟨11, _⟩ => ⟨S_, .f32⟩
  | .hbm, ⟨12, _⟩ => ⟨S2x2x2x2048, .f32⟩
  | .hbm, ⟨13, _⟩ => ⟨S2x2x2x2048, .f32⟩
  | .hbm, ⟨14, _⟩ => ⟨S2x2x2x2048x1, .f32⟩
  | .hbm, ⟨15, _⟩ => ⟨S2x2x2x2048x2048, .f32⟩
  | .hbm, ⟨16, _⟩ => ⟨S2x2x2x2048x2048, .f32⟩
  | .hbm, ⟨17, _⟩ => ⟨S2x2x2x2048x2048, .f32⟩
  | .hbm, ⟨18, _⟩ => ⟨S_, .f32⟩
  | .hbm, ⟨19, _⟩ => ⟨S2x2x2x2048, .f32⟩
  | .hbm, ⟨20, _⟩ => ⟨S2x2x2x2048x1, .f32⟩
  | .hbm, ⟨21, _⟩ => ⟨S2x2x2x2048x2048, .f32⟩
  | .hbm, ⟨22, _⟩ => ⟨S2x2x2x2048x2048, .f32⟩
  | .hbm, ⟨23, _⟩ => ⟨S2x2x64x2x2048, .f32⟩
  | .hbm, ⟨24, _⟩ => ⟨S2x2048x2x2x64, .f32⟩
  | .hbm, ⟨25, _⟩ => ⟨S2x2048x256, .f32⟩
  | .hbm, ⟨26, _⟩ => ⟨S_, .f32⟩
  | .hbm, ⟨27, _⟩ => ⟨S2x2x2x2048, .f32⟩
  | .hbm, ⟨28, _⟩ => ⟨S2x2x2x2048x1, .f32⟩
  | .hbm, ⟨29, _⟩ => ⟨S2x2x2x2048x2048, .f32⟩
  | .hbm, ⟨30, _⟩ => ⟨S2x2x2x2048x2048, .f32⟩
  | .hbm, ⟨31, _⟩ => ⟨S2x2x2x2048x2048, .f32⟩
  | .hbm, ⟨32, _⟩ => ⟨S_, .f32⟩
  | .hbm, ⟨33, _⟩ => ⟨S2x2x2x2048, .f32⟩
  | .hbm, ⟨34, _⟩ => ⟨S2x2x2x2048x1, .f32⟩
  | .hbm, ⟨35, _⟩ => ⟨S2x2x2x2048x1, .f32⟩
  | .hbm, ⟨36, _⟩ => ⟨S2x2x2x2048x1, .f32⟩
  | .hbm, ⟨37, _⟩ => ⟨S2x2048x2x2x1, .f32⟩
  | .hbm, ⟨38, _⟩ => ⟨S2x2048x2x2x64, .f32⟩
  | .hbm, ⟨39, _⟩ => ⟨S2x2048x256, .f32⟩
  | .hbm, ⟨40, _⟩ => ⟨S2x2048x256, .bf16⟩
  | _, _ => ⟨S2x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Tile.lean ====
/- One grid point of the backward kernel: what its body leaves in the gradient of the queries, and what it adds to the
   two carried scratches (the transposed gradients of the keys and of the values), read at an index, over the arrays
   the kernel is given. Everything here is arithmetic of extended reals; nothing is assumed of the numbers. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.DenseBwd

open Cert.KernelIdeal Cert.KernelIdeal.Gen

/-! ## One tile, over the blocks that the point is given

`x0` is the tile of 128 scaled queries (four heads of 64 lanes), `x1` and `x2` the keys and values of the example (two
heads of 64 lanes, each read by two query heads), `x3` the tile of the output's gradient, `x4` the row log-sum and `x5`
the output's product with its gradient, both repeated over the lanes of a head. -/

section Tile

variable (x0 : FVec Ideal S1x128x256 .bf16) (x1 x2 : FVec Ideal S1x2048x128 .bf16) (x3 x4 x5 : FVec Ideal S1x128x256 .f32)

/-- The attention weight of key `j` for query row `r`, head `h`. -/
def tP (h : Fin 4) (r : Fin 128) (j : Fin 2048) : EReal :=
  Ideal.exp ((∑ d : Fin 64, x0 (ix3 0 r ⟨64 * h.val + d.val, by omega⟩) * x1 (ix3 0 j ⟨64 * (h.val / 2) + d.val, by omega⟩))
    - x4 (ix3 0 r ⟨64 * h.val, by omega⟩))

/-- The gradient of the scaled score of key `j` for query row `r`, head `h`. -/
def tS (h : Fin 4) (r : Fin 128) (j : Fin 2048) : EReal :=
  tP x0 x1 x4 h r j
    * ((∑ d : Fin 64, x3 (ix3 0 r ⟨64 * h.val + d.val, by omega⟩) * x2 (ix3 0 j ⟨64 * (h.val / 2) + d.val, by omega⟩))
      - x5 (ix3 0 r ⟨64 * h.val, by omega⟩))

/-- The gradient of component `d` of the scaled query in row `r`, head `h`. -/
def tDq (h : Fin 4) (r : Fin 128) (d : Fin 64) : EReal :=
  ∑ j : Fin 2048, tS x0 x1 x2 x3 x4 x5 h r j * x1 (ix3 0 j ⟨64 * (h.val / 2) + d.val, by omega⟩)

/-- What the tile's head `h` adds to component `d` of the gradient of key `j`. -/
def tDk (h : Fin 4) (d : Fin 64) (j : Fin 2048) : EReal :=
  ∑ r : Fin 128, x0 (ix3 0 r ⟨64 * h.val + d.val, by omega⟩) * tS x0 x1 x2 x3 x4 x5 h r j

/-- What the tile's head `h` adds to component `d` of the gradient of value `j`. -/
def tDv (h : Fin 4) (d : Fin 64) (j : Fin 2048) : EReal :=
  ∑ r : Fin 128, x3 (ix3 0 r ⟨64 * h.val + d.val, by omega⟩) * tP x0 x1 x4 h r j

end Tile

variable (m : (ℓ : Loc nD τ sig) → Buf (Elt Ideal) ℓ)

/-- The gradient of the queries that the first point of a sweep leaves in its block. -/
theorem dq_A (c : Dev nD) (t : Fin cfg0.N) (h0' : t.val % 16 = 0) (h1' : ¬t.val % 16 = 15) (y : S1x128x256.Idx)
    (hh : Fin 4) (d : Fin 64) (hl : (y 2 : ℕ) = 64 * hh.val + d.val) :
    (outsAt0 m c t.val t.isLt).1 y
      = tDq (iblk m c 0 t) (iblk m c 1 t) (iblk m c 2 t) (iblk m c 3 t) (iblk m c 4 t) (iblk m c 5 t) hh (y 1) d := by
  rw [outsAt0_A m c t h0' h1']
  frame_out
  canon_tiles x h
  all_goals
    open_payloads; pointwise [tDq, tS, tP]
    generalize iblk m c 0 t = x0, iblk m c 1 t = x1, iblk m c 2 t = x2, iblk m c 3 t = x3, iblk m c 4 t = x4, iblk m c 5 t = x5
    blk_point []

/-- The gradient of the queries that a middle point of a sweep leaves in its block. -/
theorem dq_B (c : Dev nD) (t : Fin cfg0.N) (h0' : ¬t.val % 16 = 0) (h1' : ¬t.val % 16 = 15) (y : S1x128x256.Idx)
    (hh : Fin 4) (d : Fin 64) (hl : (y 2 : ℕ) = 64 * hh.val + d.val) :
    (outsAt0 m c t.val t.isLt).1 y
      = tDq (iblk m c 0 t) (iblk m c 1 t) (iblk m c 2 t) (iblk m c 3 t) (iblk m c 4 t) (iblk m c 5 t) hh (y 1) d := by
  rw [outsAt0_B m c t h0' h1']
  frame_out
  canon_tiles x h
  all_goals
    open_payloads; pointwise [tDq, tS, tP]
    generalize iblk m c 0 t = x0, iblk m c 1 t = x1, iblk m c 2 t = x2, iblk m c 3 t = x3, iblk m c 4 t = x4, iblk m c 5 t = x5
    blk_point []

/-- The gradient of the queries that the last point of a sweep leaves in its block. -/
theorem dq_C (c : Dev nD) (t : Fin cfg0.N) (h0' : ¬t.val % 16 = 0) (h1' : t.val % 16 = 15) (y : S1x128x256.Idx)
    (hh : Fin 4) (d : Fin 64) (hl : (y 2 : ℕ) = 64 * hh.val + d.val) :
    (outsAt0 m c t.val t.isLt).1 y
      = tDq (iblk m c 0 t) (iblk m c 1 t) (iblk m c 2 t) (iblk m c 3 t) (iblk m c 4 t) (iblk m c 5 t) hh (y 1) d := by
  rw [outsAt0_C m c t h0' h1']
  frame_out
  canon_tiles x h
  all_goals
    open_payloads; pointwise [tDq, tS, tP]
    generalize iblk m c 0 t = x0, iblk m c 1 t = x1, iblk m c 2 t = x2, iblk m c 3 t = x3, iblk m c 4 t = x4, iblk m c 5 t = x5
    blk_point []

/-- The gradient of the queries that point `t` leaves in its block, whichever point of the sweep it is. -/
theorem dq_at (c : Dev nD) (t : Fin cfg0.N) (y : S1x128x256.Idx) (hh : Fin 4) (d : Fin 64) (hl : (y 2 : ℕ) = 64 * hh.val + d.val) :
    (outsAt0 m c t.val t.isLt).1 y
      = tDq (iblk m c 0 t) (iblk m c 1 t) (iblk m c 2 t) (iblk m c 3 t) (iblk m c 4 t) (iblk m c 5 t) hh (y 1) d := by
  by_cases h0 : t.val % 16 = 0
  · exact dq_A m c t h0 (by omega) y hh d hl
  · by_cases h1 : t.val % 16 = 15
    · exact dq_C m c t h0 h1 y hh d hl
    · exact dq_B m c t h0 h1 y hh d hl

end Cert.KernelIdeal.DenseBwd

end

end
-- ==== Proof.Blocks.lean ====
/- The blocks of a grid point are pieces of the four arrays, so each tile's share is a share of a gradient over the
   arrays. -/
module

public import proofs.«01_k».proof.Proof.Tile
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.DenseBwd

open Cert.KernelIdeal Cert.KernelIdeal.Gen

/-! ## The gradients over the four arrays that the kernel reads

`A` packs the scaled queries (columns 0–255), the keys (256–383) and the values (384–511) of both examples; `D` is the
gradient of the concatenated outputs (this attention's columns start at 768); `L` is the row log-sum and `E` the
output's product with its gradient, each repeated over the 64 lanes of its head. -/

section Arrays

variable (A : FVec Ideal S2x2048x512 .bf16) (D : FVec Ideal S2x2048x1024 .f32) (L E : FVec Ideal S2x2048x256 .f32)

/-- The attention weight of key `j` for query `i`, head `h`. -/
def aP (b : Fin 2) (i : Fin 2048) (h : Fin 4) (j : Fin 2048) : EReal :=
  Ideal.exp ((∑ d : Fin 64, A (ix3 b i ⟨64 * h.val + d.val, by omega⟩) * A (ix3 b j ⟨256 + 64 * (h.val / 2) + d.val, by omega⟩))
    - L (ix3 b i ⟨64 * h.val, by omega⟩))

/-- The gradient of the scaled score of key `j` for query `i`, head `h`. -/
def aS (b : Fin 2) (i : Fin 2048) (h : Fin 4) (j : Fin 2048) : EReal :=
  aP A L b i h j
    * ((∑ d : Fin 64, D (ix3 b i ⟨768 + 64 * h.val + d.val, by omega⟩) * A (ix3 b j ⟨384 + 64 * (h.val / 2) + d.val, by omega⟩))
      - E (ix3 b i ⟨64 * h.val, by omega⟩))

/-- The gradient of the scaled query: component `d` of head `h` of query `i`. -/
def aDq (b : Fin 2) (i : Fin 2048) (h : Fin 4) (d : Fin 64) : EReal :=
  ∑ j : Fin 2048, aS A D L E b i h j * A (ix3 b j ⟨256 + 64 * (h.val / 2) + d.val, by omega⟩)

/-- What tile `n` of head `h` adds to component `d` of the gradient of key `j`. -/
def aDk (b : Fin 2) (n : Fin 16) (h : Fin 4) (d : Fin 64) (j : Fin 2048) : EReal :=
  ∑ r : Fin 128, A (ix3 b ⟨n.val * 128 + r.val, by omega⟩ ⟨64 * h.val + d.val, by omega⟩)
    * aS A D L E b ⟨n.val * 128 + r.val, by omega⟩ h j

/-- What tile `n` of head `h` adds to component `d` of the gradient of value `j`. -/
def aDv (b : Fin 2) (n : Fin 16) (h : Fin 4) (d : Fin 64) (j : Fin 2048) : EReal :=
  ∑ r : Fin 128, D (ix3 b ⟨n.val * 128 + r.val, by omega⟩ ⟨768 + 64 * h.val + d.val, by omega⟩)
    * aP A L b ⟨n.val * 128 + r.val, by omega⟩ h j

end Arrays

/-- The blocks of point `t`: example `t / 16`, query tile `t % 16`; all the keys and values of the example. -/
theorem idx : ∀ t : Fin cfg0.N, win0_0.index t = ![t.val / 16, t.val % 16, 0] ∧ win0_1.index t = ![t.val / 16, 0, 2]
    ∧ win0_2.index t = ![t.val / 16, 0, 3] ∧ win0_3.index t = ![t.val / 16, t.val % 16, 3]
    ∧ win0_4.index t = ![t.val / 16, t.val % 16, 0] ∧ win0_5.index t = ![t.val / 16, t.val % 16, 0]
    ∧ win0_6.index t = ![t.val / 16, t.val % 16, 0] ∧ win0_7.index t = ![t.val / 16, 0, 0]
    ∧ win0_8.index t = ![t.val / 16, 0, 0] ∧ t.val / 16 < 2 :=
  (by decide +kernel : ∀ t : Fin grid0.N, _)

section Reads

variable (c : Dev nD) (W : (b : Ref sig .tc) → Buf (Elt Ideal) ((c : Thread nD τ).loc b)) (t : Fin cfg0.N)

/-- Window 0's block at point `t` is the scaled queries there, whatever the arrays hold. -/
theorem read0 (r : Fin 128) (l : Fin 256) (b : Fin 2) (i : Fin 2048) (l' : Fin 512)
    (hb : b.val = t.val / 16) (hi : i.val = (t.val % 16) * 128 + r.val) (hl : l'.val = l.val) :
    (show FVec Ideal S1x128x256 .bf16 from ((cfg0.win 0).blk t).view.read (Elt Ideal) (W (Pipeline.arrRef spec0 0))) (ix3 0 r l)
      = (show FVec Ideal S2x2048x512 .bf16 from W main_v40) (ix3 b i l') := by
  blk_ext [idx t]

/-- Window 1's block at point `t` is the keys there, whatever the arrays hold. -/
theorem read1 (r : Fin 2048) (l : Fin 128) (b : Fin 2) (i : Fin 2048) (l' : Fin 512)
    (hb : b.val = t.val / 16) (hi : i.val = r.val) (hl : l'.val = 256 + l.val) :
    (show FVec Ideal S1x2048x128 .bf16 from ((cfg0.win 1).blk t).view.read (Elt Ideal) (W (Pipeline.arrRef spec0 1))) (ix3 0 r l)
      = (show FVec Ideal S2x2048x512 .bf16 from W main_v40) (ix3 b i l') := by
  blk_ext [idx t]

/-- Window 2's block at point `t` is the values there, whatever the arrays hold. -/
theorem read2 (r : Fin 2048) (l : Fin 128) (b : Fin 2) (i : Fin 2048) (l' : Fin 512)
    (hb : b.val = t.val / 16) (hi : i.val = r.val) (hl : l'.val = 384 + l.val) :
    (show FVec Ideal S1x2048x128 .bf16 from ((cfg0.win 2).blk t).view.read (Elt Ideal) (W (Pipeline.arrRef spec0 2))) (ix3 0 r l)
      = (show FVec Ideal S2x2048x512 .bf16 from W main_v40) (ix3 b i l') := by
  blk_ext [idx t]

/-- Window 3's block at point `t` is the output's gradient there, whatever the arrays hold. -/
theorem read3 (r : Fin 128) (l : Fin 256) (b : Fin 2) (i : Fin 2048) (l' : Fin 1024)
    (hb : b.val = t.val / 16) (hi : i.val = (t.val % 16) * 128 + r.val) (hl : l'.val = 768 + l.val) :
    (show FVec Ideal S1x128x256 .f32 from ((cfg0.win 3).blk t).view.read (Elt Ideal) (W (Pipeline.arrRef spec0 3))) (ix3 0 r l)
      = (show FVec Ideal S2x2048x1024 .f32 from W main_v41) (ix3 b i l') := by
  blk_ext [idx t]

/-- Window 4's block at point `t` is the row log-sum there, whatever the arrays hold. -/
theorem read4 (r : Fin 128) (l : Fin 256) (b : Fin 2) (i : Fin 2048) (l' : Fin 256)
    (hb : b.val = t.val / 16) (hi : i.val = (t.val % 16) * 128 + r.val) (hl : l'.val = l.val) :
    (show FVec Ideal S1x128x256 .f32 from ((cfg0.win 4).blk t).view.read (Elt Ideal) (W (Pipeline.arrRef spec0 4))) (ix3 0 r l)
      = (show FVec Ideal S2x2048x256 .f32 from W main_v42) (ix3 b i l') := by
  blk_ext [idx t]

/-- Window 5's block at point `t` is the output's product with its gradient there, whatever the arrays hold. -/
theorem read5 (r : Fin 128) (l : Fin 256) (b : Fin 2) (i : Fin 2048) (l' : Fin 256)
    (hb : b.val = t.val / 16) (hi : i.val = (t.val % 16) * 128 + r.val) (hl : l'.val = l.val) :
    (show FVec Ideal S1x128x256 .f32 from ((cfg0.win 5).blk t).view.read (Elt Ideal) (W (Pipeline.arrRef spec0 5))) (ix3 0 r l)
      = (show FVec Ideal S2x2048x256 .f32 from W main_v43) (ix3 b i l') := by
  blk_ext [idx t]

end Reads

variable (m : (ℓ : Loc nD τ sig) → Buf (Elt Ideal) ℓ) (c : Dev nD)

/-- The packed queries, keys and values as the kernel finds them. -/
def arrA : FVec Ideal S2x2048x512 .bf16 := V m c main_v40
/-- The gradient of the concatenated outputs as the kernel finds it. -/
def arrD : FVec Ideal S2x2048x1024 .f32 := V m c main_v41
/-- The row log-sum as the kernel finds it. -/
def arrL : FVec Ideal S2x2048x256 .f32 := V m c main_v42
/-- The output's product with its gradient as the kernel finds it. -/
def arrE : FVec Ideal S2x2048x256 .f32 := V m c main_v43

variable (t : Fin cfg0.N) (b : Fin 2) (n : Fin 16) (hb : b.val = t.val / 16) (hn : n.val = t.val % 16)
include hb hn

theorem tP_eq (h : Fin 4) (r : Fin 128) (j : Fin 2048) :
    tP (iblk m c 0 t) (iblk m c 1 t) (iblk m c 4 t) h r j
      = aP (arrA m c) (arrL m c) b ⟨n.val * 128 + r.val, by omega⟩ h j := by
  unfold tP aP
  refine congrArg₂ (fun x y : EReal => Ideal.exp (x - y)) ?_ ?_
  · refine Finset.sum_congr rfl fun d _ => ?_
    exact congrArg₂ (fun x y : EReal => x * y) (read0 c (V m c) t r _ b _ _ hb (by simp only [hn]) rfl)
      (read1 c (V m c) t j _ b j _ hb rfl (by simp only []; omega))
  · exact read4 c (V m c) t r _ b _ _ hb (by simp only [hn]) rfl

theorem tS_eq (h : Fin 4) (r : Fin 128) (j : Fin 2048) :
    tS (iblk m c 0 t) (iblk m c 1 t) (iblk m c 2 t) (iblk m c 3 t) (iblk m c 4 t) (iblk m c 5 t) h r j
      = aS (arrA m c) (arrD m c) (arrL m c) (arrE m c) b ⟨n.val * 128 + r.val, by omega⟩ h j := by
  unfold tS aS
  refine congrArg₂ (fun x y : EReal => x * y) (tP_eq m c t b n hb hn h r j) (congrArg₂ (fun x y : EReal => x - y) ?_ ?_)
  · refine Finset.sum_congr rfl fun d _ => ?_
    exact congrArg₂ (fun x y : EReal => x * y) (read3 c (V m c) t r _ b _ _ hb (by simp only [hn]) (by simp only []; omega))
      (read2 c (V m c) t j _ b j _ hb rfl (by simp only []; omega))
  · exact read5 c (V m c) t r _ b _ _ hb (by simp only [hn]) rfl

/-- A tile's gradient of the queries is the gradient of those queries. -/
theorem tDq_eq (h : Fin 4) (r : Fin 128) (d : Fin 64) :
    tDq (iblk m c 0 t) (iblk m c 1 t) (iblk m c 2 t) (iblk m c 3 t) (iblk m c 4 t) (iblk m c 5 t) h r d
      = aDq (arrA m c) (arrD m c) (arrL m c) (arrE m c) b ⟨n.val * 128 + r.val, by omega⟩ h d := by
  unfold tDq aDq
  refine Finset.sum_congr rfl fun j _ => ?_
  rw [tS_eq m c t b n hb hn]
  exact congrArg (fun y : EReal => _ * y) (read1 c (V m c) t j _ b j _ hb rfl (by simp only []; omega))

/-- A tile's share of the keys' gradient. -/
theorem tDk_eq (h : Fin 4) (d : Fin 64) (j : Fin 2048) :
    tDk (iblk m c 0 t) (iblk m c 1 t) (iblk m c 2 t) (iblk m c 3 t) (iblk m c 4 t) (iblk m c 5 t) h d j
      = aDk (arrA m c) (arrD m c) (arrL m c) (arrE m c) b n h d j := by
  unfold tDk aDk
  refine Finset.sum_congr rfl fun r _ => ?_
  rw [tS_eq m c t b n hb hn]
  exact congrArg (fun y : EReal => y * _) (read0 c (V m c) t r _ b _ _ hb (by simp only [hn]) rfl)

/-- A tile's share of the values' gradient. -/
theorem tDv_eq (h : Fin 4) (d : Fin 64) (j : Fin 2048) :
    tDv (iblk m c 0 t) (iblk m c 1 t) (iblk m c 3 t) (iblk m c 4 t) h d j
      = aDv (arrA m c) (arrD m c) (arrL m c) b n h d j := by
  unfold tDv aDv
  refine Finset.sum_congr rfl fun r _ => ?_
  rw [tP_eq m c t b n hb hn]
  exact congrArg (fun y : EReal => y * _) (read3 c (V m c) t r _ b _ _ hb (by simp only [hn]) (by simp only []; omega))

end Cert.KernelIdeal.DenseBwd

end

end
-- ==== Proof.Sums.lean ====
/- What a middle point and the last point of a sweep leave in the two carried scratches: what they found, and the share
   of their tile. -/
module

public import proofs.«01_k».proof.Proof.Tile
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.DenseBwd

open Cert.KernelIdeal Cert.KernelIdeal.Gen

variable (m : (ℓ : Loc nD τ sig) → Buf (Elt Ideal) ℓ)

/-- What a middle point of a sweep leaves in the scratch of the keys' gradient. -/
theorem dk_B (c : Dev nD) (t : Fin cfg0.N) (h0' : ¬t.val % 16 = 0) (h1' : ¬t.val % 16 = 15) (y : S128x2048.Idx)
    (g : Fin 2) (d : Fin 64) (hl : (y 0 : ℕ) = 64 * g.val + d.val) :
    (outsAt0 m c t.val t.isLt).2.2.2.1 y
      = (outsAt0 m c (t.val - 1) (Nat.lt_of_le_of_lt (Nat.sub_le _ _) t.isLt)).2.2.2.1 y
        + (tDk (iblk m c 0 t) (iblk m c 1 t) (iblk m c 2 t) (iblk m c 3 t) (iblk m c 4 t) (iblk m c 5 t) ⟨2 * g.val, by omega⟩ d (y 1)
         + tDk (iblk m c 0 t) (iblk m c 1 t) (iblk m c 2 t) (iblk m c 3 t) (iblk m c 4 t) (iblk m c 5 t) ⟨2 * g.val + 1, by omega⟩ d (y 1)) := by
  rw [outsAt0_B m c t h0' h1']
  frame_out
  canon_tiles x h
  all_goals
    open_payloads; rw [read_unread_whole]; pointwise [tDk, tS, tP]
    generalize iblk m c 0 t = x0, iblk m c 1 t = x1, iblk m c 2 t = x2, iblk m c 3 t = x3, iblk m c 4 t = x4, iblk m c 5 t = x5
    blk_point []

/-- What a middle point of a sweep leaves in the scratch of the values' gradient. -/
theorem dv_B (c : Dev nD) (t : Fin cfg0.N) (h0' : ¬t.val % 16 = 0) (h1' : ¬t.val % 16 = 15) (y : S128x2048.Idx)
    (g : Fin 2) (d : Fin 64) (hl : (y 0 : ℕ) = 64 * g.val + d.val) :
    (outsAt0 m c t.val t.isLt).2.2.2.2 y
      = (outsAt0 m c (t.val - 1) (Nat.lt_of_le_of_lt (Nat.sub_le _ _) t.isLt)).2.2.2.2 y
        + (tDv (iblk m c 0 t) (iblk m c 1 t) (iblk m c 3 t) (iblk m c 4 t) ⟨2 * g.val, by omega⟩ d (y 1)
         + tDv (iblk m c 0 t) (iblk m c 1 t) (iblk m c 3 t) (iblk m c 4 t) ⟨2 * g.val + 1, by omega⟩ d (y 1)) := by
  rw [outsAt0_B m c t h0' h1']
  frame_out
  canon_tiles x h
  all_goals
    open_payloads; rw [read_unread_whole]; pointwise [tDv, tP]
    generalize iblk m c 0 t = x0, iblk m c 1 t = x1, iblk m c 3 t = x3, iblk m c 4 t = x4
    blk_point []

/-- What the last point of a sweep leaves in the scratch of the keys' gradient. -/
theorem dk_C (c : Dev nD) (t : Fin cfg0.N) (h0' : ¬t.val % 16 = 0) (h1' : t.val % 16 = 15) (y : S128x2048.Idx)
    (g : Fin 2) (d : Fin 64) (hl : (y 0 : ℕ) = 64 * g.val + d.val) :
    (outsAt0 m c t.val t.isLt).2.2.2.1 y
      = (outsAt0 m c (t.val - 1) (Nat.lt_of_le_of_lt (Nat.sub_le _ _) t.isLt)).2.2.2.1 y
        + (tDk (iblk m c 0 t) (iblk m c 1 t) (iblk m c 2 t) (iblk m c 3 t) (iblk m c 4 t) (iblk m c 5 t) ⟨2 * g.val, by omega⟩ d (y 1)
         + tDk (iblk m c 0 t) (iblk m c 1 t) (iblk m c 2 t) (iblk m c 3 t) (iblk m c 4 t) (iblk m c 5 t) ⟨2 * g.val + 1, by omega⟩ d (y 1)) := by
  rw [outsAt0_C m c t h0' h1']
  frame_out
  canon_tiles x h
  all_goals
    open_payloads; rw [read_unread_whole]; pointwise [tDk, tS, tP]
    generalize iblk m c 0 t = x0, iblk m c 1 t = x1, iblk m c 2 t = x2, iblk m c 3 t = x3, iblk m c 4 t = x4, iblk m c 5 t = x5
    blk_point []

/-- What the last point of a sweep leaves in the scratch of the values' gradient. -/
theorem dv_C (c : Dev nD) (t : Fin cfg0.N) (h0' : ¬t.val % 16 = 0) (h1' : t.val % 16 = 15) (y : S128x2048.Idx)
    (g : Fin 2) (d : Fin 64) (hl : (y 0 : ℕ) = 64 * g.val + d.val) :
    (outsAt0 m c t.val t.isLt).2.2.2.2 y
      = (outsAt0 m c (t.val - 1) (Nat.lt_of_le_of_lt (Nat.sub_le _ _) t.isLt)).2.2.2.2 y
        + (tDv (iblk m c 0 t) (iblk m c 1 t) (iblk m c 3 t) (iblk m c 4 t) ⟨2 * g.val, by omega⟩ d (y 1)
         + tDv (iblk m c 0 t) (iblk m c 1 t) (iblk m c 3 t) (iblk m c 4 t) ⟨2 * g.val + 1, by omega⟩ d (y 1)) := by
  rw [outsAt0_C m c t h0' h1']
  frame_out
  canon_tiles x h
  all_goals
    open_payloads; rw [read_unread_whole]; pointwise [tDv, tP]
    generalize iblk m c 0 t = x0, iblk m c 1 t = x1, iblk m c 3 t = x3, iblk m c 4 t = x4
    blk_point []

end Cert.KernelIdeal.DenseBwd

end

end
-- ==== Proof.First.lean ====
/- What the first point of a sweep leaves in the two carried scratches: the share of its tile, over the zeros that it
   stored there first. -/
module

public import proofs.«01_k».proof.Proof.Tile
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.DenseBwd

open Cert.KernelIdeal Cert.KernelIdeal.Gen

variable (m : (ℓ : Loc nD τ sig) → Buf (Elt Ideal) ℓ)

/-- Two stores that together hold `y` hide whatever was stored before them. -/
theorem canon_two_over {S : Shape} {e : EltTy} {Val : EltTy → Type} [∀ e, Nonempty (Val e)] (p q : View.Piece Val S e)
    (L : List (View.Piece Val S e)) (y : S.Idx) (h : ∃ r ∈ [p, q], y ∈ r.1.set) :
    View.canon (p :: q :: L) y = View.canon [p, q] y := by
  by_cases hp : y ∈ p.1.set
  · obtain ⟨x, rfl⟩ := p.1.exists_idx_of_mem hp
    exact (View.canon_cons_emb p.1 p.2 (q :: L) x).trans (View.canon_cons_emb p.1 p.2 [q] x).symm
  · rw [View.canon_cons_of_not_mem p _ hp, View.canon_cons_of_not_mem p _ hp]
    have hq : y ∈ q.1.set := by
      obtain ⟨r, hr, hy⟩ := h
      rcases List.mem_cons.mp hr with rfl | hr
      · exact absurd hy hp
      · rw [List.mem_singleton.mp hr] at hy; exact hy
    obtain ⟨x, rfl⟩ := q.1.exists_idx_of_mem hq
    exact (View.canon_cons_emb q.1 q.2 L x).trans (View.canon_cons_emb q.1 q.2 [] x).symm

/-- What the first point of a sweep leaves in the scratch of the keys' gradient. -/
theorem dk_A (c : Dev nD) (t : Fin cfg0.N) (h0' : t.val % 16 = 0) (h1' : ¬t.val % 16 = 15) (y : S128x2048.Idx)
    (g : Fin 2) (d : Fin 64) (hl : (y 0 : ℕ) = 64 * g.val + d.val) :
    (outsAt0 m c t.val t.isLt).2.2.2.1 y
      = 0
        + (tDk (iblk m c 0 t) (iblk m c 1 t) (iblk m c 2 t) (iblk m c 3 t) (iblk m c 4 t) (iblk m c 5 t) ⟨2 * g.val, by omega⟩ d (y 1)
         + tDk (iblk m c 0 t) (iblk m c 1 t) (iblk m c 2 t) (iblk m c 3 t) (iblk m c 4 t) (iblk m c 5 t) ⟨2 * g.val + 1, by omega⟩ d (y 1)) := by
  rw [outsAt0_A m c t h0' h1']
  frame_open
  simp (disch := decide) only [↓ View.readCov_skip, ↓ View.readCov_cons_toLoadRect, ↓ View.readCov_fill]
  frame_out
  rw [canon_two_over _ _ _ _ (View.cover_of_tiled_head _ _ _ (by rfl) y)]
  canon_tiles x h
  all_goals
    open_payloads; pointwise [tDk, tS, tP, k0_pay4]
    generalize iblk m c 0 t = x0, iblk m c 1 t = x1, iblk m c 2 t = x2, iblk m c 3 t = x3, iblk m c 4 t = x4, iblk m c 5 t = x5
    blk_point []

/-- What the first point of a sweep leaves in the scratch of the values' gradient. -/
theorem dv_A (c : Dev nD) (t : Fin cfg0.N) (h0' : t.val % 16 = 0) (h1' : ¬t.val % 16 = 15) (y : S128x2048.Idx)
    (g : Fin 2) (d : Fin 64) (hl : (y 0 : ℕ) = 64 * g.val + d.val) :
    (outsAt0 m c t.val t.isLt).2.2.2.2 y
      = 0
        + (tDv (iblk m c 0 t) (iblk m c 1 t) (iblk m c 3 t) (iblk m c 4 t) ⟨2 * g.val, by omega⟩ d (y 1)
         + tDv (iblk m c 0 t) (iblk m c 1 t) (iblk m c 3 t) (iblk m c 4 t) ⟨2 * g.val + 1, by omega⟩ d (y 1)) := by
  rw [outsAt0_A m c t h0' h1']
  frame_open
  simp (disch := decide) only [↓ View.readCov_skip, ↓ View.readCov_cons_toLoadRect, ↓ View.readCov_fill]
  frame_out
  rw [canon_two_over _ _ _ _ (View.cover_of_tiled_head _ _ _ (by rfl) y)]
  canon_tiles x h
  all_goals
    open_payloads; pointwise [tDv, tP, k0_pay5]
    generalize iblk m c 0 t = x0, iblk m c 1 t = x1, iblk m c 3 t = x3, iblk m c 4 t = x4
    blk_point []

end Cert.KernelIdeal.DenseBwd

end

end
-- ==== Proof.Last.lean ====
/- The last point of a sweep copies the two carried scratches, transposed, into the gradients of the keys and of the
   values. -/
module

public import proofs.«01_k».proof.Proof.Tile
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.DenseBwd

open Cert.KernelIdeal Cert.KernelIdeal.Gen

variable (m : (ℓ : Loc nD τ sig) → Buf (Elt Ideal) ℓ)

/-- The last point's copy: scratch row `l`, lane `j`, lands in row `j`, lane `l`. -/
theorem pay2_at (Z : FVec Ideal S128x2048 .f32) (j : Fin 2048) (l : Fin 128) : (k0_pay2 (F := Ideal) Z (ix3 0 j l) : EReal) = Z (ix2 l j) := by
  pointwise [k0_pay2]

/-- The last point's copy: scratch row `l`, lane `j`, lands in row `j`, lane `l`. -/
theorem pay3_at (Z : FVec Ideal S128x2048 .f32) (j : Fin 2048) (l : Fin 128) : (k0_pay3 (F := Ideal) Z (ix3 0 j l) : EReal) = Z (ix2 l j) := by
  pointwise [k0_pay3]

/-- At the last point of a sweep the block of the keys' gradient is the scratch, transposed. -/
theorem out7 (c : Dev nD) (t : Fin cfg0.N) (h0' : ¬t.val % 16 = 0) (h1' : t.val % 16 = 15) (j : Fin 2048) (l : Fin 128) :
    (outsAt0 m c t.val t.isLt).2.1 (ix3 0 j l) = (outsAt0 m c t.val t.isLt).2.2.2.1 (ix2 l j) := by
  rw [outsAt0_C m c t h0' h1']
  frame_out
  rw [View.readCov_eq_canon_ld _ _ _ (View.cover_of_tiled_head _ _ _ (by rfl)), View.ld_unit_lit (h := by decide)]
  exact pay2_at _ j l

/-- At the last point of a sweep the block of the values' gradient is the scratch, transposed. -/
theorem out8 (c : Dev nD) (t : Fin cfg0.N) (h0' : ¬t.val % 16 = 0) (h1' : t.val % 16 = 15) (j : Fin 2048) (l : Fin 128) :
    (outsAt0 m c t.val t.isLt).2.2.1 (ix3 0 j l) = (outsAt0 m c t.val t.isLt).2.2.2.2 (ix2 l j) := by
  rw [outsAt0_C m c t h0' h1']
  frame_out
  rw [View.readCov_eq_canon_ld _ _ _ (View.cover_of_tiled_head _ _ _ (by rfl)), View.ld_unit_lit (h := by decide)]
  exact pay3_at _ j l

end Cert.KernelIdeal.DenseBwd

end

end
-- ==== Proof.Arrays.lean ====
/- The three arrays after the run: the gradient of the queries row by row, and the gradients of the keys and of the
   values as sums over the sixteen query tiles. -/
module

public import proofs.«01_k».proof.Proof.Blocks
public import proofs.«01_k».proof.Proof.Sums
public import proofs.«01_k».proof.Proof.First
public import proofs.«01_k».proof.Proof.Last
public import proofs.«01_k».proof.Proof.Gen.KernelIdeal.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.DenseBwd

open Cert.KernelIdeal Cert.KernelIdeal.Gen

section Arrays

variable (A : FVec Ideal S2x2048x512 .bf16) (D : FVec Ideal S2x2048x1024 .f32) (L E : FVec Ideal S2x2048x256 .f32)

/-- The gradient of the scaled queries. -/
def dqArr : FVec Ideal S2x2048x256 .bf16 := fun i =>
  aDq A D L E (i 0) (i 1) ⟨(i 2 : ℕ) / 64, Nat.div_lt_of_lt_mul (i 2).isLt⟩ ⟨(i 2 : ℕ) % 64, Nat.mod_lt _ (by decide)⟩

/-- The gradient of the keys: every tile's share, over the two query heads that read the key head. -/
def dkArr : FVec Ideal S2x2048x128 .bf16 := fun i =>
  ∑ n : Fin 16, (aDk A D L E (i 0) n ⟨2 * ((i 2 : ℕ) / 64), by have : (i 2 : ℕ) < 128 := (i 2).isLt; omega⟩ ⟨(i 2 : ℕ) % 64, Nat.mod_lt _ (by decide)⟩ (i 1)
    + aDk A D L E (i 0) n ⟨2 * ((i 2 : ℕ) / 64) + 1, by have : (i 2 : ℕ) < 128 := (i 2).isLt; omega⟩ ⟨(i 2 : ℕ) % 64, Nat.mod_lt _ (by decide)⟩ (i 1))

/-- The gradient of the values: every tile's share, over the two query heads that read the value head. -/
def dvArr : FVec Ideal S2x2048x128 .bf16 := fun i =>
  ∑ n : Fin 16, (aDv A D L (i 0) n ⟨2 * ((i 2 : ℕ) / 64), by have : (i 2 : ℕ) < 128 := (i 2).isLt; omega⟩ ⟨(i 2 : ℕ) % 64, Nat.mod_lt _ (by decide)⟩ (i 1)
    + aDv A D L (i 0) n ⟨2 * ((i 2 : ℕ) / 64) + 1, by have : (i 2 : ℕ) < 128 := (i 2).isLt; omega⟩ ⟨(i 2 : ℕ) % 64, Nat.mod_lt _ (by decide)⟩ (i 1))

end Arrays

section At

variable (A : FVec Ideal S2x2048x512 .bf16) (D : FVec Ideal S2x2048x1024 .f32) (L E : FVec Ideal S2x2048x256 .f32)

/-- The gradient of the queries at an index whose coordinates are known. -/
theorem dqArr_at (i : S2x2048x256.Idx) (b : Fin 2) (q : Fin 2048) (h : Fin 4) (d : Fin 64)
    (h0 : (i 0 : ℕ) = b.val) (h1 : (i 1 : ℕ) = q.val) (h2 : (i 2 : ℕ) = 64 * h.val + d.val) :
    dqArr A D L E i = aDq A D L E b q h d :=
  congr (congr (congr (congrArg (aDq A D L E) (Fin.ext h0)) (Fin.ext h1)) (Fin.ext (by simp only []; omega)))
    (Fin.ext (by simp only []; omega))

/-- The gradient of the keys at an index whose coordinates are known. -/
theorem dkArr_at (i : S2x2048x128.Idx) (b : Fin 2) (j : Fin 2048) (g : Fin 2) (d : Fin 64)
    (h0 : (i 0 : ℕ) = b.val) (h1 : (i 1 : ℕ) = j.val) (h2 : (i 2 : ℕ) = 64 * g.val + d.val) :
    dkArr A D L E i = ∑ n : Fin 16, (aDk A D L E b n ⟨2 * g.val, by omega⟩ d j + aDk A D L E b n ⟨2 * g.val + 1, by omega⟩ d j) := by
  have e0 : (i 0 : Fin 2) = b := Fin.ext h0
  have e1 : (i 1 : Fin 2048) = j := Fin.ext h1
  refine Finset.sum_congr rfl fun n _ => congrArg₂ (fun x y : EReal => x + y) ?_ ?_
  · exact congr (congr (congr (congr (congrArg (aDk A D L E) e0) rfl) (Fin.ext (by simp only []; omega))) (Fin.ext (by simp only []; omega))) e1
  · exact congr (congr (congr (congr (congrArg (aDk A D L E) e0) rfl) (Fin.ext (by simp only []; omega))) (Fin.ext (by simp only []; omega))) e1

/-- The gradient of the values at an index whose coordinates are known. -/
theorem dvArr_at (i : S2x2048x128.Idx) (b : Fin 2) (j : Fin 2048) (g : Fin 2) (d : Fin 64)
    (h0 : (i 0 : ℕ) = b.val) (h1 : (i 1 : ℕ) = j.val) (h2 : (i 2 : ℕ) = 64 * g.val + d.val) :
    dvArr A D L i = ∑ n : Fin 16, (aDv A D L b n ⟨2 * g.val, by omega⟩ d j + aDv A D L b n ⟨2 * g.val + 1, by omega⟩ d j) := by
  have e0 : (i 0 : Fin 2) = b := Fin.ext h0
  have e1 : (i 1 : Fin 2048) = j := Fin.ext h1
  refine Finset.sum_congr rfl fun n _ => congrArg₂ (fun x y : EReal => x + y) ?_ ?_
  · exact congr (congr (congr (congr (congrArg (aDv A D L) e0) rfl) (Fin.ext (by simp only []; omega))) (Fin.ext (by simp only []; omega))) e1
  · exact congr (congr (congr (congr (congrArg (aDv A D L) e0) rfl) (Fin.ext (by simp only []; omega))) (Fin.ext (by simp only []; omega))) e1

end At

variable (m : (ℓ : Loc nD τ sig) → Buf (Elt Ideal) ℓ) (c : Dev nD)

/-- A point's share of the keys' gradient at scratch index `y`. -/
def dkTerm (t : Fin cfg0.N) (y : S128x2048.Idx) : EReal :=
  tDk (iblk m c 0 t) (iblk m c 1 t) (iblk m c 2 t) (iblk m c 3 t) (iblk m c 4 t) (iblk m c 5 t)
      ⟨2 * ((y 0 : ℕ) / 64), by have : (y 0 : ℕ) < 128 := (y 0).isLt; omega⟩ ⟨(y 0 : ℕ) % 64, Nat.mod_lt _ (by decide)⟩ (y 1)
    + tDk (iblk m c 0 t) (iblk m c 1 t) (iblk m c 2 t) (iblk m c 3 t) (iblk m c 4 t) (iblk m c 5 t)
      ⟨2 * ((y 0 : ℕ) / 64) + 1, by have : (y 0 : ℕ) < 128 := (y 0).isLt; omega⟩ ⟨(y 0 : ℕ) % 64, Nat.mod_lt _ (by decide)⟩ (y 1)

/-- A point's share of the values' gradient at scratch index `y`. -/
def dvTerm (t : Fin cfg0.N) (y : S128x2048.Idx) : EReal :=
  tDv (iblk m c 0 t) (iblk m c 1 t) (iblk m c 3 t) (iblk m c 4 t)
      ⟨2 * ((y 0 : ℕ) / 64), by have : (y 0 : ℕ) < 128 := (y 0).isLt; omega⟩ ⟨(y 0 : ℕ) % 64, Nat.mod_lt _ (by decide)⟩ (y 1)
    + tDv (iblk m c 0 t) (iblk m c 1 t) (iblk m c 3 t) (iblk m c 4 t)
      ⟨2 * ((y 0 : ℕ) / 64) + 1, by have : (y 0 : ℕ) < 128 := (y 0).isLt; omega⟩ ⟨(y 0 : ℕ) % 64, Nat.mod_lt _ (by decide)⟩ (y 1)

/-- The scratch of the keys' gradient after a sweep's last point: the sum of the sixteen tiles' shares. -/
theorem dk_sum (t : Fin cfg0.N) (ht : t.val % 16 = 15) (y : S128x2048.Idx) :
    ((outsAt0 m c t.val t.isLt).2.2.2.1 y : EReal)
      = ∑ s : Fin 16, dkTerm m c ⟨16 * (t.val / 16) + s.val, Pipeline.run_point_lt_of_flush t ht s⟩ y := by
  have hy : (y 0 : ℕ) < 128 := (y 0).isLt
  have h := Pipeline.eq_sum_fin_of_reset_step_apply_of_flush (M := EReal) (fun n h => (outsAt0 m c n h).2.2.2.1) 16 (fun _ => 0)
    (fun t y => dkTerm m c t y)
    (fun t h0 y => by
      have hy : (y 0 : ℕ) < 128 := (y 0).isLt
      exact dk_A m c t h0 (by omega) y ⟨(y 0 : ℕ) / 64, by omega⟩ ⟨(y 0 : ℕ) % 64, Nat.mod_lt _ (by decide)⟩ (by simp only []; omega))
    (fun t h0 y => by
      have hy : (y 0 : ℕ) < 128 := (y 0).isLt
      by_cases h1 : t.val % 16 = 15
      · exact dk_C m c t h0 h1 y ⟨(y 0 : ℕ) / 64, by omega⟩ ⟨(y 0 : ℕ) % 64, Nat.mod_lt _ (by decide)⟩ (by simp only []; omega)
      · exact dk_B m c t h0 h1 y ⟨(y 0 : ℕ) / 64, by omega⟩ ⟨(y 0 : ℕ) % 64, Nat.mod_lt _ (by decide)⟩ (by simp only []; omega))
    t ht y
  rw [zero_add] at h
  exact h

/-- The scratch of the values' gradient after a sweep's last point: the sum of the sixteen tiles' shares. -/
theorem dv_sum (t : Fin cfg0.N) (ht : t.val % 16 = 15) (y : S128x2048.Idx) :
    ((outsAt0 m c t.val t.isLt).2.2.2.2 y : EReal)
      = ∑ s : Fin 16, dvTerm m c ⟨16 * (t.val / 16) + s.val, Pipeline.run_point_lt_of_flush t ht s⟩ y := by
  have hy : (y 0 : ℕ) < 128 := (y 0).isLt
  have h := Pipeline.eq_sum_fin_of_reset_step_apply_of_flush (M := EReal) (fun n h => (outsAt0 m c n h).2.2.2.2) 16 (fun _ => 0)
    (fun t y => dvTerm m c t y)
    (fun t h0 y => by
      have hy : (y 0 : ℕ) < 128 := (y 0).isLt
      exact dv_A m c t h0 (by omega) y ⟨(y 0 : ℕ) / 64, by omega⟩ ⟨(y 0 : ℕ) % 64, Nat.mod_lt _ (by decide)⟩ (by simp only []; omega))
    (fun t h0 y => by
      have hy : (y 0 : ℕ) < 128 := (y 0).isLt
      by_cases h1 : t.val % 16 = 15
      · exact dv_C m c t h0 h1 y ⟨(y 0 : ℕ) / 64, by omega⟩ ⟨(y 0 : ℕ) % 64, Nat.mod_lt _ (by decide)⟩ (by simp only []; omega)
      · exact dv_B m c t h0 h1 y ⟨(y 0 : ℕ) / 64, by omega⟩ ⟨(y 0 : ℕ) % 64, Nat.mod_lt _ (by decide)⟩ (by simp only []; omega))
    t ht y
  rw [zero_add] at h
  exact h

/-- The gradient of the queries after the run. -/
theorem final_dq : (dats m 0 c).arrAt 6 (cfgs 0).N = dqArr (arrA m c) (arrD m c) (arrL m c) (arrE m c) := by
  refine (dats m 0 c).arrAt_eq_of_covers 6 _ (by decide +kernel) fun t _ y => ?_
  blk_simp
  rw [after0_6]
  have hy1 : (y 1 : ℕ) < 128 := (y 1).isLt
  have hy2 : (y 2 : ℕ) < 256 := (y 2).isLt
  have hy0 : (y 0 : ℕ) < 1 := (y 0).isLt
  have hb : t.val / 16 < 2 := (idx t).2.2.2.2.2.2.2.2.2
  have e := (dq_at m c t y ⟨(y 2 : ℕ) / 64, by omega⟩ ⟨(y 2 : ℕ) % 64, by omega⟩ (by simp only []; omega)).trans
    (tDq_eq m c t ⟨t.val / 16, hb⟩ ⟨t.val % 16, Nat.mod_lt _ (by decide)⟩ rfl rfl ⟨(y 2 : ℕ) / 64, by omega⟩ ⟨(y 1 : ℕ), hy1⟩ ⟨(y 2 : ℕ) % 64, by omega⟩)
  refine Eq.trans e (dqArr_at _ _ _ _ _ ⟨t.val / 16, hb⟩ ⟨t.val % 16 * 128 + (y 1 : ℕ), by omega⟩ ⟨(y 2 : ℕ) / 64, by omega⟩
    ⟨(y 2 : ℕ) % 64, by omega⟩ ?_ ?_ ?_).symm
  all_goals (blk_simp [idx t] <;> (try simp only []) <;> (try omega))

/-- What the last tile of a batch row hands to the window of the gradient of the keys. -/
theorem dk_out (t : Fin cfg0.grid.N) (ht : t.val % 16 = 15) (b : Fin 2) (hb : b.val = t.val / 16) (j : Fin 2048) (l : Fin 128)
    (g : Fin 2) (d : Fin 64) (hl : l.val = 64 * g.val + d.val) :
    (outsAt0 m c t.val t.isLt).2.1 (ix3 0 j l)
      = (∑ n : Fin 16, (aDk (arrA m c) (arrD m c) (arrL m c) (arrE m c) b n ⟨2 * g.val, by omega⟩ d j
          + aDk (arrA m c) (arrD m c) (arrL m c) (arrE m c) b n ⟨2 * g.val + 1, by omega⟩ d j) : EReal) := by
  refine (out7 m c t (by omega) ht j l).trans ((dk_sum m c t ht _).trans ?_)
  refine Finset.sum_congr rfl fun s _ => ?_
  have hN : cfg0.grid.N = 32 := rfl
  unfold dkTerm
  refine congrArg₂ (fun x y : EReal => x + y) ?_ ?_
  · refine Eq.trans (tDk_eq m c _ b s (by simp only []; omega) (by simp only []; omega) _ _ _) ?_
    exact congr (congr (congrArg (aDk (arrA m c) (arrD m c) (arrL m c) (arrE m c) b s) (Fin.ext (show 2 * ((l : ℕ) / 64) = 2 * (g : ℕ) by omega)))
      (Fin.ext (show (l : ℕ) % 64 = d by omega))) rfl
  · refine Eq.trans (tDk_eq m c _ b s (by simp only []; omega) (by simp only []; omega) _ _ _) ?_
    exact congr (congr (congrArg (aDk (arrA m c) (arrD m c) (arrL m c) (arrE m c) b s) (Fin.ext (show 2 * ((l : ℕ) / 64) + 1 = 2 * (g : ℕ) + 1 by omega)))
      (Fin.ext (show (l : ℕ) % 64 = d by omega))) rfl

/-- The gradient of the keys after the run. -/
theorem final_dk : (dats m 0 c).arrAt 7 (cfgs 0).N = dkArr (arrA m c) (arrD m c) (arrL m c) (arrE m c) := by
  refine (dats m 0 c).arrAt_eq_of_covers 7 _ (by decide +kernel) fun t hf y => ?_
  blk_simp
  rw [after0_7]
  have ht : t.val % 16 = 15 := (flush0_7 t).mp hf
  have hy1 : (y 1 : ℕ) < 2048 := (y 1).isLt
  have hy2 : (y 2 : ℕ) < 128 := (y 2).isLt
  have hy0 : (y 0 : ℕ) < 1 := (y 0).isLt
  have hb : t.val / 16 < 2 := (idx t).2.2.2.2.2.2.2.2.2
  have ey : y = ix3 (0 : Fin 1) (⟨(y 1 : ℕ), hy1⟩ : Fin 2048) (⟨(y 2 : ℕ), hy2⟩ : Fin 128) := by
    funext a
    match a with
    | ⟨0, _⟩ => exact Fin.ext (show (y 0 : ℕ) = 0 by omega)
    | ⟨1, _⟩ => rfl
    | ⟨2, _⟩ => rfl
  have e := dk_out m c t ht ⟨t.val / 16, hb⟩ rfl ⟨(y 1 : ℕ), hy1⟩ ⟨(y 2 : ℕ), hy2⟩ ⟨(y 2 : ℕ) / 64, by omega⟩
    ⟨(y 2 : ℕ) % 64, by omega⟩ (by simp only []; omega)
  refine Eq.trans (congrArg _ ey) (Eq.trans e (Eq.symm (dkArr_at _ _ _ _ _ ⟨t.val / 16, hb⟩ ⟨(y 1 : ℕ), hy1⟩ ⟨(y 2 : ℕ) / 64, by omega⟩
    ⟨(y 2 : ℕ) % 64, by omega⟩ ?_ ?_ ?_)))
  all_goals (blk_simp [idx t] <;> (try simp only []) <;> (try omega))

/-- What the last tile of a batch row hands to the window of the gradient of the values. -/
theorem dv_out (t : Fin cfg0.grid.N) (ht : t.val % 16 = 15) (b : Fin 2) (hb : b.val = t.val / 16) (j : Fin 2048) (l : Fin 128)
    (g : Fin 2) (d : Fin 64) (hl : l.val = 64 * g.val + d.val) :
    (outsAt0 m c t.val t.isLt).2.2.1 (ix3 0 j l)
      = (∑ n : Fin 16, (aDv (arrA m c) (arrD m c) (arrL m c) b n ⟨2 * g.val, by omega⟩ d j
          + aDv (arrA m c) (arrD m c) (arrL m c) b n ⟨2 * g.val + 1, by omega⟩ d j) : EReal) := by
  refine (out8 m c t (by omega) ht j l).trans ((dv_sum m c t ht _).trans ?_)
  refine Finset.sum_congr rfl fun s _ => ?_
  have hN : cfg0.grid.N = 32 := rfl
  unfold dvTerm
  refine congrArg₂ (fun x y : EReal => x + y) ?_ ?_
  · refine Eq.trans (tDv_eq m c _ b s (by simp only []; omega) (by simp only []; omega) _ _ _) ?_
    exact congr (congr (congrArg (aDv (arrA m c) (arrD m c) (arrL m c) b s) (Fin.ext (show 2 * ((l : ℕ) / 64) = 2 * (g : ℕ) by omega)))
      (Fin.ext (show (l : ℕ) % 64 = d by omega))) rfl
  · refine Eq.trans (tDv_eq m c _ b s (by simp only []; omega) (by simp only []; omega) _ _ _) ?_
    exact congr (congr (congrArg (aDv (arrA m c) (arrD m c) (arrL m c) b s) (Fin.ext (show 2 * ((l : ℕ) / 64) + 1 = 2 * (g : ℕ) + 1 by omega)))
      (Fin.ext (show (l : ℕ) % 64 = d by omega))) rfl

/-- The gradient of the values after the run. -/
theorem final_dv : (dats m 0 c).arrAt 8 (cfgs 0).N = dvArr (arrA m c) (arrD m c) (arrL m c) := by
  refine (dats m 0 c).arrAt_eq_of_covers 8 _ (by decide +kernel) fun t hf y => ?_
  blk_simp
  rw [after0_8]
  have ht : t.val % 16 = 15 := (flush0_8 t).mp hf
  have hy1 : (y 1 : ℕ) < 2048 := (y 1).isLt
  have hy2 : (y 2 : ℕ) < 128 := (y 2).isLt
  have hy0 : (y 0 : ℕ) < 1 := (y 0).isLt
  have hb : t.val / 16 < 2 := (idx t).2.2.2.2.2.2.2.2.2
  have ey : y = ix3 (0 : Fin 1) (⟨(y 1 : ℕ), hy1⟩ : Fin 2048) (⟨(y 2 : ℕ), hy2⟩ : Fin 128) := by
    funext a
    match a with
    | ⟨0, _⟩ => exact Fin.ext (show (y 0 : ℕ) = 0 by omega)
    | ⟨1, _⟩ => rfl
    | ⟨2, _⟩ => rfl
  have e := dv_out m c t ht ⟨t.val / 16, hb⟩ rfl ⟨(y 1 : ℕ), hy1⟩ ⟨(y 2 : ℕ), hy2⟩ ⟨(y 2 : ℕ) / 64, by omega⟩
    ⟨(y 2 : ℕ) % 64, by omega⟩ (by simp only []; omega)
  refine Eq.trans (congrArg _ ey) (Eq.trans e (Eq.symm (dvArr_at _ _ _ _ ⟨t.val / 16, hb⟩ ⟨(y 1 : ℕ), hy1⟩ ⟨(y 2 : ℕ) / 64, by omega⟩
    ⟨(y 2 : ℕ) % 64, by omega⟩ ?_ ?_ ?_)))
  all_goals (blk_simp [idx t] <;> (try simp only []) <;> (try omega))

end Cert.KernelIdeal.DenseBwd

end

end
-- ==== Proof.Host.lean ====
/- What the host code prepares for the kernel: the packed operands, the row log-sum and the output's product with its
   gradient, each read at an index over the four arguments. -/
module

public import proofs.«01_k».proof.Proof.Blocks
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.KernelIdeal.DenseBwd

open Cert.KernelIdeal Cert.KernelIdeal.Gen

section Terms

variable (q : FVec Ideal S2x2048x4x64 .f32) (k v : FVec Ideal S2x2048x2x64 .f32) (dy : FVec Ideal S4096x1024 .f32)

/-- The packed scaled queries, keys and values. -/
def hA : FVec Ideal S2x2048x512 .bf16 :=
  shapeCast S2x2048x512 (shapeCast S4096x512
    (truncf .bf16 (concatenate S2x2048x512 2
      [⟨S2x2048x256, mulf (shapeCast S2x2048x256 q shapeCasts_S2x2048x4x64_S2x2048x256)
        (broadcastInDim S2x2048x256 ![] bcast_S_S2x2048x256 (constant (F := Ideal) S_ .f32 0x3E000000#32))⟩,
       ⟨S2x2048x128, shapeCast S2x2048x128 k shapeCasts_S2x2048x2x64_S2x2048x128⟩,
       ⟨S2x2048x128, shapeCast S2x2048x128 v shapeCasts_S2x2048x2x64_S2x2048x128⟩]
      concatenates_S2x2048x256_S2x2048x128_S2x2048x128_S2x2048x512_d2) bitsLt_bf16_f32)
    shapeCasts_S2x2048x512_S4096x512) shapeCasts_S4096x512_S2x2048x512

/-- The scaled scores, by example, key head, query head of the key head, query and key. -/
def hS : FVec Ideal S2x2x2x2048x2048 .f32 :=
  mulf (transpose S2x2x2x2048x2048 [0, 1, 4, 3, 2]
      (Host.dotGeneral dot_S2x2048x2x64_S2x2048x2x2x64_S2x2x2048x2048x2_3_4_1_13_02_02 none k
        (shapeCast S2x2048x2x2x64 q shapeCasts_S2x2048x4x64_S2x2048x2x2x64))
      transposes_S2x2x2048x2048x2_S2x2x2x2048x2048_0_1_4_3_2)
    (broadcastInDim S2x2x2x2048x2048 ![] bcast_S_S2x2x2x2048x2048 (constant (F := Ideal) S_ .f32 0x3E000000#32))

variable (s : FVec Ideal S2x2x2x2048x2048 .f32)

/-- A row's maximum. -/
def hM : FVec Ideal S2x2x2x2048x1 .f32 :=
  broadcastInDim S2x2x2x2048x1 ![0, 1, 2, 3] bcast_S2x2x2x2048_S2x2x2x2048x1_0_1_2_3
    (Host.reduce FloatOps.maximumf s (constant (F := Ideal) S_ .f32 0xFF800000#32) reducesTo_S2x2x2x2048x2048_S2x2x2x2048_d4 h_S_)

variable (mx : FVec Ideal S2x2x2x2048x1 .f32)

/-- The exponentials of a row's scores less the row's number. -/
def hX : FVec Ideal S2x2x2x2048x2048 .f32 :=
  Host.exp (subf s (broadcastInDim S2x2x2x2048x2048 ![0, 1, 2, 3, 4] bcast_S2x2x2x2048x1_S2x2x2x2048x2048_0_1_2_3_4 mx))

variable (x : FVec Ideal S2x2x2x2048x2048 .f32)

/-- A row's sum. -/
def hN : FVec Ideal S2x2x2x2048x1 .f32 :=
  broadcastInDim S2x2x2x2048x1 ![0, 1, 2, 3] bcast_S2x2x2x2048_S2x2x2x2048x1_0_1_2_3
    (Host.reduceAdd x (constant (F := Ideal) S_ .f32 0x00000000#32) reducesTo_S2x2x2x2048x2048_S2x2x2x2048_d4 h_S_)

variable (n : FVec Ideal S2x2x2x2048x1 .f32)

/-- A row divided by the row's number. -/
def hP : FVec Ideal S2x2x2x2048x2048 .f32 :=
  Host.divf x (broadcastInDim S2x2x2x2048x2048 ![0, 1, 2, 3, 4] bcast_S2x2x2x2048x1_S2x2x2x2048x2048_0_1_2_3_4 n)

/-- The row's log-sum, repeated over the 64 lanes of its head. -/
def hL : FVec Ideal S2x2048x256 .f32 :=
  shapeCast S2x2048x256 (shapeCast S4096x256
    (broadcastInDim S2x2048x2x2x64 ![0, 1, 2, 3, 4] bcast_S2x2048x2x2x1_S2x2048x2x2x64_0_1_2_3_4
      (transpose S2x2048x2x2x1 [0, 3, 1, 2, 4] (addf mx (Host.log n)) transposes_S2x2x2x2048x1_S2x2048x2x2x1_0_3_1_2_4))
    shapeCasts_S2x2048x2x2x64_S4096x256) shapeCasts_S4096x256_S2x2048x256

variable (p : FVec Ideal S2x2x2x2048x2048 .f32)

/-- The attention's output. -/
def hO : FVec Ideal S4096x256 .f32 :=
  shapeCast S4096x256 (transpose S2x2048x2x2x64 [0, 4, 1, 3, 2]
      (Host.dotGeneral dot_S2x2048x2x64_S2x2x2x2048x2048_S2x2x64x2x2048_1_4_3_23_02_01 none v p)
      transposes_S2x2x64x2x2048_S2x2048x2x2x64_0_4_1_3_2) shapeCasts_S2x2048x2x2x64_S4096x256

variable (o : FVec Ideal S4096x256 .f32)

/-- The product of output and its gradient summed over a head, repeated over the 64 lanes of the head. -/
def hE : FVec Ideal S2x2048x256 .f32 :=
  shapeCast S2x2048x256 (shapeCast S4096x256
    (broadcastInDim S4096x4x64 ![0, 1, 2] bcast_S4096x4x1_S4096x4x64_0_1_2
      (broadcastInDim S4096x4x1 ![0, 1] bcast_S4096x4_S4096x4x1_0_1
        (Host.reduceAdd
          (shapeCast S4096x4x64 (mulf (extractStridedSlice S4096x256 ![0, 768] dy slices_S4096x1024_S4096x256_0_768) o) shapeCasts_S4096x256_S4096x4x64)
          (constant (F := Ideal) S_ .f32 0x00000000#32) reducesTo_S4096x4x64_S4096x4_d2 h_S_)))
    shapeCasts_S4096x4x64_S4096x256) shapeCasts_S4096x256_S2x2048x256

/-! ### Each term at an index -/

theorem hA_q (b : Fin 2) (i : Fin 2048) (h : Fin 4) (d : Fin 64) :
    hA q k v (ix3 b i ⟨64 * h.val + d.val, by omega⟩) = q (ix4 b i h d) * Ideal.ofBits .f32 0x3E000000#32 := by
  unfold hA
  pointwise
  rw [dif_pos (by omega)]

theorem hA_k (b : Fin 2) (i : Fin 2048) (g : Fin 2) (d : Fin 64) :
    hA q k v (ix3 b i ⟨256 + 64 * g.val + d.val, by omega⟩) = k (ix4 b i g d) := by
  unfold hA
  pointwise
  rw [dif_neg (by omega), dif_pos (by omega)]
  congr 2 <;> exact Fin.ext (by simp only []; omega)

theorem hA_v (b : Fin 2) (i : Fin 2048) (g : Fin 2) (d : Fin 64) :
    hA q k v (ix3 b i ⟨384 + 64 * g.val + d.val, by omega⟩) = v (ix4 b i g d) := by
  unfold hA
  pointwise
  rw [dif_neg (by omega), dif_neg (by omega)]
  congr 2 <;> exact Fin.ext (by simp only []; omega)

theorem hS_at (b : Fin 2) (g r : Fin 2) (i j : Fin 2048) :
    hS q k (ix5 b g r i j) = (∑ d : Fin 64, k (ix4 b j g d) * q (ix4 b i ⟨2 * g.val + r.val, by omega⟩ d)) * Ideal.ofBits .f32 0x3E000000#32 := by
  unfold hS
  pointwise
  simp only [Nat.mul_comm g.val 2]

theorem hM_at (b : Fin 2) (g r : Fin 2) (i : Fin 2048) :
    hM s (ix5 b g r i 0) = Finset.univ.fold max (Ideal.ofBits .f32 0xFF800000#32) fun j : Fin 2048 => s (ix5 b g r i j) := by
  unfold hM
  pointwise

theorem hX_at (b : Fin 2) (g r : Fin 2) (i j : Fin 2048) :
    hX s mx (ix5 b g r i j) = Ideal.exp (s (ix5 b g r i j) - mx (ix5 b g r i 0)) := by
  unfold hX
  pointwise

theorem hN_at (b : Fin 2) (g r : Fin 2) (i : Fin 2048) :
    hN x (ix5 b g r i 0) = ∑ j : Fin 2048, x (ix5 b g r i j) := by
  unfold hN
  pointwise

theorem hP_at (b : Fin 2) (g r : Fin 2) (i j : Fin 2048) :
    hP x n (ix5 b g r i j) = Ideal.div (x (ix5 b g r i j)) (n (ix5 b g r i 0)) := by
  unfold hP
  pointwise

theorem hL_at (b : Fin 2) (g r : Fin 2) (i : Fin 2048) :
    hL mx n (ix3 b i ⟨64 * (2 * g.val + r.val), by omega⟩) = mx (ix5 b g r i 0) + Ideal.log (n (ix5 b g r i 0)) := by
  unfold hL
  pointwise

theorem hO_at (b : Fin 2) (g r : Fin 2) (i : Fin 2048) (d : Fin 64) :
    hO v p (ix2 ⟨b.val * 2048 + i.val, by omega⟩ ⟨(2 * g.val + r.val) * 64 + d.val, by omega⟩) = ∑ j : Fin 2048, v (ix4 b j g d) * p (ix5 b g r i j) := by
  unfold hO
  pointwise

theorem hE_at (b : Fin 2) (h : Fin 4) (i : Fin 2048) :
    hE dy o (ix3 b i ⟨64 * h.val, by omega⟩)
      = ∑ d : Fin 64, dy (ix2 ⟨b.val * 2048 + i.val, by omega⟩ ⟨768 + (h.val * 64 + d.val), by omega⟩) * o (ix2 ⟨b.val * 2048 + i.val, by omega⟩ ⟨h.val * 64 + d.val, by omega⟩) := by
  unfold hE
  pointwise

end Terms

variable (m : (ℓ : Loc nD τ sig) → Buf (Elt Ideal) ℓ) (c : Dev nD)

/-- The arguments, by name. -/
abbrev argQ : FVec Ideal S2x2048x4x64 .f32 := m ((c : Thread nD τ).loc main_arg0)
abbrev argK : FVec Ideal S2x2048x2x64 .f32 := m ((c : Thread nD τ).loc main_arg1)
abbrev argV : FVec Ideal S2x2048x2x64 .f32 := m ((c : Thread nD τ).loc main_arg2)
abbrev argD : FVec Ideal S4096x1024 .f32 := m ((c : Thread nD τ).loc main_arg3)

theorem arrA_eq : arrA m c = hA (argQ m c) (argK m c) (argV m c) := by
  unfold arrA V
  after_reads_simp
  rfl

theorem arrD_at (b : Fin 2) (i : Fin 2048) (l : Fin 1024) : arrD m c (ix3 b i l) = argD m c (ix2 ⟨b.val * 2048 + i.val, by omega⟩ l) := by
  unfold arrD
  entry_read
  pointwise

/-- The scores over the arguments. -/
def sc : FVec Ideal S2x2x2x2048x2048 .f32 := hS (argQ m c) (argK m c)

theorem arrL_eq : arrL m c = hL (hM (sc m c)) (hN (hX (sc m c) (hM (sc m c)))) := by
  unfold arrL
  entry_read
  rfl

theorem arrE_eq : arrE m c = hE (argD m c) (hO (argV m c) (hP (hX (sc m c) (hM (sc m c))) (hN (hX (sc m c) (hM (sc m c)))))) := by
  unfold arrE
  entry_read
  rfl

end Cert.KernelIdeal.DenseBwd

end

end
-- ==== Proof.Model.lean ====
/- The mathematics over the real numbers: softmax and its gradient, written without any program. -/
module

public import Mathlib.Analysis.SpecialFunctions.Log.Basic
public import Idealize.ShloMosaic.PureOps.Ideal.Laws

@[expose] public section

noncomputable section

namespace Cert.DenseModel

open Idealize.ShloMosaic

/-! ## Real numbers inside the extended reals -/

/-- A finite sum of real numbers is the same number in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many real numbers, at least one of them, folded from −∞, is a real number. -/
theorem fold_max_real {ι : Type*} (s : Finset ι) (hs : s.Nonempty) (f : ι → ℝ) :
    ∃ M : ℝ, s.fold max (⊥ : EReal) (fun i => (f i : EReal)) = M := by
  classical
  induction s using Finset.induction_on with
  | empty => exact absurd hs (by simp)
  | insert a s ha ih =>
    rcases s.eq_empty_or_nonempty with rfl | h
    · exact ⟨f a, by simp⟩
    · obtain ⟨M, hM⟩ := ih h
      exact ⟨max (f a) M, by rw [Finset.fold_insert ha, hM]; exact (EReal.coe_strictMono.monotone.map_max).symm⟩

/-- The extended quotient of two real numbers, the divisor not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The extended logarithm of a positive real number. -/
theorem log_coe (x : ℝ) (hx : 0 < x) : Ideal.log (x : EReal) = ((Real.log x : ℝ) : EReal) := by
  show (if x ≤ 0 then (⊥ : EReal) else ((Real.log x : ℝ) : EReal)) = _
  rw [if_neg (not_le.mpr hx)]

/-- The extended exponential of a real number. -/
theorem exp_coe (x : ℝ) : Ideal.exp (x : EReal) = ((Real.exp x : ℝ) : EReal) := rfl

/-- The word of 1/8. -/
theorem eighth : Ideal.ofBits .f32 0x3E000000#32 = ((1 / 8 : ℝ) : EReal) := by
  simp [Ideal.ofBits, Ideal.ieee, -EReal.coe_mul]; norm_num

/-- The word of −∞. -/
theorem neg_inf : Ideal.ofBits .f32 0xFF800000#32 = ⊥ := by
  simp [Ideal.ofBits, Ideal.ieee]

/-- The word of one. -/
theorem one_word : Ideal.ofBits .f32 0x3F800000#32 = ((1 : ℝ) : EReal) := by
  simp [Ideal.ofBits, Ideal.ieee, -EReal.coe_mul]; norm_num

/-! ## Softmax of one row -/

section Row

variable {n : ℕ} (s : Fin (n + 1) → ℝ)

/-- The weights of a row of scores. -/
def p (j : Fin (n + 1)) : ℝ := Real.exp (s j) / ∑ k, Real.exp (s k)

theorem sum_exp_pos : 0 < ∑ k, Real.exp (s k) :=
  Finset.sum_pos (fun _ _ => Real.exp_pos _) Finset.univ_nonempty

/-- The denominator after a shift of the scores. -/
theorem sum_exp_shift (M : ℝ) : ∑ k, Real.exp (s k - M) = (∑ k, Real.exp (s k)) * Real.exp (-M) := by
  rw [Finset.sum_mul]
  exact Finset.sum_congr rfl fun k _ => by rw [sub_eq_add_neg, Real.exp_add]

/-- A shift of the scores doesn't change the weights. -/
theorem p_shift (M : ℝ) (j : Fin (n + 1)) : Real.exp (s j - M) / ∑ k, Real.exp (s k - M) = p s j := by
  rw [sum_exp_shift, sub_eq_add_neg, Real.exp_add, p]
  exact mul_div_mul_right _ _ (Real.exp_pos _).ne'

/-- The weight is the exponential of the score less the row's log-sum, however the log-sum was shifted. -/
theorem p_logsum (M : ℝ) (j : Fin (n + 1)) : Real.exp (s j - (M + Real.log (∑ k, Real.exp (s k - M)))) = p s j := by
  rw [← p_shift s M j, ← sub_sub, Real.exp_sub, Real.exp_log (sum_exp_pos fun k => s k - M)]

/-- The gradient of the row's scores when `dp` is the gradient of its weights. -/
def ds (dp : Fin (n + 1) → ℝ) (j : Fin (n + 1)) : ℝ := p s j * (dp j - ∑ k, p s k * dp k)

/-- The same gradient through the quotient rule: the weight `e j / L` has the derivatives `1 / L` in `e j` and
    `-e j / L²` in `L`, and `e j` is an exponential. -/
theorem ds_quotient (M : ℝ) (dp : Fin (n + 1) → ℝ) (j : Fin (n + 1)) :
    (dp j / (∑ k, Real.exp (s k - M))
        + -(∑ k, dp k * (1 / ((∑ l, Real.exp (s l - M)) * (∑ l, Real.exp (s l - M)))) * Real.exp (s k - M))) * Real.exp (s j - M)
      = ds s dp j := by
  have hL := (sum_exp_pos fun k => s k - M).ne'
  unfold ds
  simp only [← p_shift s M]
  set L := ∑ k, Real.exp (s k - M) with hLdef
  have e : ∑ k, dp k * (1 / (L * L)) * Real.exp (s k - M) = (∑ k, Real.exp (s k - M) / L * dp k) / L := by
    rw [Finset.sum_div]
    exact Finset.sum_congr rfl fun k _ => by field_simp
  rw [e]
  field_simp
  ring

end Row

/-! ## Grouped attention

Two examples of 2048 tokens, four query heads of 64, two key heads: query heads `2g` and `2g + 1` read key head `g`. -/

section Attention

/-- Query head `r` of key head `g`. -/
abbrev hd (g r : Fin 2) : Fin 4 := ⟨2 * g.val + r.val, by omega⟩

variable (Q D : Fin 2 → Fin 2048 → Fin 4 → Fin 64 → ℝ) (K V : Fin 2 → Fin 2048 → Fin 2 → Fin 64 → ℝ)

/-- The scaled score of key `j` for query `i`. -/
def score (b g r : Fin 2) (i j : Fin 2048) : ℝ := (∑ d : Fin 64, K b j g d * Q b i (hd g r) d) * (1 / 8)

/-- The softmax weight of key `j` for query `i`. -/
def wt (b g r : Fin 2) (i j : Fin 2048) : ℝ := p (n := 2047) (score Q K b g r i) j

/-- The gradient of that weight, when `D` is the gradient of the attention's output. -/
def dwt (b g r : Fin 2) (i j : Fin 2048) : ℝ := ∑ d : Fin 64, D b i (hd g r) d * V b j g d

/-- The gradient of the scaled score. -/
def dscore (b g r : Fin 2) (i j : Fin 2048) : ℝ := ds (n := 2047) (score Q K b g r i) (dwt D V b g r i) j

/-- The gradient of the scaled query. -/
def dq (b : Fin 2) (i : Fin 2048) (g r : Fin 2) (d : Fin 64) : ℝ := ∑ j : Fin 2048, dscore Q D K V b g r i j * K b j g d

/-- The gradient of the key. -/
def dk (b : Fin 2) (j : Fin 2048) (g : Fin 2) (d : Fin 64) : ℝ :=
  ∑ i : Fin 2048, ∑ r : Fin 2, dscore Q D K V b g r i j * (1 / 8) * Q b i (hd g r) d

/-- The gradient of the value. -/
def dv (b : Fin 2) (j : Fin 2048) (g : Fin 2) (d : Fin 64) : ℝ :=
  ∑ i : Fin 2048, ∑ r : Fin 2, D b i (hd g r) d * wt Q K b g r i j

/-- The gradient of the output times the output, summed over a head, is the mean of the weights' gradients. -/
theorem out_mean (b g r : Fin 2) (i : Fin 2048) :
    ∑ d : Fin 64, D b i (hd g r) d * ∑ j : Fin 2048, V b j g d * wt Q K b g r i j
      = ∑ j : Fin 2048, wt Q K b g r i j * dwt D V b g r i j := by
  simp only [dwt, Finset.mul_sum]
  rw [Finset.sum_comm]
  exact Finset.sum_congr rfl fun j _ => Finset.sum_congr rfl fun d _ => by ring

end Attention

/-- A sum over 2048 rows, taken as sixteen tiles of 128. -/
theorem sum_tiles (f : Fin 2048 → ℝ) :
    ∑ n : Fin 16, ∑ r : Fin 128, f ⟨n.val * 128 + r.val, by omega⟩ = ∑ i : Fin 2048, f i := by
  rw [← Fintype.sum_prod_type']
  refine Fintype.sum_equiv (finProdFinEquiv (m := 16) (n := 128)) _ _ fun x => congrArg f (Fin.ext ?_)
  show x.1.val * 128 + x.2.val = x.2.val + 128 * x.1.val
  omega

end Cert.DenseModel

end

end
-- ==== Proof.KernelReal.lean ====
/- The kernel's arrays over real arguments: the real numbers of the model. -/
module

public import proofs.«01_k».proof.Proof.Host
public import proofs.«01_k».proof.Proof.Model

@[expose] public section

set_option maxRecDepth 16384

noncomputable section

open Idealize.ShloMosaic Idealize.ShloMosaic.TcCoe Idealize.SL.Sem

namespace Cert.KernelIdeal.DenseBwd

open Cert.KernelIdeal Cert.KernelIdeal.Gen Cert.DenseModel

section Real

variable (q : FVec Ideal S2x2048x4x64 .f32) (k v : FVec Ideal S2x2048x2x64 .f32) (dy : FVec Ideal S4096x1024 .f32)
variable (Q D : Fin 2 → Fin 2048 → Fin 4 → Fin 64 → ℝ) (K V : Fin 2 → Fin 2048 → Fin 2 → Fin 64 → ℝ)
variable (hq : ∀ b i h d, q (ix4 b i h d) = Q b i h d) (hk : ∀ b i g d, k (ix4 b i g d) = K b i g d)
variable (hv : ∀ b i g d, v (ix4 b i g d) = V b i g d)
variable (hD : ∀ (b : Fin 2) (i : Fin 2048) (h : Fin 4) (d : Fin 64) (x : Fin 4096) (l : Fin 1024),
  x.val = b.val * 2048 + i.val → l.val = 768 + (h.val * 64 + d.val) → dy (ix2 x l) = D b i h d)

include hq hk in
theorem hS_real (b g r : Fin 2) (i j : Fin 2048) : hS q k (ix5 b g r i j) = score Q K b g r i j := by
  rw [hS_at, eighth]
  simp only [hq, hk, ← EReal.coe_mul, ← coe_sum]
  rfl

include hq hk in
theorem hM_real : ∃ M : Fin 2 → Fin 2 → Fin 2 → Fin 2048 → ℝ, ∀ b g r i, hM (hS q k) (ix5 b g r i 0) = M b g r i := by
  have h : ∀ b g r i, ∃ M : ℝ, hM (hS q k) (ix5 b g r i 0) = M := by
    intro b g r i
    obtain ⟨M, hM⟩ := fold_max_real Finset.univ ⟨0, Finset.mem_univ _⟩ (score Q K b g r i)
    refine ⟨M, ?_⟩
    rw [hM_at, neg_inf, ← hM]
    simp only [hS_real q k Q K hq hk]
  choose M hM using h
  exact ⟨M, hM⟩

variable (M : Fin 2 → Fin 2 → Fin 2 → Fin 2048 → ℝ) (mx : FVec Ideal S2x2x2x2048x1 .f32)
variable (hm : ∀ b g r i, mx (ix5 b g r i 0) = M b g r i)

include hq hk hm in
theorem hX_real (b g r : Fin 2) (i j : Fin 2048) :
    hX (hS q k) mx (ix5 b g r i j) = ((Real.exp (score Q K b g r i j - M b g r i) : ℝ) : EReal) := by
  rw [hX_at, hS_real q k Q K hq hk, hm, ← EReal.coe_sub, exp_coe]

include hq hk hm in
theorem hN_real (b g r : Fin 2) (i : Fin 2048) :
    hN (hX (hS q k) mx) (ix5 b g r i 0) = ((∑ j, Real.exp (score Q K b g r i j - M b g r i) : ℝ) : EReal) := by
  rw [hN_at, coe_sum]
  exact Finset.sum_congr rfl fun j _ => hX_real q k Q K hq hk M mx hm b g r i j

include hq hk hm in
theorem hP_real (b g r : Fin 2) (i j : Fin 2048) :
    hP (hX (hS q k) mx) (hN (hX (hS q k) mx)) (ix5 b g r i j) = wt Q K b g r i j := by
  rw [hP_at, hX_real q k Q K hq hk M mx hm, hN_real q k Q K hq hk M mx hm,
    div_coe _ _ (sum_exp_pos (n := 2047) fun j => score Q K b g r i j - M b g r i).ne']
  exact congrArg _ (p_shift (n := 2047) (score Q K b g r i) (M b g r i) j)

include hq hk hm in
theorem hL_real (b g r : Fin 2) (i : Fin 2048) :
    hL mx (hN (hX (hS q k) mx)) (ix3 b i ⟨64 * (2 * g.val + r.val), by omega⟩)
      = ((M b g r i + Real.log (∑ j, Real.exp (score Q K b g r i j - M b g r i)) : ℝ) : EReal) := by
  rw [hL_at, hm, hN_real q k Q K hq hk M mx hm,
    log_coe _ (sum_exp_pos (n := 2047) fun j => score Q K b g r i j - M b g r i), ← EReal.coe_add]

include hq hk hv hm hD in
theorem hE_real (b g r : Fin 2) (i : Fin 2048) :
    hE dy (hO v (hP (hX (hS q k) mx) (hN (hX (hS q k) mx)))) (ix3 b i ⟨64 * (2 * g.val + r.val), by omega⟩)
      = ((∑ j, wt Q K b g r i j * dwt D V b g r i j : ℝ) : EReal) := by
  rw [← out_mean, coe_sum]
  refine (hE_at dy _ b (hd g r) i).trans (Finset.sum_congr rfl fun d _ => ?_)
  rw [hD b i (hd g r) d _ _ rfl rfl, EReal.coe_mul]
  refine congrArg (fun y : EReal => _ * y) ((hO_at v _ b g r i d).trans ?_)
  rw [coe_sum]
  refine Finset.sum_congr rfl fun j _ => ?_
  rw [hv, hP_real q k Q K hq hk M mx hm, EReal.coe_mul]

end Real

section Blocks

variable (A : FVec Ideal S2x2048x512 .bf16) (Dy : FVec Ideal S2x2048x1024 .f32) (L E : FVec Ideal S2x2048x256 .f32)
variable (Q D : Fin 2 → Fin 2048 → Fin 4 → Fin 64 → ℝ) (K V : Fin 2 → Fin 2048 → Fin 2 → Fin 64 → ℝ)
variable (M : Fin 2 → Fin 2 → Fin 2 → Fin 2048 → ℝ)
variable (hq : ∀ b i h d (l : Fin 512), l.val = 64 * h.val + d.val → A (ix3 b i l) = ((Q b i h d * (1 / 8) : ℝ) : EReal))
variable (hk : ∀ b i g d (l : Fin 512), l.val = 256 + 64 * g.val + d.val → A (ix3 b i l) = ((K b i g d : ℝ) : EReal))
variable (hv : ∀ b i g d (l : Fin 512), l.val = 384 + 64 * g.val + d.val → A (ix3 b i l) = ((V b i g d : ℝ) : EReal))
variable (hD : ∀ b i h d (l : Fin 1024), l.val = 768 + 64 * h.val + d.val → Dy (ix3 b i l) = ((D b i h d : ℝ) : EReal))
variable (hL : ∀ b g r i, L (ix3 b i ⟨64 * (2 * g.val + r.val), by omega⟩)
  = ((M b g r i + Real.log (∑ j, Real.exp (score Q K b g r i j - M b g r i)) : ℝ) : EReal))
variable (hE : ∀ b g r i, E (ix3 b i ⟨64 * (2 * g.val + r.val), by omega⟩)
  = ((∑ j, wt Q K b g r i j * dwt D V b g r i j : ℝ) : EReal))

include hq hk hL in
theorem aP_real (b g r : Fin 2) (i j : Fin 2048) : aP A L b i (hd g r) j = ((wt Q K b g r i j : ℝ) : EReal) := by
  have e : ∑ d : Fin 64, A (ix3 b i ⟨64 * (hd g r).val + d.val, by omega⟩) * A (ix3 b j ⟨256 + 64 * ((hd g r).val / 2) + d.val, by omega⟩)
      = ((score Q K b g r i j : ℝ) : EReal) := by
    unfold score
    rw [Finset.sum_mul, coe_sum]
    refine Finset.sum_congr rfl fun d _ => ?_
    rw [hq b i (hd g r) d _ rfl, hk b j g d _ (by simp only []; omega), ← EReal.coe_mul]
    exact congrArg _ (by ring)
  unfold aP
  rw [e, hL b g r i, ← EReal.coe_sub, exp_coe]
  exact congrArg _ (p_logsum (n := 2047) (score Q K b g r i) (M b g r i) j)

include hq hk hv hD hL hE in
theorem aS_real (b g r : Fin 2) (i j : Fin 2048) : aS A Dy L E b i (hd g r) j = ((dscore Q D K V b g r i j : ℝ) : EReal) := by
  have e : ∑ d : Fin 64, Dy (ix3 b i ⟨768 + 64 * (hd g r).val + d.val, by omega⟩) * A (ix3 b j ⟨384 + 64 * ((hd g r).val / 2) + d.val, by omega⟩)
      = ((dwt D V b g r i j : ℝ) : EReal) := by
    unfold dwt
    rw [coe_sum]
    refine Finset.sum_congr rfl fun d _ => ?_
    rw [hD b i (hd g r) d _ rfl, hv b j g d _ (by simp only []; omega), ← EReal.coe_mul]
  unfold aS
  rw [aP_real A L Q K M hq hk hL, e, hE b g r i, ← EReal.coe_sub, ← EReal.coe_mul]
  rfl

include hq hk hv hD hL hE in
theorem aDq_real (b g r : Fin 2) (i : Fin 2048) (d : Fin 64) : aDq A Dy L E b i (hd g r) d = ((dq Q D K V b i g r d : ℝ) : EReal) := by
  unfold aDq dq
  rw [coe_sum]
  refine Finset.sum_congr rfl fun j _ => ?_
  rw [aS_real A Dy L E Q D K V M hq hk hv hD hL hE, hk b j g d _ (by simp only []; omega), ← EReal.coe_mul]

include hq hk hv hD hL hE in
theorem aDk_real (b : Fin 2) (n : Fin 16) (g r : Fin 2) (d : Fin 64) (j : Fin 2048) :
    aDk A Dy L E b n (hd g r) d j
      = ((∑ t : Fin 128, dscore Q D K V b g r ⟨n.val * 128 + t.val, by omega⟩ j * (1 / 8) * Q b ⟨n.val * 128 + t.val, by omega⟩ (hd g r) d : ℝ) : EReal) := by
  unfold aDk
  rw [coe_sum]
  refine Finset.sum_congr rfl fun t _ => ?_
  rw [aS_real A Dy L E Q D K V M hq hk hv hD hL hE, hq b _ (hd g r) d _ rfl, ← EReal.coe_mul]
  exact congrArg _ (by ring)

include hq hk hD hL in
theorem aDv_real (b : Fin 2) (n : Fin 16) (g r : Fin 2) (d : Fin 64) (j : Fin 2048) :
    aDv A Dy L b n (hd g r) d j
      = ((∑ t : Fin 128, D b ⟨n.val * 128 + t.val, by omega⟩ (hd g r) d * wt Q K b g r ⟨n.val * 128 + t.val, by omega⟩ j : ℝ) : EReal) := by
  unfold aDv
  rw [coe_sum]
  refine Finset.sum_congr rfl fun t _ => ?_
  rw [aP_real A L Q K M hq hk hL, hD b _ (hd g r) d _ rfl, ← EReal.coe_mul]

include hq hk hv hD hL hE in
theorem sum_dk (b g : Fin 2) (d : Fin 64) (j : Fin 2048) :
    ∑ n : Fin 16, (aDk A Dy L E b n ⟨2 * g.val, by omega⟩ d j + aDk A Dy L E b n ⟨2 * g.val + 1, by omega⟩ d j)
      = ((dk Q D K V b j g d : ℝ) : EReal) := by
  unfold dk
  rw [← sum_tiles, coe_sum]
  refine Finset.sum_congr rfl fun n _ => ?_
  have e := congrArg₂ (fun x y : EReal => x + y) (aDk_real A Dy L E Q D K V M hq hk hv hD hL hE b n g 0 d j)
    (aDk_real A Dy L E Q D K V M hq hk hv hD hL hE b n g 1 d j)
  refine e.trans ?_
  rw [← EReal.coe_add, ← Finset.sum_add_distrib]
  simp only [Fin.sum_univ_two]

include hq hk hD hL in
theorem sum_dv (b g : Fin 2) (d : Fin 64) (j : Fin 2048) :
    ∑ n : Fin 16, (aDv A Dy L b n ⟨2 * g.val, by omega⟩ d j + aDv A Dy L b n ⟨2 * g.val + 1, by omega⟩ d j)
      = ((dv Q D K b j g d : ℝ) : EReal) := by
  unfold dv
  rw [← sum_tiles, coe_sum]
  refine Finset.sum_congr rfl fun n _ => ?_
  have e := congrArg₂ (fun x y : EReal => x + y) (aDv_real A Dy L Q D K M hq hk hD hL b n g 0 d j)
    (aDv_real A Dy L Q D K M hq hk hD hL b n g 1 d j)
  refine e.trans ?_
  rw [← EReal.coe_add, ← Finset.sum_add_distrib]
  simp only [Fin.sum_univ_two]

end Blocks

end Cert.KernelIdeal.DenseBwd

end

end
-- ==== Proof.RefAt.lean ====
/- The reference program, a few operations at a time, each read at an index. -/
module

public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Dense

open Cert.ReferenceIdeal Cert.ReferenceIdeal.Gen Cert.ReferenceIdeal.Read

variable (q : FVec Ideal S2x2048x4x64 .f32) (k v : FVec Ideal S2x2048x2x64 .f32) (dy : FVec Ideal S4096x1024 .f32)

/-- The scaled score. -/
theorem v6_at (b g r : Fin 2) (i j : Fin 2048) :
    val_main_v6 (F := Ideal) q k (ix5 b g r i j)
      = (∑ d : Fin 64, k (ix4 b j g d) * q (ix4 b i ⟨2 * g.val + r.val, by omega⟩ d)) * Ideal.ofBits .f32 0x3E000000#32 := by
  unfold val_main_v6 val_main_v5 val_main_v4 val_main_v3 val_main_v2 val_main_cst
  pointwise
  simp only [Nat.mul_comm g.val 2]

/-- The row maximum. -/
theorem v7_at (b g r : Fin 2) (i : Fin 2048) :
    val_main_v7 (F := Ideal) q k (ix4 b g r i)
      = Finset.univ.fold max (Ideal.ofBits .f32 0xFF800000#32) fun j : Fin 2048 => val_main_v6 (F := Ideal) q k (ix5 b g r i j) := by
  unfold val_main_v7 val_main_cst_0
  generalize val_main_v6 (F := Ideal) q k = s
  pointwise

/-- The row maximum, once more against −∞. -/
theorem v14_at (b g r : Fin 2) (i : Fin 2048) :
    val_main_v14 (F := Ideal) q k (ix4 b g r i)
      = max (Ideal.ofBits .f32 0xFF800000#32) (val_main_v7 (F := Ideal) q k (ix4 b g r i)) := by
  rw [val_main_v14_apply, val_main_v13_apply]
  rfl

/-- The exponential of the score less the maximum. -/
theorem v27_at (b g r : Fin 2) (i j : Fin 2048) :
    val_main_v27 (F := Ideal) q k (ix5 b g r i j)
      = Ideal.exp (val_main_v6 (F := Ideal) q k (ix5 b g r i j) - val_main_v14 (F := Ideal) q k (ix4 b g r i)) := by
  unfold val_main_v27 val_main_v26 val_main_v25 val_main_v24
  generalize val_main_v6 (F := Ideal) q k = s
  generalize val_main_v14 (F := Ideal) q k = mx
  pointwise

/-- The row sum. -/
theorem v29_at (b g r : Fin 2) (i : Fin 2048) :
    val_main_v29 (F := Ideal) q k (ix5 b g r i 0) = ∑ j : Fin 2048, val_main_v27 (F := Ideal) q k (ix5 b g r i j) := by
  unfold val_main_v29 val_main_v28 val_main_cst_8
  generalize val_main_v27 (F := Ideal) q k = x
  pointwise

/-- The softmax weight. -/
theorem v31_at (b g r : Fin 2) (i j : Fin 2048) :
    val_main_v31 (F := Ideal) q k (ix5 b g r i j)
      = Ideal.div (val_main_v27 (F := Ideal) q k (ix5 b g r i j)) (val_main_v29 (F := Ideal) q k (ix5 b g r i 0)) := by
  unfold val_main_v31 val_main_v30
  generalize val_main_v27 (F := Ideal) q k = x
  generalize val_main_v29 (F := Ideal) q k = n
  pointwise

/-- One over the squared row sum. -/
theorem v34_at (b g r : Fin 2) (i : Fin 2048) :
    val_main_v34 (F := Ideal) q k (ix5 b g r i 0)
      = Ideal.div (Ideal.ofBits .f32 0x3F800000#32) (val_main_v29 (F := Ideal) q k (ix5 b g r i 0) * val_main_v29 (F := Ideal) q k (ix5 b g r i 0)) := by
  unfold val_main_v34 val_main_v33 val_main_v32 val_main_cst_9
  generalize val_main_v29 (F := Ideal) q k = n
  pointwise

/-- The output's gradient by example, key head, component, query head of the key head and query. -/
theorem v39_at (b g : Fin 2) (d : Fin 64) (r : Fin 2) (i : Fin 2048) :
    val_main_v39 (F := Ideal) dy (ix5 b g d r i)
      = dy (ix2 ⟨b.val * 2048 + i.val, by omega⟩ ⟨768 + ((2 * g.val + r.val) * 64 + d.val), by omega⟩) := by
  unfold val_main_v39 val_main_v38 val_main_v1 val_main_v0
  pointwise
  exact congrArg (fun l => dy (ix2 _ l)) (Fin.ext (by simp only []; omega))

/-- The gradient of the weight. -/
theorem v40_at (b g r : Fin 2) (i j : Fin 2048) :
    val_main_v40 (F := Ideal) v dy (ix5 b g r i j) = ∑ d : Fin 64, val_main_v39 (F := Ideal) dy (ix5 b g d r i) * v (ix4 b j g d) := by
  unfold val_main_v40
  generalize val_main_v39 (F := Ideal) dy = t
  pointwise

/-- The gradient of the value, before its layout is changed. -/
theorem v41_at (b g : Fin 2) (d : Fin 64) (j : Fin 2048) :
    val_main_v41 (F := Ideal) q k dy (ix4 b g d j)
      = ∑ r : Fin 2, ∑ i : Fin 2048, val_main_v39 (F := Ideal) dy (ix5 b g d r i) * val_main_v31 (F := Ideal) q k (ix5 b g r i j) := by
  unfold val_main_v41
  generalize val_main_v39 (F := Ideal) dy = t
  generalize val_main_v31 (F := Ideal) q k = w
  pointwise

/-- The gradient of the row sum. -/
theorem v51_at (b g r : Fin 2) (i : Fin 2048) :
    val_main_v51 (F := Ideal) q k v dy (ix4 b g r i)
      = - ∑ j : Fin 2048, val_main_v40 (F := Ideal) v dy (ix5 b g r i j) * val_main_v34 (F := Ideal) q k (ix5 b g r i 0) * val_main_v27 (F := Ideal) q k (ix5 b g r i j) := by
  unfold val_main_v51 val_main_v48 val_main_v47 val_main_v46 val_main_v45 val_main_v44 val_main_v43 val_main_cst_10 val_main_cst_11
  generalize val_main_v40 (F := Ideal) v dy = t
  generalize val_main_v34 (F := Ideal) q k = n
  generalize val_main_v27 (F := Ideal) q k = x
  pointwise
  exact Fintype.sum_unique (ι := Fin 1) _

/-- The gradient of the score, before the scale. -/
theorem v54_at (b g r : Fin 2) (i j : Fin 2048) :
    val_main_v54 (F := Ideal) q k v dy (ix5 b g r i j)
      = (Ideal.div (val_main_v40 (F := Ideal) v dy (ix5 b g r i j)) (val_main_v29 (F := Ideal) q k (ix5 b g r i 0)) + val_main_v51 (F := Ideal) q k v dy (ix4 b g r i))
        * val_main_v27 (F := Ideal) q k (ix5 b g r i j) := by
  unfold val_main_v54 val_main_v53 val_main_v52 val_main_v50 val_main_v49
  generalize val_main_v40 (F := Ideal) v dy = t
  generalize val_main_v29 (F := Ideal) q k = n
  generalize val_main_v27 (F := Ideal) q k = x
  generalize val_main_v51 (F := Ideal) q k v dy = y
  pointwise

/-- The gradient of the score, with the scale. -/
theorem v57_at (b g r : Fin 2) (i j : Fin 2048) :
    val_main_v57 (F := Ideal) q k v dy (ix5 b g j i r) = val_main_v54 (F := Ideal) q k v dy (ix5 b g r i j) * Ideal.ofBits .f32 0x3E000000#32 := by
  unfold val_main_v57 val_main_v56 val_main_v55 val_main_cst_12
  generalize val_main_v54 (F := Ideal) q k v dy = t
  pointwise

/-- The gradient of the query over the scale. -/
theorem v66_at (b : Fin 2) (i : Fin 2048) (g r : Fin 2) (d : Fin 64) :
    val_main_v66 (F := Ideal) q k v dy (ix3 b i ⟨64 * (2 * g.val + r.val) + d.val, by omega⟩)
      = Ideal.div (∑ j : Fin 2048, val_main_v57 (F := Ideal) q k v dy (ix5 b g j i r) * k (ix4 b j g d)) (Ideal.ofBits .f32 0x3E000000#32) := by
  unfold val_main_v66 val_main_v65 val_main_v64 val_main_v63 val_main_v62 val_main_v59 val_main_v58 val_main_cst_13
  generalize val_main_v57 (F := Ideal) q k v dy = t
  pointwise

/-- The gradient of the key. -/
theorem v68_at (b : Fin 2) (j : Fin 2048) (g : Fin 2) (d : Fin 64) :
    val_main_v68 (F := Ideal) q k v dy (ix3 b j ⟨64 * g.val + d.val, by omega⟩)
      = ∑ i : Fin 2048, ∑ r : Fin 2, val_main_v57 (F := Ideal) q k v dy (ix5 b g j i r) * q (ix4 b i ⟨2 * g.val + r.val, by omega⟩ d) := by
  unfold val_main_v68 val_main_v67 val_main_v61 val_main_v60 val_main_v2
  generalize val_main_v57 (F := Ideal) q k v dy = t
  pointwise
  simp only [Nat.mul_comm g.val 2]

/-- The gradient of the value. -/
theorem v70_at (b : Fin 2) (j : Fin 2048) (g : Fin 2) (d : Fin 64) :
    val_main_v70 (F := Ideal) q k dy (ix3 b j ⟨64 * g.val + d.val, by omega⟩) = val_main_v41 (F := Ideal) q k dy (ix4 b g d j) := by
  unfold val_main_v70 val_main_v69 val_main_v42
  generalize val_main_v41 (F := Ideal) q k dy = t
  pointwise

end Cert.ReferenceIdeal.Dense

end

end
-- ==== Proof.RefReal.lean ====
/- The reference program over real arguments: the real numbers of the model. -/
module

public import proofs.«01_k».proof.Proof.RefAt
public import proofs.«01_k».proof.Proof.Model

@[expose] public section

set_option maxRecDepth 16384

noncomputable section

open Idealize.ShloMosaic Idealize.ShloMosaic.TcCoe Idealize.SL.Sem

namespace Cert.ReferenceIdeal.Dense

open Cert.ReferenceIdeal Cert.ReferenceIdeal.Gen Cert.ReferenceIdeal.Read Cert.DenseModel

variable (q : FVec Ideal S2x2048x4x64 .f32) (k v : FVec Ideal S2x2048x2x64 .f32) (dy : FVec Ideal S4096x1024 .f32)
variable (Q D : Fin 2 → Fin 2048 → Fin 4 → Fin 64 → ℝ) (K V : Fin 2 → Fin 2048 → Fin 2 → Fin 64 → ℝ)
variable (hq : ∀ b i h d, q (ix4 b i h d) = Q b i h d) (hk : ∀ b i g d, k (ix4 b i g d) = K b i g d)
variable (hv : ∀ b i g d, v (ix4 b i g d) = V b i g d)
variable (hD : ∀ (b : Fin 2) (i : Fin 2048) (h : Fin 4) (d : Fin 64) (x : Fin 4096) (l : Fin 1024),
  x.val = b.val * 2048 + i.val → l.val = 768 + (h.val * 64 + d.val) → dy (ix2 x l) = D b i h d)

include hq hk in
theorem score_real (b g r : Fin 2) (i j : Fin 2048) : val_main_v6 (F := Ideal) q k (ix5 b g r i j) = score Q K b g r i j := by
  rw [v6_at, eighth]
  simp only [hq, hk, ← EReal.coe_mul, ← coe_sum]
  rfl

include hq hk in
theorem max_real : ∃ M : Fin 2 → Fin 2 → Fin 2 → Fin 2048 → ℝ, ∀ b g r i, val_main_v14 (F := Ideal) q k (ix4 b g r i) = M b g r i := by
  have h : ∀ b g r i, ∃ M : ℝ, val_main_v14 (F := Ideal) q k (ix4 b g r i) = M := by
    intro b g r i
    obtain ⟨M, hM⟩ := fold_max_real Finset.univ ⟨0, Finset.mem_univ _⟩ (score Q K b g r i)
    refine ⟨M, ?_⟩
    rw [v14_at, v7_at, neg_inf, ← hM]
    simp only [score_real q k Q K hq hk]
    exact max_eq_right bot_le
  choose M hM using h
  exact ⟨M, hM⟩

variable (M : Fin 2 → Fin 2 → Fin 2 → Fin 2048 → ℝ)
variable (hm : ∀ b g r i, val_main_v14 (F := Ideal) q k (ix4 b g r i) = M b g r i)

include hq hk hm in
theorem exp_real (b g r : Fin 2) (i j : Fin 2048) :
    val_main_v27 (F := Ideal) q k (ix5 b g r i j) = ((Real.exp (score Q K b g r i j - M b g r i) : ℝ) : EReal) := by
  rw [v27_at, score_real q k Q K hq hk, hm, ← EReal.coe_sub, exp_coe]

include hq hk hm in
theorem sum_real (b g r : Fin 2) (i : Fin 2048) :
    val_main_v29 (F := Ideal) q k (ix5 b g r i 0) = ((∑ j, Real.exp (score Q K b g r i j - M b g r i) : ℝ) : EReal) := by
  rw [v29_at, coe_sum]
  exact Finset.sum_congr rfl fun j _ => exp_real q k Q K hq hk M hm b g r i j

/-- The row sum isn't zero. -/
theorem sum_ne (b g r : Fin 2) (i : Fin 2048) : (∑ j, Real.exp (score Q K b g r i j - M b g r i)) ≠ 0 :=
  (sum_exp_pos (n := 2047) fun j => score Q K b g r i j - M b g r i).ne'

include hq hk hm in
theorem wt_real (b g r : Fin 2) (i j : Fin 2048) : val_main_v31 (F := Ideal) q k (ix5 b g r i j) = wt Q K b g r i j := by
  rw [v31_at, exp_real q k Q K hq hk M hm, sum_real q k Q K hq hk M hm, div_coe _ _ (sum_ne Q K M b g r i)]
  exact congrArg _ (p_shift (n := 2047) (score Q K b g r i) (M b g r i) j)

include hv hD in
theorem dwt_real (b g r : Fin 2) (i j : Fin 2048) : val_main_v40 (F := Ideal) v dy (ix5 b g r i j) = dwt D V b g r i j := by
  rw [v40_at, dwt, coe_sum]
  refine Finset.sum_congr rfl fun d _ => ?_
  rw [v39_at, hv, EReal.coe_mul]
  exact congrArg (fun x : EReal => x * _) (hD b i (hd g r) d _ _ rfl rfl)

include hq hk hv hD hm in
theorem dscore_real (b g r : Fin 2) (i j : Fin 2048) :
    val_main_v57 (F := Ideal) q k v dy (ix5 b g j i r) = ((dscore Q D K V b g r i j * (1 / 8) : ℝ) : EReal) := by
  have hL := sum_ne Q K M b g r i
  rw [v57_at, v54_at, v51_at, v34_at, eighth, one_word]
  simp only [dwt_real v dy D V hv hD, exp_real q k Q K hq hk M hm, sum_real q k Q K hq hk M hm, ← EReal.coe_mul]
  rw [div_coe _ _ hL, div_coe _ _ (mul_ne_zero hL hL)]
  simp only [← EReal.coe_mul, ← coe_sum, ← EReal.coe_neg, ← EReal.coe_add]
  refine congrArg (fun x : ℝ => ((x * (1 / 8) : ℝ) : EReal)) ?_
  exact ds_quotient (n := 2047) (score Q K b g r i) (M b g r i) (dwt D V b g r i) j

include hq hk hv hD in
theorem dq_real (b : Fin 2) (i : Fin 2048) (g r : Fin 2) (d : Fin 64) :
    val_main_v66 (F := Ideal) q k v dy (ix3 b i ⟨64 * (2 * g.val + r.val) + d.val, by omega⟩) = ((dq Q D K V b i g r d : ℝ) : EReal) := by
  obtain ⟨M, hm⟩ := max_real q k Q K hq hk
  rw [v66_at, eighth]
  simp only [dscore_real q k v dy Q D K V hq hk hv hD M hm, hk, ← EReal.coe_mul, ← coe_sum]
  rw [div_coe _ _ (by norm_num), dq, Finset.sum_div]
  refine congrArg _ (Finset.sum_congr rfl fun j _ => ?_)
  ring

include hq hk hv hD in
theorem dk_real (b : Fin 2) (j : Fin 2048) (g : Fin 2) (d : Fin 64) :
    val_main_v68 (F := Ideal) q k v dy (ix3 b j ⟨64 * g.val + d.val, by omega⟩) = ((dk Q D K V b j g d : ℝ) : EReal) := by
  obtain ⟨M, hm⟩ := max_real q k Q K hq hk
  rw [v68_at]
  simp only [dscore_real q k v dy Q D K V hq hk hv hD M hm, hq, ← EReal.coe_mul, ← coe_sum]
  rfl

include hq hk hD in
theorem dv_real (b : Fin 2) (j : Fin 2048) (g : Fin 2) (d : Fin 64) :
    val_main_v70 (F := Ideal) q k dy (ix3 b j ⟨64 * g.val + d.val, by omega⟩) = ((dv Q D K b j g d : ℝ) : EReal) := by
  obtain ⟨M, hm⟩ := max_real q k Q K hq hk
  rw [v70_at, v41_at, dv, Finset.sum_comm, coe_sum]
  refine Finset.sum_congr rfl fun i _ => ?_
  rw [coe_sum]
  refine Finset.sum_congr rfl fun r _ => ?_
  rw [v39_at, wt_real q k Q K hq hk M hm, EReal.coe_mul]
  exact congrArg (fun x : EReal => x * _) (hD b i (hd g r) d _ _ rfl rfl)

end Cert.ReferenceIdeal.Dense

end

end
-- ==== Proof.Pre.lean ====
/- What the precondition says: every query, key and value, and every entry of the output's gradient that this attention
   owns, is a real number. -/
module

public import proofs.«01_k».proof.Pre_finite
public import Idealize.ShloMosaic.PureOps.Reduce
public import Idealize.ShloMosaic.PureOps.Ideal.Laws
public import Idealize.ShloMosaic.Lib.ValueIdx

@[expose] public section

set_option maxRecDepth 16384

noncomputable section

open Idealize.ShloMosaic Idealize.ShloMosaic.ValueIdx

namespace Cert.Pre_finite

/-- The side conditions of the predicate's operations. -/
theorem proved : Facts where
  bcast_S_S2x2048x4x64 := by decide
  reducesTo_S2x2048x4x64_S_d0_1_2_3 := by decide
  h_S_ := by decide
  bcast_S_S2x2048x2x64 := by decide
  reducesTo_S2x2048x2x64_S_d0_1_2_3 := by decide
  slices_S4096x1024_S4096x256_0_768 := by decide
  bcast_S_S4096x256 := by decide
  reducesTo_S4096x256_S_d0_1 := by decide

/-- A conjunction of bits over a finite set that is 1 has every bit 1. -/
theorem fold_and {ι : Type*} [DecidableEq ι] (s : Finset ι) (f : ι → BitVec 1) (a : BitVec 1)
    (h : s.fold IntOp.andi a f = 1#1) : ∀ i ∈ s, f i = 1#1 := by
  induction s using Finset.induction_on with
  | empty => simp
  | insert j s hj ih =>
    rw [Finset.fold_insert hj] at h
    have e : ∀ x y : BitVec 1, IntOp.andi x y = 1#1 → x = 1#1 ∧ y = 1#1 := by decide
    obtain ⟨h1, h2⟩ := e _ _ h
    intro i hi
    rcases Finset.mem_insert.mp hi with rfl | hi
    · exact h1
    · exact ih h2 i hi

/-- The conjunction of all the bits of an array, reduced to a scalar. -/
theorem reduce_and {s : Shape} {axes : List (Fin s.rank)} (x : IVec s 1) (init : IVec S_ 1) (h : s.ReducesTo axes S_) (hu : 0 < S_.numel)
    (j : S_.Idx) (e : Host.reduce IntOp.andi x init h hu j = 1#1) (i : s.Idx) : x i = 1#1 := by
  classical
  rw [Host.reduce_eq_fold] at e
  refine fold_and _ _ _ e i (Finset.mem_filter.mpr ⟨Finset.mem_univ _, ?_⟩)
  funext a
  exact a.elim0

/-- An extended real whose absolute value is below the word of +∞ is a real number. -/
theorem real_of_lt (x : EReal) (h : FloatOps.cmpf (F := Ideal) (φ := .f32) .olt (FloatOps.absf (F := Ideal) (φ := .f32) x) (FloatOps.ofBits .f32 0x7F800000#32) = 1#1) :
    x = (x.toReal : EReal) := by
  have e : Ideal.ofBits .f32 0x7F800000#32 = ⊤ := by simp [Ideal.ofBits, Ideal.ieee]
  have h' : max x (-x) < ⊤ := by
    by_contra hc
    have : FloatOps.cmpf (F := Ideal) (φ := .f32) .olt (max x (-x)) (Ideal.ofBits .f32 0x7F800000#32) = 0#1 := by
      rw [e]
      show Ideal.cmp .olt (max x (-x)) ⊤ = 0#1
      simp [Ideal.cmp, hc]
    exact absurd (this.symm.trans h) (by decide)
  refine (EReal.coe_toReal ?_ ?_).symm
  · rintro rfl; simp at h'
  · rintro rfl; simp at h'

variable [Facts]
open Facts

variable (q : FVec Ideal S2x2048x4x64 .f32) (k v : FVec Ideal S2x2048x2x64 .f32) (dy : FVec Ideal S4096x1024 .f32)

/-- The four facts of the precondition. -/
theorem finite (h : fn (F := Ideal) q k v dy = fun _ => 1#1) :
    (∀ i, q i = ((q i).toReal : EReal)) ∧ (∀ i, k i = ((k i).toReal : EReal)) ∧ (∀ i, v i = ((v i).toReal : EReal))
      ∧ ∀ (i : Fin 4096) (l : Fin 1024), 768 ≤ l.val → dy (ix2 i l) = ((dy (ix2 i l)).toReal : EReal) := by
  have h0 := congrFun h ix0
  have e : ∀ x y : BitVec 1, IntOp.andi x y = 1#1 → x = 1#1 ∧ y = 1#1 := by decide
  obtain ⟨h123, h4⟩ := e _ _ h0
  obtain ⟨h12, h3⟩ := e _ _ h123
  obtain ⟨h1, h2⟩ := e _ _ h12
  refine ⟨fun i => ?_, fun i => ?_, fun i => ?_, fun i l hl => ?_⟩
  · exact real_of_lt _ (reduce_and _ _ _ _ _ h1 i)
  · exact real_of_lt _ (reduce_and _ _ _ _ _ h2 i)
  · exact real_of_lt _ (reduce_and _ _ _ _ _ h3 i)
  · have hx := real_of_lt _ (reduce_and _ _ _ _ _ h4 (ix2 i ⟨l.val - 768, by omega⟩))
    have ei : extractStridedSlice S4096x256 ![0, 768] dy slices_S4096x1024_S4096x256_0_768 (ix2 i ⟨l.val - 768, by omega⟩) = dy (ix2 i l) := by
      refine congrArg dy (funext fun a => Fin.ext ?_)
      match a with
      | ⟨0, _⟩ => show 0 + i.val = i.val; omega
      | ⟨1, _⟩ => show 768 + (l.val - 768) = l.val; omega
    rw [← ei]
    exact hx

end Cert.Pre_finite

end

end
-- ==== Proof.Equation.lean ====
/- The kernel's three arrays are the reference's three results, when the arguments are real numbers. -/
module

public import proofs.«01_k».proof.Proof.Arrays
public import proofs.«01_k».proof.Proof.KernelReal
public import proofs.«01_k».proof.Proof.RefReal
public import proofs.«01_k».proof.Proof.Pre

@[expose] public section

set_option maxRecDepth 16384

noncomputable section

open Idealize.ShloMosaic Idealize.ShloMosaic.TcCoe Idealize.SL.Sem

namespace Cert.KernelIdeal.DenseBwd

open Cert.KernelIdeal Cert.KernelIdeal.Gen Cert.DenseModel Cert.ReferenceIdeal.Read Cert.ReferenceIdeal.Dense

section Indices

/-- An index of a query's gradient by its coordinates. -/
theorem ix_q (y : S2x2048x256.Idx) : ∃ (b : Fin 2) (i : Fin 2048) (g r : Fin 2) (d : Fin 64),
    y = ix3 b i ⟨64 * (2 * g.val + r.val) + d.val, by omega⟩ := by
  have h : (y 2 : ℕ) < 256 := (y 2).isLt
  refine ⟨y 0, y 1, ⟨(y 2 : ℕ) / 128, by omega⟩, ⟨(y 2 : ℕ) / 64 % 2, by omega⟩, ⟨(y 2 : ℕ) % 64, by omega⟩, ?_⟩
  refine funext fun a => Fin.ext ?_
  match a with
  | ⟨0, _⟩ => rfl
  | ⟨1, _⟩ => rfl
  | ⟨2, _⟩ => show (y 2 : ℕ) = 64 * (2 * ((y 2 : ℕ) / 128) + (y 2 : ℕ) / 64 % 2) + (y 2 : ℕ) % 64; omega

/-- An index of a key's or value's gradient by its coordinates. -/
theorem ix_k (y : S2x2048x128.Idx) : ∃ (b : Fin 2) (j : Fin 2048) (g : Fin 2) (d : Fin 64),
    y = ix3 b j ⟨64 * g.val + d.val, by omega⟩ := by
  have h : (y 2 : ℕ) < 128 := (y 2).isLt
  refine ⟨y 0, y 1, ⟨(y 2 : ℕ) / 64, by omega⟩, ⟨(y 2 : ℕ) % 64, by omega⟩, ?_⟩
  refine funext fun a => Fin.ext ?_
  match a with
  | ⟨0, _⟩ => rfl
  | ⟨1, _⟩ => rfl
  | ⟨2, _⟩ => show (y 2 : ℕ) = 64 * ((y 2 : ℕ) / 64) + (y 2 : ℕ) % 64; omega

end Indices

variable (m : (ℓ : Loc nD τ sig) → Buf (Elt Ideal) ℓ) (c : Dev nD)

/-- The three arrays, all facts about the arguments in one place. -/
theorem arrays_eq [Cert.Pre_finite.Facts]
    (h : Cert.Pre_finite.fn (F := Ideal) (argQ m c) (argK m c) (argV m c) (argD m c) = fun _ => 1#1) :
    dqArr (arrA m c) (arrD m c) (arrL m c) (arrE m c) = val_main_v66 (F := Ideal) (argQ m c) (argK m c) (argV m c) (argD m c)
    ∧ dkArr (arrA m c) (arrD m c) (arrL m c) (arrE m c) = val_main_v68 (F := Ideal) (argQ m c) (argK m c) (argV m c) (argD m c)
    ∧ dvArr (arrA m c) (arrD m c) (arrL m c) = val_main_v70 (F := Ideal) (argQ m c) (argK m c) (argD m c) := by
  obtain ⟨rq, rk, rv, rd⟩ := Cert.Pre_finite.finite _ _ _ _ h
  have hq : ∀ b i h d, argQ m c (ix4 b i h d) = (((argQ m c (ix4 b i h d)).toReal : ℝ) : EReal) := fun _ _ _ _ => rq _
  have hk : ∀ b i g d, argK m c (ix4 b i g d) = (((argK m c (ix4 b i g d)).toReal : ℝ) : EReal) := fun _ _ _ _ => rk _
  have hv : ∀ b i g d, argV m c (ix4 b i g d) = (((argV m c (ix4 b i g d)).toReal : ℝ) : EReal) := fun _ _ _ _ => rv _
  generalize hQ : (fun (b : Fin 2) (i : Fin 2048) (h : Fin 4) (d : Fin 64) => (argQ m c (ix4 b i h d)).toReal) = Q
  generalize hK : (fun (b : Fin 2) (i : Fin 2048) (g : Fin 2) (d : Fin 64) => (argK m c (ix4 b i g d)).toReal) = K
  generalize hV : (fun (b : Fin 2) (i : Fin 2048) (g : Fin 2) (d : Fin 64) => (argV m c (ix4 b i g d)).toReal) = V
  replace hq : ∀ b i h d, argQ m c (ix4 b i h d) = ((Q b i h d : ℝ) : EReal) := by subst hQ; exact hq
  replace hk : ∀ b i g d, argK m c (ix4 b i g d) = ((K b i g d : ℝ) : EReal) := by subst hK; exact hk
  replace hv : ∀ b i g d, argV m c (ix4 b i g d) = ((V b i g d : ℝ) : EReal) := by subst hV; exact hv
  obtain ⟨D, hD⟩ : ∃ D : Fin 2 → Fin 2048 → Fin 4 → Fin 64 → ℝ, ∀ (b : Fin 2) (i : Fin 2048) (h : Fin 4) (d : Fin 64) (x : Fin 4096) (l : Fin 1024),
      x.val = b.val * 2048 + i.val → l.val = 768 + (h.val * 64 + d.val) → argD m c (ix2 x l) = ((D b i h d : ℝ) : EReal) := by
    refine ⟨fun b i h d => (argD m c (ix2 ⟨b.val * 2048 + i.val, by omega⟩ ⟨768 + (h.val * 64 + d.val), by omega⟩)).toReal, fun b i h d x l hx hl => ?_⟩
    have ex : x = ⟨b.val * 2048 + i.val, by clear hx hl x l; omega⟩ := Fin.ext hx
    have el : l = ⟨768 + (h.val * 64 + d.val), by clear hx hl ex x l; omega⟩ := Fin.ext hl
    subst ex el
    exact rd _ _ (Nat.le_add_right _ _)
  obtain ⟨M, hM⟩ := hM_real (argQ m c) (argK m c) Q K hq hk
  have aq : ∀ b i h d (l : Fin 512), l.val = 64 * h.val + d.val → arrA m c (ix3 b i l) = ((Q b i h d * (1 / 8) : ℝ) : EReal) := by
    intro b i h d l hl
    have e : l = ⟨64 * h.val + d.val, by clear hl l; omega⟩ := Fin.ext hl
    subst e
    rw [arrA_eq, hA_q, hq, eighth, ← EReal.coe_mul]
  have ak : ∀ b i g d (l : Fin 512), l.val = 256 + 64 * g.val + d.val → arrA m c (ix3 b i l) = ((K b i g d : ℝ) : EReal) := by
    intro b i g d l hl
    have e : l = ⟨256 + 64 * g.val + d.val, by clear hl l; omega⟩ := Fin.ext hl
    subst e
    rw [arrA_eq, hA_k, hk]
  have av : ∀ b i g d (l : Fin 512), l.val = 384 + 64 * g.val + d.val → arrA m c (ix3 b i l) = ((V b i g d : ℝ) : EReal) := by
    intro b i g d l hl
    have e : l = ⟨384 + 64 * g.val + d.val, by clear hl l; omega⟩ := Fin.ext hl
    subst e
    rw [arrA_eq, hA_v, hv]
  have aD : ∀ b i h d (l : Fin 1024), l.val = 768 + 64 * h.val + d.val → arrD m c (ix3 b i l) = ((D b i h d : ℝ) : EReal) := by
    intro b i h d l hl
    have e : l = ⟨768 + (h.val * 64 + d.val), by clear hl l; omega⟩ := Fin.ext (by simp only []; omega)
    subst e
    rw [arrD_at, hD b i h d _ _ rfl rfl]
  have aL : ∀ b g r i, arrL m c (ix3 b i ⟨64 * (2 * g.val + r.val), by omega⟩)
      = ((M b g r i + Real.log (∑ j, Real.exp (score Q K b g r i j - M b g r i)) : ℝ) : EReal) := by
    intro b g r i
    rw [arrL_eq]
    exact hL_real _ _ Q K hq hk M _ hM b g r i
  have aE : ∀ b g r i, arrE m c (ix3 b i ⟨64 * (2 * g.val + r.val), by omega⟩)
      = ((∑ j, wt Q K b g r i j * dwt D V b g r i j : ℝ) : EReal) := by
    intro b g r i
    rw [arrE_eq]
    exact hE_real _ _ _ _ Q D K V hq hk hv hD M _ hM b g r i
  refine ⟨funext fun y => ?_, funext fun y => ?_, funext fun y => ?_⟩
  · obtain ⟨b, i, g, r, d, rfl⟩ := ix_q y
    rw [dqArr_at _ _ _ _ _ b i (hd g r) d rfl rfl rfl, aDq_real _ _ _ _ Q D K V M aq ak av aD aL aE]
    exact (dq_real _ _ _ _ Q D K V hq hk hv hD b i g r d).symm
  · obtain ⟨b, j, g, d, rfl⟩ := ix_k y
    rw [dkArr_at _ _ _ _ _ b j g d rfl rfl rfl, sum_dk _ _ _ _ Q D K V M aq ak av aD aL aE]
    exact (dk_real _ _ _ _ Q D K V hq hk hv hD b j g d).symm
  · obtain ⟨b, j, g, d, rfl⟩ := ix_k y
    rw [dvArr_at _ _ _ _ b j g d rfl rfl rfl, sum_dv _ _ _ Q D K M aq ak aD aL]
    exact (dv_real _ _ _ Q D K hq hk hD b j g d).symm

end Cert.KernelIdeal.DenseBwd

end

end
-- ==== Proof.UpPoint.lean ====
/- One grid point of the feed-forward's backward kernel: what its body adds to the carried scratch (the gradient of the
   normalised input), and what the last point of a row tile makes of the finished scratch: the gradient of the input, in two
   precisions, and the tile's share of the gradient of the norm's gain. Read at an index, over the blocks of the point. -/
module

public import proofs.«01_k».proof.Proof.Gen.Kernel2Ideal.Frame
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.UpBwd

open Cert.Kernel2Ideal Cert.Kernel2Ideal.Gen

/-! ## The arithmetic of a point, over the blocks it is given

`d` is a tile of the gradient of one half of the up projection, `w` the tile of the weight's columns that made it; `X` the
tile of inputs, `g` the norm's gain, `R` the tile of what the residual brings, and `Y` the finished gradient of the normalised
input. -/

/-- The share of one tile of columns: a row of gradients with a row of weights. -/
def tAcc (d w : FVec Ideal S1024x1408 .bf16) (r k : Fin 1024) : EReal := ∑ n : Fin 1408, d (ix2 r n) * w (ix2 k n)

/-- The reciprocal root of a row's mean square with the epsilon. -/
def tRoot (X : FVec Ideal S1024x1024 .f32) (r : Fin 1024) : EReal :=
  Ideal.rsqrt (Ideal.div (∑ k : Fin 1024, X (ix2 r k) * X (ix2 r k)) (Ideal.ofBits .f32 0x44800000#32)
    + Ideal.ofBits .f32 0x358637BD#32)

/-- The gradient of the input at one entry. -/
def tDx (X : FVec Ideal S1024x1024 .f32) (g : FVec Ideal S1x1024 .f32) (R Y : FVec Ideal S1024x1024 .f32) (r k : Fin 1024) : EReal :=
  (tRoot X r * (Y (ix2 r k) * g (ix2 0 k))
      - X (ix2 r k) * ((tRoot X r * tRoot X r * tRoot X r)
        * Ideal.div (∑ l : Fin 1024, (Y (ix2 r l) * g (ix2 0 l)) * X (ix2 r l)) (Ideal.ofBits .f32 0x44800000#32)))
    + R (ix2 r k)

/-- What a tile of rows adds to the gradient of the gain. -/
def tDg (X Y : FVec Ideal S1024x1024 .f32) (k : Fin 1024) : EReal :=
  ∑ r : Fin 1024, (Y (ix2 r k) * X (ix2 r k)) * tRoot X r

theorem pay2_at (a : FVec Ideal S1024x1024 .f32) (d w : FVec Ideal S1024x1408 .bf16) (r k : Fin 1024) :
    (k0_pay2 (F := Ideal) a d w (ix2 r k) : EReal) = a (ix2 r k) + tAcc d w r k := by
  pointwise [k0_pay2, tAcc]

theorem pay3_at (a : FVec Ideal S1024x1024 .f32) (d w : FVec Ideal S1024x1408 .bf16) (r k : Fin 1024) :
    (k0_pay3 (F := Ideal) a d w (ix2 r k) : EReal) = a (ix2 r k) + tAcc d w r k := by
  pointwise [k0_pay3, tAcc]

theorem pay6_at (X : FVec Ideal S1024x1024 .f32) (r : Fin 1024) :
    (k0_pay6 (F := Ideal) X (ix2 r 0) : EReal) = tRoot X r := by
  pointwise [k0_pay6, tRoot]

theorem pay7_at (X : FVec Ideal S1024x1024 .f32) (g : FVec Ideal S1x1024 .f32) (Y R : FVec Ideal S1024x1024 .f32) (r k : Fin 1024) :
    (k0_pay7 (F := Ideal) X g Y R (ix2 r k) : EReal) = tDx X g R Y r k := by
  pointwise [k0_pay7, k0_pay6, tDx, tRoot]

theorem pay8_at (X : FVec Ideal S1024x1024 .f32) (g : FVec Ideal S1x1024 .f32) (Y R : FVec Ideal S1024x1024 .f32) (r k : Fin 1024) :
    (k0_pay8 (F := Ideal) X g Y R (ix2 r k) : EReal) = tDx X g R Y r k := by
  pointwise [k0_pay8, k0_pay7, k0_pay6, tDx, tRoot]

theorem pay4_at (X Y : FVec Ideal S1024x1024 .f32) (b : FVec Ideal S1x1024 .f32) (k : Fin 1024) :
    (k0_pay4 (F := Ideal) X Y (k0_pay6 X) b (ix2 0 k) : EReal) = b (ix2 0 k) + tDg X Y k := by
  pointwise [k0_pay4, k0_pay6, tDg, tRoot]

end Cert.Kernel2Ideal.UpBwd

end

end
-- ==== Proof.UpSweep.lean ====
/- What each point of the feed-forward's backward kernel leaves in the carried scratch and, at the last point of a row tile,
   in the three outputs. The first two points of a row tile add the shares of the gate's columns, the last two those of the
   up half's. -/
module

public import proofs.«01_k».proof.Proof.UpPoint

@[expose] public section

set_option maxRecDepth 16384

noncomputable section

open Idealize.ShloMosaic Idealize.ShloMosaic.TcCoe Idealize.SL.Sem
open Idealize.ShloMosaic.Pipeline (Dat)

namespace Cert.Kernel2Ideal.UpBwd

open Cert.Kernel2Ideal Cert.Kernel2Ideal.Gen

variable (m : (ℓ : Loc nD τ sig) → Buf (Elt Ideal) ℓ) (c : Dev nD) (t : Fin cfg0.N)

/-! ## The carried scratch -/

/-- The first point of a row tile: its share over the zeros that it stored. -/
theorem acc_A (h0 : t.val % 4 = 0) (h1 : t.val % 4 ≤ 1) (h2 : ¬2 ≤ t.val % 4) (h3 : ¬t.val % 4 = 3) (r k : Fin 1024) :
    ((outsAt0 m c t.val t.isLt).2.2.2 (ix2 r k) : EReal) = 0 + tAcc (iblk m c 0 t) (iblk m c 2 t) r k := by
  rw [outsAt0_A m c t h0 h1 h2 h3]
  frame_open
  simp (disch := decide) only [↓ View.readCov_skip, ↓ View.readCov_cons_toLoadRect, ↓ View.readCov_fill]
  frame_out
  refine (pay2_at _ _ _ r k).trans (congrArg (fun z : EReal => z + _) ?_)
  pointwise [k0_pay1]

/-- The second point. -/
theorem acc_B (h0 : ¬t.val % 4 = 0) (h1 : t.val % 4 ≤ 1) (h2 : ¬2 ≤ t.val % 4) (h3 : ¬t.val % 4 = 3) (r k : Fin 1024) :
    ((outsAt0 m c t.val t.isLt).2.2.2 (ix2 r k) : EReal)
      = (outsAt0 m c (t.val - 1) (Nat.lt_of_le_of_lt (Nat.sub_le _ _) t.isLt)).2.2.2 (ix2 r k)
        + tAcc (iblk m c 0 t) (iblk m c 2 t) r k := by
  rw [outsAt0_B m c t h0 h1 h2 h3]
  frame_out
  rw [read_unread_whole]
  exact pay2_at _ _ _ r k

/-- The third point. -/
theorem acc_C (h0 : ¬t.val % 4 = 0) (h1 : ¬t.val % 4 ≤ 1) (h2 : 2 ≤ t.val % 4) (h3 : ¬t.val % 4 = 3) (r k : Fin 1024) :
    ((outsAt0 m c t.val t.isLt).2.2.2 (ix2 r k) : EReal)
      = (outsAt0 m c (t.val - 1) (Nat.lt_of_le_of_lt (Nat.sub_le _ _) t.isLt)).2.2.2 (ix2 r k)
        + tAcc (iblk m c 1 t) (iblk m c 2 t) r k := by
  rw [outsAt0_C m c t h0 h1 h2 h3]
  frame_out
  rw [read_unread_whole]
  exact pay3_at _ _ _ r k

/-- The last point of the first row tile. -/
theorem acc_D (h0 : ¬t.val % 4 = 0) (h1 : ¬t.val % 4 ≤ 1) (h2 : 2 ≤ t.val % 4) (h3 : t.val % 4 = 3) (h4 : t.val < 4) (r k : Fin 1024) :
    ((outsAt0 m c t.val t.isLt).2.2.2 (ix2 r k) : EReal)
      = (outsAt0 m c (t.val - 1) (Nat.lt_of_le_of_lt (Nat.sub_le _ _) t.isLt)).2.2.2 (ix2 r k)
        + tAcc (iblk m c 1 t) (iblk m c 2 t) r k := by
  rw [outsAt0_D m c t h0 h1 h2 h3 h4]
  frame_out
  rw [read_unread_whole]
  exact pay3_at _ _ _ r k

/-- The last point of a later row tile. -/
theorem acc_E (h0 : ¬t.val % 4 = 0) (h1 : ¬t.val % 4 ≤ 1) (h2 : 2 ≤ t.val % 4) (h3 : t.val % 4 = 3) (h4 : ¬t.val < 4) (r k : Fin 1024) :
    ((outsAt0 m c t.val t.isLt).2.2.2 (ix2 r k) : EReal)
      = (outsAt0 m c (t.val - 1) (Nat.lt_of_le_of_lt (Nat.sub_le _ _) t.isLt)).2.2.2 (ix2 r k)
        + tAcc (iblk m c 1 t) (iblk m c 2 t) r k := by
  rw [outsAt0_E m c t h0 h1 h2 h3 h4]
  frame_out
  rw [read_unread_whole]
  exact pay3_at _ _ _ r k

/-! ## The outputs at the last point of a row tile -/

/-- The gradient of the input, first row tile. -/
theorem dx_D (h0 : ¬t.val % 4 = 0) (h1 : ¬t.val % 4 ≤ 1) (h2 : 2 ≤ t.val % 4) (h3 : t.val % 4 = 3) (h4 : t.val < 4) (r k : Fin 1024) :
    ((outsAt0 m c t.val t.isLt).1 (ix2 r k) : EReal)
      = tDx (iblk m c 3 t) (iblk m c 4 t) (iblk m c 5 t) (outsAt0 m c t.val t.isLt).2.2.2 r k := by
  rw [outsAt0_D m c t h0 h1 h2 h3 h4]
  frame_out
  exact pay7_at _ _ _ _ r k

/-- The gradient of the input in the narrow precision, first row tile. -/
theorem dxb_D (h0 : ¬t.val % 4 = 0) (h1 : ¬t.val % 4 ≤ 1) (h2 : 2 ≤ t.val % 4) (h3 : t.val % 4 = 3) (h4 : t.val < 4) (r k : Fin 1024) :
    ((outsAt0 m c t.val t.isLt).2.1 (ix2 r k) : EReal)
      = tDx (iblk m c 3 t) (iblk m c 4 t) (iblk m c 5 t) (outsAt0 m c t.val t.isLt).2.2.2 r k := by
  rw [outsAt0_D m c t h0 h1 h2 h3 h4]
  frame_out
  exact pay8_at _ _ _ _ r k

/-- The gradient of the input, later row tiles. -/
theorem dx_E (h0 : ¬t.val % 4 = 0) (h1 : ¬t.val % 4 ≤ 1) (h2 : 2 ≤ t.val % 4) (h3 : t.val % 4 = 3) (h4 : ¬t.val < 4) (r k : Fin 1024) :
    ((outsAt0 m c t.val t.isLt).1 (ix2 r k) : EReal)
      = tDx (iblk m c 3 t) (iblk m c 4 t) (iblk m c 5 t) (outsAt0 m c t.val t.isLt).2.2.2 r k := by
  rw [outsAt0_E m c t h0 h1 h2 h3 h4]
  frame_out
  exact pay7_at _ _ _ _ r k

/-- The gradient of the input in the narrow precision, later row tiles. -/
theorem dxb_E (h0 : ¬t.val % 4 = 0) (h1 : ¬t.val % 4 ≤ 1) (h2 : 2 ≤ t.val % 4) (h3 : t.val % 4 = 3) (h4 : ¬t.val < 4) (r k : Fin 1024) :
    ((outsAt0 m c t.val t.isLt).2.1 (ix2 r k) : EReal)
      = tDx (iblk m c 3 t) (iblk m c 4 t) (iblk m c 5 t) (outsAt0 m c t.val t.isLt).2.2.2 r k := by
  rw [outsAt0_E m c t h0 h1 h2 h3 h4]
  frame_out
  exact pay8_at _ _ _ _ r k

/-- The gradient of the gain, first row tile: its share over the zeros that it stored. -/
theorem dg_D (h0 : ¬t.val % 4 = 0) (h1 : ¬t.val % 4 ≤ 1) (h2 : 2 ≤ t.val % 4) (h3 : t.val % 4 = 3) (h4 : t.val < 4) (k : Fin 1024) :
    ((outsAt0 m c t.val t.isLt).2.2.1 (ix2 0 k) : EReal)
      = 0 + tDg (iblk m c 3 t) (outsAt0 m c t.val t.isLt).2.2.2 k := by
  rw [outsAt0_D m c t h0 h1 h2 h3 h4]
  frame_out
  refine (pay4_at _ _ _ k).trans (congrArg (fun z : EReal => z + _) ?_)
  pointwise [k0_pay5]

/-- The gradient of the gain, later row tiles. -/
theorem dg_E (h0 : ¬t.val % 4 = 0) (h1 : ¬t.val % 4 ≤ 1) (h2 : 2 ≤ t.val % 4) (h3 : t.val % 4 = 3) (h4 : ¬t.val < 4) (k : Fin 1024) :
    ((outsAt0 m c t.val t.isLt).2.2.1 (ix2 0 k) : EReal)
      = (outsAt0 m c (t.val - 1) (Nat.lt_of_le_of_lt (Nat.sub_le _ _) t.isLt)).2.2.1 (ix2 0 k)
        + tDg (iblk m c 3 t) (outsAt0 m c t.val t.isLt).2.2.2 k := by
  rw [outsAt0_E m c t h0 h1 h2 h3 h4]
  frame_out
  exact pay4_at _ _ _ k

/-- The other points of a row tile leave the gradient of the gain alone. -/
theorem dg_keep (h3 : ¬t.val % 4 = 3) (k : Fin 1024) :
    (outsAt0 m c t.val t.isLt).2.2.1 (ix2 0 k)
      = (outsAt0 m c (t.val - 1) (Nat.lt_of_le_of_lt (Nat.sub_le _ _) t.isLt)).2.2.1 (ix2 0 k) := by
  by_cases h0 : t.val % 4 = 0
  · exact congrArg (fun z => z.2.2.1 (ix2 0 k)) (outsAt0_A m c t h0 (by omega) (by omega) h3)
  · by_cases h1 : t.val % 4 ≤ 1
    · exact congrArg (fun z => z.2.2.1 (ix2 0 k)) (outsAt0_B m c t h0 h1 (by omega) h3)
    · exact congrArg (fun z => z.2.2.1 (ix2 0 k)) (outsAt0_C m c t h0 h1 (by omega) h3)

/-! ## The points together -/

/-- A point's share of the gradient of the normalised input: the gate's half first, then the up half. -/
def share (r k : Fin 1024) : EReal :=
  if t.val % 4 ≤ 1 then tAcc (iblk m c 0 t) (iblk m c 2 t) r k else tAcc (iblk m c 1 t) (iblk m c 2 t) r k

/-- The scratch after the last point of a row tile: the four points' shares. -/
theorem acc_sum (ht : t.val % 4 = 3) (r k : Fin 1024) :
    ((outsAt0 m c t.val t.isLt).2.2.2 (ix2 r k) : EReal)
      = ∑ s : Fin 4, share m c ⟨4 * (t.val / 4) + s.val, Pipeline.run_point_lt_of_flush t ht s⟩ r k := by
  have h := Pipeline.eq_sum_fin_of_reset_step_apply_of_flush (M := EReal)
    (fun n h (y : Fin 1024 × Fin 1024) => (outsAt0 m c n h).2.2.2 (ix2 y.1 y.2)) 4 (fun _ => 0)
    (fun t y => share m c t y.1 y.2)
    (fun t h0 y => by
      refine (acc_A m c t h0 (by omega) (by omega) (by omega) y.1 y.2).trans (congrArg (fun z : EReal => 0 + z) ?_)
      exact (if_pos (by omega)).symm)
    (fun t h0 y => by
      by_cases h1 : t.val % 4 ≤ 1
      · exact (acc_B m c t h0 h1 (by omega) (by omega) y.1 y.2).trans (congrArg (fun z : EReal => _ + z) (if_pos h1).symm)
      · by_cases h3 : t.val % 4 = 3
        · by_cases h4 : t.val < 4
          · exact (acc_D m c t h0 h1 (by omega) h3 h4 y.1 y.2).trans (congrArg (fun z : EReal => _ + z) (if_neg h1).symm)
          · exact (acc_E m c t h0 h1 (by omega) h3 h4 y.1 y.2).trans (congrArg (fun z : EReal => _ + z) (if_neg h1).symm)
        · exact (acc_C m c t h0 h1 (by omega) h3 y.1 y.2).trans (congrArg (fun z : EReal => _ + z) (if_neg h1).symm))
    t ht (r, k)
  rw [zero_add] at h
  exact h

/-- The gradient of the input at the last point of any row tile. -/
theorem dx_out (ht : t.val % 4 = 3) (r k : Fin 1024) :
    ((outsAt0 m c t.val t.isLt).1 (ix2 r k) : EReal)
      = tDx (iblk m c 3 t) (iblk m c 4 t) (iblk m c 5 t) (outsAt0 m c t.val t.isLt).2.2.2 r k := by
  by_cases h4 : t.val < 4
  · exact dx_D m c t (by omega) (by omega) (by omega) ht h4 r k
  · exact dx_E m c t (by omega) (by omega) (by omega) ht h4 r k

/-- The gradient of the input in the narrow precision at the last point of any row tile. -/
theorem dxb_out (ht : t.val % 4 = 3) (r k : Fin 1024) :
    ((outsAt0 m c t.val t.isLt).2.1 (ix2 r k) : EReal)
      = tDx (iblk m c 3 t) (iblk m c 4 t) (iblk m c 5 t) (outsAt0 m c t.val t.isLt).2.2.2 r k := by
  by_cases h4 : t.val < 4
  · exact dxb_D m c t (by omega) (by omega) (by omega) ht h4 r k
  · exact dxb_E m c t (by omega) (by omega) (by omega) ht h4 r k

/-- What the row tile that ends at point `n` adds to the gradient of the gain. -/
def dgTile (n : ℕ) (hn : n < cfg0.N) (k : Fin 1024) : EReal := tDg (iblk m c 3 ⟨n, hn⟩) (outsAt0 m c n hn).2.2.2 k

/-- The gradient of the gain after point `n`. -/
def dgAt (n : ℕ) (hn : n < cfg0.N) (k : Fin 1024) : EReal := (outsAt0 m c n hn).2.2.1 (ix2 0 k)

/-- The first row tile's share is all there is after it. -/
theorem dg_first (n : ℕ) (hn : n < cfg0.N) (h : n = 3) (k : Fin 1024) : dgAt m c n hn k = dgTile m c n hn k :=
  (dg_D m c ⟨n, hn⟩ (by simp only []; omega) (by simp only []; omega) (by simp only []; omega) (by simp only []; omega)
    (by simp only []; omega) k).trans (zero_add _)

/-- A later row tile adds its share to what the tile before it left. -/
theorem dg_step (n n' : ℕ) (hn : n < cfg0.N) (hn' : n' < cfg0.N) (e : n' = n + 4) (h : n % 4 = 3) (k : Fin 1024) :
    dgAt m c n' hn' k = dgAt m c n hn k + dgTile m c n' hn' k := by
  subst e
  have e := dg_E m c ⟨n + 4, hn'⟩ (by simp only []; omega) (by simp only []; omega) (by simp only []; omega) (by simp only []; omega)
    (by simp only []; omega) k
  have e1 := dg_keep m c ⟨n + 3, by omega⟩ (by simp only []; omega) k
  have e2 := dg_keep m c ⟨n + 2, by omega⟩ (by simp only []; omega) k
  have e3 := dg_keep m c ⟨n + 1, by omega⟩ (by simp only []; omega) k
  exact e.trans (congrArg (fun z : EReal => z + _) (e1.trans (e2.trans e3)))

/-- The gradient of the gain after the last point: the four row tiles' shares. -/
theorem dg_out (h3 : 3 < cfg0.N) (h7 : 7 < cfg0.N) (h11 : 11 < cfg0.N) (h15 : 15 < cfg0.N) (k : Fin 1024) :
    dgAt m c 15 h15 k = dgTile m c 3 h3 k + dgTile m c 7 h7 k + dgTile m c 11 h11 k + dgTile m c 15 h15 k := by
  rw [dg_step m c 11 15 h11 h15 rfl rfl, dg_step m c 7 11 h7 h11 rfl rfl, dg_step m c 3 7 h3 h7 rfl rfl, dg_first m c 3 h3 rfl]

end Cert.Kernel2Ideal.UpBwd

end

end
-- ==== Proof.UpBlocks.lean ====
/- The blocks of the feed-forward's backward kernel as parts of the arrays it is given, and its three results over those
   arrays: the four column tiles of a row tile make one sum over the 5632 columns of the weight, the four row tiles one sum
   over the 4096 tokens. -/
module

public import proofs.«01_k».proof.Proof.UpSweep
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.UpBwd

open Cert.Kernel2Ideal Cert.Kernel2Ideal.Gen

/-- A sum over tiles of a sum inside the tile is the whole sum. -/
theorem sum_tiles (a b n : ℕ) (hn : n = a * b) (f : Fin n → EReal) (g : Fin a → Fin b → EReal)
    (h : ∀ s i (k : Fin n), k.val = s.val * b + i.val → g s i = f k) : ∑ s, ∑ i, g s i = ∑ k, f k := by
  subst hn
  rw [← Fintype.sum_prod_type']
  refine Fintype.sum_equiv finProdFinEquiv _ _ fun x => h x.1 x.2 _ ?_
  show x.2.val + b * x.1.val = _
  rw [mul_comm, add_comm]

/-! ## The gradients over the arrays that the kernel reads

`dG` and `dU` are the gradients of the up projection's two halves, `W` its weight, `X` the input, `G` the norm's gain, `R`
what the residual brings. -/

section Arrays

variable (dG dU : FVec Ideal S4096x2816 .bf16) (W : FVec Ideal S1024x5632 .bf16) (X : FVec Ideal S4096x1024 .f32)
  (G : FVec Ideal S1x1024 .f32) (R : FVec Ideal S4096x1024 .f32)

/-- The two halves side by side. -/
def aDh (i : Fin 4096) (n : Fin 5632) : EReal :=
  if h : n.val < 2816 then dG (ix2 i ⟨n.val, h⟩) else dU (ix2 i ⟨n.val - 2816, by omega⟩)

/-- The gradient of the normalised input. -/
def aY (i : Fin 4096) (k : Fin 1024) : EReal := ∑ n : Fin 5632, aDh dG dU i n * W (ix2 k n)

/-- The mean square of a token's row, with the epsilon. -/
def aMean (i : Fin 4096) : EReal :=
  Ideal.div (∑ k : Fin 1024, X (ix2 i k) * X (ix2 i k)) (Ideal.ofBits .f32 0x44800000#32) + Ideal.ofBits .f32 0x358637BD#32

/-- The gradient of the input. -/
def aDx (i : Fin 4096) (k : Fin 1024) : EReal :=
  (Ideal.rsqrt (aMean X i) * (aY dG dU W i k * G (ix2 0 k))
      - X (ix2 i k) * ((Ideal.rsqrt (aMean X i) * Ideal.rsqrt (aMean X i) * Ideal.rsqrt (aMean X i))
        * Ideal.div (∑ l : Fin 1024, (aY dG dU W i l * G (ix2 0 l)) * X (ix2 i l)) (Ideal.ofBits .f32 0x44800000#32)))
    + R (ix2 i k)

/-- What the tokens of row tile `s` bring to the gradient of the gain. -/
def aDgRows (s : Fin 4) (k : Fin 1024) : EReal :=
  ∑ r : Fin 1024, (aY dG dU W ⟨s.val * 1024 + r.val, by omega⟩ k * X (ix2 ⟨s.val * 1024 + r.val, by omega⟩ k))
    * Ideal.rsqrt (aMean X ⟨s.val * 1024 + r.val, by omega⟩)

/-- The gradient of the gain. -/
def aDg (k : Fin 1024) : EReal := ∑ i : Fin 4096, (aY dG dU W i k * X (ix2 i k)) * Ideal.rsqrt (aMean X i)

/-- The gradient of the input as an array, in either precision. -/
def dxArr : S4096x1024.Idx → EReal := fun y => aDx dG dU W X G R (y 0) (y 1)

/-- The gradient of the gain as an array. -/
def dgArr : S1x1024.Idx → EReal := fun y => aDg dG dU W X (y 1)

end Arrays

/-- The blocks of point `t`: row tile `t / 4`, column tile `t % 4`. -/
theorem idx : ∀ t : Fin cfg0.N, win0_0.index t = ![t.val / 4, min (t.val % 4) 1] ∧ win0_1.index t = ![t.val / 4, t.val % 4 - 2]
    ∧ win0_2.index t = ![0, t.val % 4] ∧ win0_3.index t = ![t.val / 4, 0]
    ∧ win0_4.index t = ![0, 0] ∧ win0_5.index t = ![t.val / 4, 0]
    ∧ win0_6.index t = ![t.val / 4, 0] ∧ win0_7.index t = ![t.val / 4, 0]
    ∧ win0_8.index t = ![0, 0] ∧ t.val / 4 < 4 :=
  (by decide +kernel : ∀ t : Fin grid0.N, _)

section Reads

variable (c : Dev nD) (W : (b : Ref sig .tc) → Buf (Elt Ideal) ((c : Thread nD τ).loc b)) (t : Fin cfg0.N)

/-- Window 0's block is the gate half's gradient there. -/
theorem read0 (r : Fin 1024) (l : Fin 1408) (i : Fin 4096) (n : Fin 2816)
    (hi : i.val = (t.val / 4) * 1024 + r.val) (hn : n.val = min (t.val % 4) 1 * 1408 + l.val) :
    (show FVec Ideal S1024x1408 .bf16 from ((cfg0.win 0).blk t).view.read (Elt Ideal) (W (Pipeline.arrRef spec0 0))) (ix2 r l)
      = (show FVec Ideal S4096x2816 .bf16 from W main_arg3) (ix2 i n) := by
  blk_ext [idx t]

/-- Window 1's block is the up half's gradient there. -/
theorem read1 (r : Fin 1024) (l : Fin 1408) (i : Fin 4096) (n : Fin 2816)
    (hi : i.val = (t.val / 4) * 1024 + r.val) (hn : n.val = (t.val % 4 - 2) * 1408 + l.val) :
    (show FVec Ideal S1024x1408 .bf16 from ((cfg0.win 1).blk t).view.read (Elt Ideal) (W (Pipeline.arrRef spec0 1))) (ix2 r l)
      = (show FVec Ideal S4096x2816 .bf16 from W main_arg4) (ix2 i n) := by
  blk_ext [idx t]

/-- Window 2's block is the weight's columns there. -/
theorem read2 (k : Fin 1024) (l : Fin 1408) (n : Fin 5632) (hn : n.val = (t.val % 4) * 1408 + l.val) :
    (show FVec Ideal S1024x1408 .bf16 from ((cfg0.win 2).blk t).view.read (Elt Ideal) (W (Pipeline.arrRef spec0 2))) (ix2 k l)
      = (show FVec Ideal S1024x5632 .bf16 from W main_v0) (ix2 k n) := by
  blk_ext [idx t]

/-- Window 3's block is the input's rows there. -/
theorem read3 (r k : Fin 1024) (i : Fin 4096) (hi : i.val = (t.val / 4) * 1024 + r.val) :
    (show FVec Ideal S1024x1024 .f32 from ((cfg0.win 3).blk t).view.read (Elt Ideal) (W (Pipeline.arrRef spec0 3))) (ix2 r k)
      = (show FVec Ideal S4096x1024 .f32 from W main_arg0) (ix2 i k) := by
  blk_ext [idx t]

/-- Window 4's block is the gain. -/
theorem read4 (k : Fin 1024) :
    (show FVec Ideal S1x1024 .f32 from ((cfg0.win 4).blk t).view.read (Elt Ideal) (W (Pipeline.arrRef spec0 4))) (ix2 0 k)
      = (show FVec Ideal S1x1024 .f32 from W main_v1) (ix2 0 k) := by
  blk_ext [idx t]

/-- Window 5's block is the residual's gradient there. -/
theorem read5 (r k : Fin 1024) (i : Fin 4096) (hi : i.val = (t.val / 4) * 1024 + r.val) :
    (show FVec Ideal S1024x1024 .f32 from ((cfg0.win 5).blk t).view.read (Elt Ideal) (W (Pipeline.arrRef spec0 5))) (ix2 r k)
      = (show FVec Ideal S4096x1024 .f32 from W main_arg5) (ix2 i k) := by
  blk_ext [idx t]

end Reads

variable (m : (ℓ : Loc nD τ sig) → Buf (Elt Ideal) ℓ) (c : Dev nD)

/-- The input as the kernel finds it. -/
abbrev arrX : FVec Ideal S4096x1024 .f32 := V m c main_arg0
/-- The norm's gain as the kernel finds it. -/
abbrev arrG : FVec Ideal S1x1024 .f32 := V m c main_v1
/-- The weight as the kernel finds it. -/
abbrev arrW : FVec Ideal S1024x5632 .bf16 := V m c main_v0
/-- The gradient of the gate half as the kernel finds it. -/
abbrev arrDG : FVec Ideal S4096x2816 .bf16 := V m c main_arg3
/-- The gradient of the up half as the kernel finds it. -/
abbrev arrDU : FVec Ideal S4096x2816 .bf16 := V m c main_arg4
/-- The residual's gradient as the kernel finds it. -/
abbrev arrR : FVec Ideal S4096x1024 .f32 := V m c main_arg5

/-- A point's share, over the arrays: the columns of its column tile. -/
theorem share_eq (t : Fin cfg0.N) (s : Fin 4) (hs : s.val = t.val % 4) (r k : Fin 1024) (i : Fin 4096)
    (hi : i.val = (t.val / 4) * 1024 + r.val) :
    share m c t r k = ∑ l : Fin 1408, aDh (arrDG m c) (arrDU m c) i ⟨s.val * 1408 + l.val, by omega⟩
      * arrW m c (ix2 k ⟨s.val * 1408 + l.val, by omega⟩) := by
  unfold share
  by_cases h1 : t.val % 4 ≤ 1
  · rw [if_pos h1]
    refine Finset.sum_congr rfl fun l _ => congrArg₂ (fun x y : EReal => x * y) ?_ ?_
    · unfold aDh
      rw [dif_pos (show s.val * 1408 + l.val < 2816 by omega)]
      exact read0 c (V m c) t r l i _ hi (by simp only []; rw [Nat.min_eq_left h1, hs])
    · exact read2 c (V m c) t k l _ (by simp only []; rw [hs])
  · rw [if_neg h1]
    refine Finset.sum_congr rfl fun l _ => congrArg₂ (fun x y : EReal => x * y) ?_ ?_
    · unfold aDh
      rw [dif_neg (show ¬s.val * 1408 + l.val < 2816 by omega)]
      exact read1 c (V m c) t r l i _ hi (by simp only []; omega)
    · exact read2 c (V m c) t k l _ (by simp only []; rw [hs])

/-- The scratch after a row tile's last point: the gradient of the normalised input. -/
theorem acc_eq (t : Fin cfg0.N) (ht : t.val % 4 = 3) (r k : Fin 1024) (i : Fin 4096) (hi : i.val = (t.val / 4) * 1024 + r.val) :
    ((outsAt0 m c t.val t.isLt).2.2.2 (ix2 r k) : EReal) = aY (arrDG m c) (arrDU m c) (arrW m c) i k := by
  refine (acc_sum m c t ht r k).trans ?_
  refine (Finset.sum_congr rfl fun s _ => share_eq m c ⟨4 * (t.val / 4) + s.val, Pipeline.run_point_lt_of_flush t ht s⟩ s (by simp only []; omega) r k i (by simp only []; omega)).trans ?_
  exact sum_tiles 4 1408 5632 rfl _ _ fun s l n hn => by
    have e : n = ⟨s.val * 1408 + l.val, by clear hn n; omega⟩ := Fin.ext hn
    subst e
    rfl

/-- The reciprocal root of a row of a tile. -/
theorem root_eq (t : Fin cfg0.N) (r : Fin 1024) (i : Fin 4096) (hi : i.val = (t.val / 4) * 1024 + r.val) :
    tRoot (iblk m c 3 t) r = Ideal.rsqrt (aMean (arrX m c) i) := by
  unfold tRoot aMean
  refine congrArg (fun x : EReal => Ideal.rsqrt (Ideal.div x (Ideal.ofBits .f32 0x44800000#32) + Ideal.ofBits .f32 0x358637BD#32)) ?_
  refine Finset.sum_congr rfl fun k _ => ?_
  have e := read3 c (V m c) t r k i hi
  exact congrArg₂ (fun x y : EReal => x * y) e e

/-- What a row tile's last point makes of its scratch. -/
theorem tDx_eq (t : Fin cfg0.N) (ht : t.val % 4 = 3) (r k : Fin 1024) (i : Fin 4096) (hi : i.val = (t.val / 4) * 1024 + r.val) :
    tDx (iblk m c 3 t) (iblk m c 4 t) (iblk m c 5 t) (outsAt0 m c t.val t.isLt).2.2.2 r k
      = aDx (arrDG m c) (arrDU m c) (arrW m c) (arrX m c) (arrG m c) (arrR m c) i k := by
  have hY : ∀ l : Fin 1024, ((outsAt0 m c t.val t.isLt).2.2.2 (ix2 r l) : EReal) * (iblk m c 4 t : FVec Ideal S1x1024 .f32) (ix2 0 l)
      = aY (arrDG m c) (arrDU m c) (arrW m c) i l * arrG m c (ix2 0 l) := fun l =>
    congrArg₂ (fun x y : EReal => x * y) (acc_eq m c t ht r l i hi) (read4 c (V m c) t l)
  have hX : ∀ l : Fin 1024, (iblk m c 3 t : FVec Ideal S1024x1024 .f32) (ix2 r l) = arrX m c (ix2 i l) := fun l => read3 c (V m c) t r l i hi
  have hR : (iblk m c 5 t : FVec Ideal S1024x1024 .f32) (ix2 r k) = arrR m c (ix2 i k) := read5 c (V m c) t r k i hi
  unfold tDx aDx
  rw [root_eq m c t r i hi]
  refine congrArg₂ (fun x y : EReal => x + y) (congrArg₂ (fun x y : EReal => x - y) ?_ ?_) hR
  · exact congrArg (fun x : EReal => _ * x) (hY k)
  · refine congrArg₂ (fun x y : EReal => x * y) (hX k) (congrArg₂ (fun x y : EReal => x * y) rfl
      (congrArg (fun x : EReal => Ideal.div x (Ideal.ofBits .f32 0x44800000#32)) ?_))
    exact Finset.sum_congr rfl fun l _ => congrArg₂ (fun x y : EReal => x * y) (hY l) (hX l)

/-- What a row tile adds to the gradient of the gain. -/
theorem dgTile_eq (n : ℕ) (hn : n < cfg0.N) (s : Fin 4) (hs : n = 4 * s.val + 3) (k : Fin 1024) :
    dgTile m c n hn k = aDgRows (arrDG m c) (arrDU m c) (arrW m c) (arrX m c) s k := by
  unfold dgTile tDg aDgRows
  refine Finset.sum_congr rfl fun r _ => congrArg₂ (fun x y : EReal => x * y) (congrArg₂ (fun x y : EReal => x * y) ?_ ?_) ?_
  · exact acc_eq m c ⟨n, hn⟩ (by simp only []; omega) r k _ (by simp only []; omega)
  · exact read3 c (V m c) ⟨n, hn⟩ r k _ (by simp only []; omega)
  · exact root_eq m c ⟨n, hn⟩ r _ (by simp only []; omega)

/-- The gradient of the gain after the last point. -/
theorem dg_eq (h15 : 15 < cfg0.N) (k : Fin 1024) :
    dgAt m c 15 h15 k = aDg (arrDG m c) (arrDU m c) (arrW m c) (arrX m c) k := by
  have hN : cfg0.N = 16 := N_0
  rw [dg_out m c (by omega) (by omega) (by omega) h15, dgTile_eq m c 3 _ 0 rfl, dgTile_eq m c 7 _ 1 rfl,
    dgTile_eq m c 11 _ 2 rfl, dgTile_eq m c 15 _ 3 rfl]
  refine Eq.trans (Fin.sum_univ_four (fun s => aDgRows (arrDG m c) (arrDU m c) (arrW m c) (arrX m c) s k)).symm ?_
  unfold aDgRows aDg
  exact sum_tiles 4 1024 4096 rfl _ _ fun s r n hn => by
    have e : n = ⟨s.val * 1024 + r.val, by clear hn n; omega⟩ := Fin.ext hn
    subst e
    rfl

end Cert.Kernel2Ideal.UpBwd

end

end
-- ==== Proof.UpRef.lean ====
/- The second reference, the derivative of the residual, norm and up projection, read at an index over its arguments. -/
module

public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.Up

open Cert.Reference2Ideal Cert.Reference2Ideal.Gen Cert.Reference2Ideal.Read

variable (x : FVec Ideal S4096x1024 .f32) (g : FVec Ideal S1024 .f32) (w : FVec Ideal S1024x5632 .f32)
  (dG dU : FVec Ideal S4096x2816 .bf16) (R : FVec Ideal S4096x1024 .f32)

/-- The two halves side by side. -/
theorem v1_at (i : Fin 4096) (n : Fin 5632) :
    val_main_v1 (F := Ideal) dG dU (ix2 i n)
      = if h : n.val < 2816 then dG (ix2 i ⟨n.val, h⟩) else dU (ix2 i ⟨n.val - 2816, by omega⟩) := by
  unfold val_main_v1 val_main_v0
  pointwise

/-- The mean square with the epsilon. -/
theorem v8_at (i : Fin 4096) :
    val_main_v8 (F := Ideal) x (ix2 i 0)
      = Ideal.div (∑ k : Fin 1024, x (ix2 i k) * x (ix2 i k)) (Ideal.ofBits .f32 0x44800000#32) + Ideal.ofBits .f32 0x358637BD#32 := by
  unfold val_main_v8 val_main_v7 val_main_v6 val_main_v5 val_main_v4 val_main_v3 val_main_v2 val_main_cst val_main_cst_0 val_main_cst_1
  pointwise

/-- Its reciprocal root. -/
theorem v9_at (i : Fin 4096) : val_main_v9 (F := Ideal) x (ix2 i 0) = Ideal.rsqrt (val_main_v8 (F := Ideal) x (ix2 i 0)) := by
  unfold val_main_v9
  generalize val_main_v8 (F := Ideal) x = v
  pointwise

/-- The derivative of the reciprocal root. -/
theorem v12_at (i : Fin 4096) :
    val_main_v12 (F := Ideal) x (ix2 i 0)
      = Ideal.ofBits .f32 0xBF000000#32 * Ideal.div (val_main_v9 (F := Ideal) x (ix2 i 0)) (val_main_v8 (F := Ideal) x (ix2 i 0)) := by
  unfold val_main_v12 val_main_v11 val_main_v10 val_main_cst_2
  generalize val_main_v9 (F := Ideal) x = r
  generalize val_main_v8 (F := Ideal) x = v
  pointwise

/-- The gradient of the normalised input. -/
theorem v19_at (i : Fin 4096) (k : Fin 1024) :
    val_main_v19 (F := Ideal) w dG dU (ix2 i k) = ∑ n : Fin 5632, val_main_v1 (F := Ideal) dG dU (ix2 i n) * w (ix2 k n) := by
  unfold val_main_v19
  generalize val_main_v1 (F := Ideal) dG dU = d
  pointwise

/-- The gradient of the gain, one column. -/
theorem v42_at (k : Fin 1024) :
    val_main_v42 (F := Ideal) x w dG dU (ix2 0 k)
      = ∑ i : Fin 4096, (x (ix2 i k) * val_main_v9 (F := Ideal) x (ix2 i 0)) * val_main_v19 (F := Ideal) w dG dU (ix2 i k) := by
  unfold val_main_v42 val_main_v25 val_main_v22 val_main_v21 val_main_v20 val_main_v14 val_main_v13 val_main_cst_3 val_main_cst_4
  generalize val_main_v9 (F := Ideal) x = r
  generalize val_main_v19 (F := Ideal) w dG dU = y
  pointwise
  exact Fintype.sum_unique (ι := Fin 1) _

/-- The gradient of the norm before its gain. -/
theorem v24_at (i : Fin 4096) (k : Fin 1024) :
    val_main_v24 (F := Ideal) g w dG dU (ix2 i k) = val_main_v19 (F := Ideal) w dG dU (ix2 i k) * g (ix1 k) := by
  unfold val_main_v24 val_main_v23 val_main_v15
  generalize val_main_v19 (F := Ideal) w dG dU = y
  pointwise

/-- The row's sum of entries times gradients. -/
theorem v28_at (i : Fin 4096) :
    val_main_v28 (F := Ideal) x g w dG dU (ix2 i 0) = ∑ l : Fin 1024, x (ix2 i l) * val_main_v24 (F := Ideal) g w dG dU (ix2 i l) := by
  unfold val_main_v28 val_main_v27 val_main_v26 val_main_cst_5
  generalize val_main_v24 (F := Ideal) g w dG dU = y
  pointwise

/-- What reaches every entry of a row through the mean. -/
theorem v36_at (i : Fin 4096) (k : Fin 1024) :
    val_main_v36 (F := Ideal) x g w dG dU (ix2 i k)
      = Ideal.div (val_main_v28 (F := Ideal) x g w dG dU (ix2 i 0) * val_main_v12 (F := Ideal) x (ix2 i 0)) (Ideal.ofBits .f32 0x44800000#32) := by
  unfold val_main_v36 val_main_v35 val_main_v34 val_main_v33 val_main_v32 val_main_cst_6 val_main_cst_7
  generalize val_main_v28 (F := Ideal) x g w dG dU = s
  generalize val_main_v12 (F := Ideal) x = r
  pointwise
  exact Fintype.sum_unique (ι := Fin 1) _

/-- The gradient of the input. -/
theorem v40_at (i : Fin 4096) (k : Fin 1024) :
    val_main_v40 (F := Ideal) x g w dG dU R (ix2 i k)
      = ((R (ix2 i k) + val_main_v24 (F := Ideal) g w dG dU (ix2 i k) * val_main_v9 (F := Ideal) x (ix2 i 0))
          + x (ix2 i k) * val_main_v36 (F := Ideal) x g w dG dU (ix2 i k))
        + val_main_v36 (F := Ideal) x g w dG dU (ix2 i k) * x (ix2 i k) := by
  unfold val_main_v40 val_main_v39 val_main_v38 val_main_v37 val_main_v31 val_main_v30 val_main_v29
  generalize val_main_v24 (F := Ideal) g w dG dU = y
  generalize val_main_v36 (F := Ideal) x g w dG dU = s
  generalize val_main_v9 (F := Ideal) x = r
  pointwise

/-- The gradient of the input in the narrow precision. -/
theorem v41_at (i : Fin 4096) (k : Fin 1024) :
    (val_main_v41 (F := Ideal) x g w dG dU R (ix2 i k) : EReal) = val_main_v40 (F := Ideal) x g w dG dU R (ix2 i k) := by
  unfold val_main_v41
  generalize val_main_v40 (F := Ideal) x g w dG dU R = y
  pointwise

end Cert.Reference2Ideal.Up

end

end
-- ==== Proof.NormModel.lean ====
/- The gradient of the RMS norm at one entry, over the extended reals: the derivative as the chain rule writes it, through
   the reciprocal root and the mean, equals the kernel's closed form with the cube of the reciprocal root. No entry has to be
   finite. -/
module

public import Mathlib.Analysis.SpecialFunctions.Log.Basic
public import Idealize.ShloMosaic.PureOps.Ideal.Laws

@[expose] public section

noncomputable section

namespace Cert.NormModel

open Idealize.ShloMosaic

/-- The word of 1024. -/
theorem word_1024 : Ideal.ofBits .f32 0x44800000#32 = ((1024 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul]; norm_num

/-- The word of the norm's epsilon is positive. -/
theorem eps_pos : (0 : EReal) < Ideal.ofBits .f32 0x358637BD#32 := by
  simp [Ideal.ofBits, Ideal.ieee, -EReal.coe_mul]

/-- A square is not negative. -/
theorem square_nonneg (x : EReal) : 0 ≤ x * x := by
  induction x with
  | bot => simp
  | top => simp
  | coe r => rw [← EReal.coe_mul]; exact_mod_cast mul_self_nonneg r

/-- The quotient by 1024 is the product with its inverse. -/
theorem div_1024 (x : EReal) : Ideal.div x (Ideal.ofBits .f32 0x44800000#32) = x * ((1 / 1024 : ℝ) : EReal) := by
  rw [word_1024]; exact Ideal.div_coe (by norm_num) x

/-- The mean square with the epsilon is positive. -/
theorem mean_pos {n : ℕ} (X : Fin n → EReal) :
    0 < Ideal.div (∑ k, X k * X k) (Ideal.ofBits .f32 0x44800000#32) + Ideal.ofBits .f32 0x358637BD#32 := by
  rw [div_1024]
  have h : (0 : EReal) ≤ (∑ k, X k * X k) * ((1 / 1024 : ℝ) : EReal) :=
    mul_nonneg (Finset.sum_nonneg fun k _ => square_nonneg _) (by exact_mod_cast (by norm_num : (0 : ℝ) ≤ 1 / 1024))
  exact lt_of_lt_of_le eps_pos (le_add_of_nonneg_left h)

/-- The reciprocal root over its argument is the reciprocal root's cube. -/
theorem root_cube (v : EReal) (hv : 0 < v) : Ideal.div (Ideal.rsqrt v) v = Ideal.rsqrt v * Ideal.rsqrt v * Ideal.rsqrt v := by
  induction v with
  | bot => exact absurd hv (by simp)
  | top => simp [Ideal.div]
  | coe x =>
    have hx : 0 < x := by exact_mod_cast hv
    rw [Ideal.rsqrt_coe, if_neg (not_lt.mpr hx.le), if_neg hx.ne', Ideal.div_coe hx.ne', ← EReal.coe_mul, ← EReal.coe_mul, ← EReal.coe_mul]
    congr 1
    have hs : Real.sqrt x * Real.sqrt x = x := Real.mul_self_sqrt hx.le
    have h0 : Real.sqrt x ≠ 0 := (Real.sqrt_pos.mpr hx).ne'
    rw [mul_assoc, ← mul_inv, hs, one_div]

/-- Twice a number. -/
theorem add_self (y : EReal) : y + y = y * ((2 : ℝ) : EReal) := by
  induction y with
  | bot => rw [EReal.bot_mul_coe_of_pos (by norm_num)]; rfl
  | top => rw [EReal.top_mul_coe_of_pos (by norm_num)]; rfl
  | coe r => rw [← EReal.coe_add, ← EReal.coe_mul]; congr 1; ring

/-- The chain rule's term through the reciprocal root, which it adds twice; `c` is the mean's factor. -/
theorem root_term (X S q c : EReal) :
    X * (S * (((-(1 / 2) : ℝ) : EReal) * q) * c) + S * (((-(1 / 2) : ℝ) : EReal) * q) * c * X = -(X * (q * (S * c))) := by
  rw [mul_comm _ X, add_self]
  have e : (((-(1 / 2) : ℝ) : EReal)) * ((2 : ℝ) : EReal) = -1 := by
    rw [← EReal.coe_mul]; norm_num
  calc X * (S * (((-(1 / 2) : ℝ) : EReal) * q) * c) * ((2 : ℝ) : EReal)
      = ((((-(1 / 2) : ℝ) : EReal)) * ((2 : ℝ) : EReal)) * (X * (q * (S * c))) := by ac_rfl
    _ = -(X * (q * (S * c))) := by rw [e, EReal.neg_mul, one_mul]

/-- The gradient at one entry: `X` the entry, `Y` the gradient of its scaled norm, `g` the gain, `D` what the residual brings,
    `S` the row's sum of entries times gradients, `v` the mean square with the epsilon. -/
theorem dx_eq (X Y g D S v : EReal) (hv : 0 < v) :
    ((D + Y * g * Ideal.rsqrt v)
        + X * Ideal.div (S * (Ideal.ofBits .f32 0xBF000000#32 * Ideal.div (Ideal.rsqrt v) v)) (Ideal.ofBits .f32 0x44800000#32))
        + Ideal.div (S * (Ideal.ofBits .f32 0xBF000000#32 * Ideal.div (Ideal.rsqrt v) v)) (Ideal.ofBits .f32 0x44800000#32) * X
      = (Ideal.rsqrt v * (Y * g)
          - X * ((Ideal.rsqrt v * Ideal.rsqrt v * Ideal.rsqrt v) * Ideal.div S (Ideal.ofBits .f32 0x44800000#32))) + D := by
  rw [div_1024, div_1024, root_cube v hv, word_neg_half, add_assoc, root_term, sub_eq_add_neg, mul_comm (Y * g)]
  ac_rfl

end Cert.NormModel

end

end
-- ==== Proof.UpEquation.lean ====
/- The three results of the feed-forward's backward kernel after the run, and that they are the second reference's, whatever
   the arguments hold. -/
module

public import proofs.«01_k».proof.Proof.UpBlocks
public import proofs.«01_k».proof.Proof.UpRef
public import proofs.«01_k».proof.Proof.NormModel
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel2Ideal.UpBwd

open Cert.Kernel2Ideal Cert.Kernel2Ideal.Gen Cert.Reference2Ideal.Read Cert.Reference2Ideal.Up

variable (m : (ℓ : Loc nD τ sig) → Buf (Elt Ideal) ℓ) (c : Dev nD)

/-! ## The arrays after the run -/

/-- An index of two axes by its coordinates. -/
theorem ix_eta (a b : ℕ) (y : (⟨2, ![a, b]⟩ : Shape).Idx) : y = ix2 (y 0) (y 1) := by
  funext i
  match i with
  | ⟨0, _⟩ => rfl
  | ⟨1, _⟩ => rfl

/-- The gradient of the input after the run. -/
theorem final_dx : (dats m 0 c).arrAt 6 (cfgs 0).N
    = dxArr (arrDG m c) (arrDU m c) (arrW m c) (arrX m c) (arrG m c) (arrR m c) := by
  refine (dats m 0 c).arrAt_eq_of_covers 6 _ (by decide +kernel) fun t hf y => ?_
  blk_simp
  rw [after0_6]
  have ht : t.val % 4 = 3 := (flush0_6 t).mp hf
  have hb : t.val / 4 < 4 := (idx t).2.2.2.2.2.2.2.2.2
  have hy0 : (y 0 : ℕ) < 1024 := (y 0).isLt
  have e := (dx_out m c t ht (y 0) (y 1)).trans (tDx_eq m c t ht (y 0) (y 1) ⟨t.val / 4 * 1024 + (y 0 : ℕ), by omega⟩ rfl)
  refine Eq.trans (congrArg _ (ix_eta 1024 1024 y)) (e.trans (Eq.symm ?_))
  unfold dxArr
  refine congrArg₂ (aDx (arrDG m c) (arrDU m c) (arrW m c) (arrX m c) (arrG m c) (arrR m c)) (Fin.ext ?_) (Fin.ext ?_)
  all_goals (blk_simp [idx t] <;> (try simp only []) <;> (try omega))

/-- The gradient of the input in the narrow precision after the run. -/
theorem final_dxb : (dats m 0 c).arrAt 7 (cfgs 0).N
    = dxArr (arrDG m c) (arrDU m c) (arrW m c) (arrX m c) (arrG m c) (arrR m c) := by
  refine (dats m 0 c).arrAt_eq_of_covers 7 _ (by decide +kernel) fun t hf y => ?_
  blk_simp
  rw [after0_7]
  have ht : t.val % 4 = 3 := (flush0_7 t).mp hf
  have hb : t.val / 4 < 4 := (idx t).2.2.2.2.2.2.2.2.2
  have hy0 : (y 0 : ℕ) < 1024 := (y 0).isLt
  have e := (dxb_out m c t ht (y 0) (y 1)).trans (tDx_eq m c t ht (y 0) (y 1) ⟨t.val / 4 * 1024 + (y 0 : ℕ), by omega⟩ rfl)
  refine Eq.trans (congrArg _ (ix_eta 1024 1024 y)) (e.trans (Eq.symm ?_))
  unfold dxArr
  refine congrArg₂ (aDx (arrDG m c) (arrDU m c) (arrW m c) (arrX m c) (arrG m c) (arrR m c)) (Fin.ext ?_) (Fin.ext ?_)
  all_goals (blk_simp [idx t] <;> (try simp only []) <;> (try omega))

/-- The gradient of the gain after the last point, read at an index of its block. -/
theorem dg_at (t : Fin cfg0.N) (ht : t.val = 15) (k : Fin 1024) :
    (outsAt0 m c t.val t.isLt).2.2.1 (ix2 0 k) = aDg (arrDG m c) (arrDU m c) (arrW m c) (arrX m c) k := by
  obtain ⟨n, hn⟩ := t
  simp only [] at ht
  subst ht
  exact dg_eq m c hn k

/-- The gradient of the gain after the run. -/
theorem final_dg : (dats m 0 c).arrAt 8 (cfgs 0).N = dgArr (arrDG m c) (arrDU m c) (arrW m c) (arrX m c) := by
  refine (dats m 0 c).arrAt_eq_of_covers 8 _ (by decide +kernel) fun t hf y => ?_
  blk_simp
  rw [after0_8]
  have ht : t.val % 16 = 15 := (flush0_8 t).mp hf
  have hN : t.val < 16 := lt_of_lt_of_eq t.isLt N_0
  have hy0 : (y 0 : ℕ) < 1 := (y 0).isLt
  have ey : y = ix2 (0 : Fin 1) (y 1) := by
    funext a
    match a with
    | ⟨0, _⟩ => exact Fin.ext (show (y 0 : ℕ) = 0 by omega)
    | ⟨1, _⟩ => rfl
  refine Eq.trans (congrArg _ ey) ((dg_at m c t (by omega) (y 1)).trans (Eq.symm ?_))
  unfold dgArr
  refine congrArg (aDg (arrDG m c) (arrDU m c) (arrW m c) (arrX m c)) (Fin.ext ?_)
  blk_simp [idx t] <;> (try simp only []) <;> (try omega)

/-! ## The arrays are the reference's -/

abbrev argX : FVec Ideal S4096x1024 .f32 := m ((c : Thread nD τ).loc main_arg0)
abbrev argG : FVec Ideal S1024 .f32 := m ((c : Thread nD τ).loc main_arg1)
abbrev argW : FVec Ideal S1024x5632 .f32 := m ((c : Thread nD τ).loc main_arg2)
abbrev argDG : FVec Ideal S4096x2816 .bf16 := m ((c : Thread nD τ).loc main_arg3)
abbrev argDU : FVec Ideal S4096x2816 .bf16 := m ((c : Thread nD τ).loc main_arg4)
abbrev argR : FVec Ideal S4096x1024 .f32 := m ((c : Thread nD τ).loc main_arg5)

/-- The weight that the kernel finds. -/
theorem arrW_at (k : Fin 1024) (n : Fin 5632) : (arrW m c (ix2 k n) : EReal) = argW m c (ix2 k n) := by
  unfold arrW
  entry_read
  pointwise

/-- The gain that the kernel finds. -/
theorem arrG_at (k : Fin 1024) : arrG m c (ix2 0 k) = argG m c (ix1 k) := by
  unfold arrG
  entry_read
  pointwise

theorem arrX_eq : arrX m c = argX m c := by unfold arrX; entry_read; rfl
theorem arrDG_eq : arrDG m c = argDG m c := by unfold arrDG; entry_read; rfl
theorem arrDU_eq : arrDU m c = argDU m c := by unfold arrDU; entry_read; rfl
theorem arrR_eq : arrR m c = argR m c := by unfold arrR; entry_read; rfl

/-- The gradient of the normalised input is the reference's. -/
theorem aY_ref (i : Fin 4096) (k : Fin 1024) :
    aY (arrDG m c) (arrDU m c) (arrW m c) i k = val_main_v19 (F := Ideal) (argW m c) (argDG m c) (argDU m c) (ix2 i k) := by
  rw [v19_at, arrDG_eq, arrDU_eq]
  refine Finset.sum_congr rfl fun n _ => ?_
  rw [v1_at, arrW_at]
  rfl

/-- The mean square is the reference's. -/
theorem aMean_ref (i : Fin 4096) : aMean (arrX m c) i = val_main_v8 (F := Ideal) (argX m c) (ix2 i 0) := by
  rw [v8_at, arrX_eq]
  rfl

/-- The mean square with the epsilon is positive. -/
theorem aMean_pos (X : FVec Ideal S4096x1024 .f32) (i : Fin 4096) : 0 < aMean X i := Cert.NormModel.mean_pos fun k => X (ix2 i k)

/-- The gradient of the input is the reference's. -/
theorem aDx_ref (i : Fin 4096) (k : Fin 1024) :
    aDx (arrDG m c) (arrDU m c) (arrW m c) (arrX m c) (arrG m c) (arrR m c) i k
      = val_main_v40 (F := Ideal) (argX m c) (argG m c) (argW m c) (argDG m c) (argDU m c) (argR m c) (ix2 i k) := by
  have hpos : 0 < val_main_v8 (F := Ideal) (argX m c) (ix2 i 0) := aMean_ref m c i ▸ aMean_pos (arrX m c) i
  have hS : (∑ l : Fin 1024, (aY (arrDG m c) (arrDU m c) (arrW m c) i l * arrG m c (ix2 0 l)) * arrX m c (ix2 i l))
      = val_main_v28 (F := Ideal) (argX m c) (argG m c) (argW m c) (argDG m c) (argDU m c) (ix2 i 0) := by
    rw [v28_at, arrX_eq]
    refine Finset.sum_congr rfl fun l _ => ?_
    rw [v24_at, aY_ref, arrG_at, mul_comm]
  unfold aDx
  rw [hS, aMean_ref, aY_ref, arrG_at, arrX_eq, arrR_eq, v40_at, v36_at, v12_at, v24_at, v9_at]
  exact (Cert.NormModel.dx_eq _ _ _ _ _ _ hpos).symm

/-- The gradient of the gain is the reference's. -/
theorem aDg_ref (k : Fin 1024) :
    aDg (arrDG m c) (arrDU m c) (arrW m c) (arrX m c) k
      = val_main_v42 (F := Ideal) (argX m c) (argW m c) (argDG m c) (argDU m c) (ix2 0 k) := by
  unfold aDg
  rw [v42_at]
  refine Finset.sum_congr rfl fun i _ => ?_
  rw [aY_ref, aMean_ref, arrX_eq, v9_at]
  ac_rfl

/-- The three arrays. -/
theorem arrays_eq :
    dxArr (arrDG m c) (arrDU m c) (arrW m c) (arrX m c) (arrG m c) (arrR m c)
      = val_main_v40 (F := Ideal) (argX m c) (argG m c) (argW m c) (argDG m c) (argDU m c) (argR m c)
    ∧ dxArr (arrDG m c) (arrDU m c) (arrW m c) (arrX m c) (arrG m c) (arrR m c)
      = val_main_v41 (F := Ideal) (argX m c) (argG m c) (argW m c) (argDG m c) (argDU m c) (argR m c)
    ∧ dgArr (arrDG m c) (arrDU m c) (arrW m c) (arrX m c)
      = val_main_v42 (F := Ideal) (argX m c) (argW m c) (argDG m c) (argDU m c) := by
  refine ⟨funext fun y => ?_, funext fun y => ?_, funext fun y => ?_⟩
  · refine (aDx_ref m c (y 0) (y 1)).trans (congrArg _ (ix_eta 4096 1024 y).symm)
  · refine (aDx_ref m c (y 0) (y 1)).trans ((v41_at _ _ _ _ _ _ (y 0) (y 1)).symm.trans (congrArg _ (ix_eta 4096 1024 y).symm))
  · have hy0 : (y 0 : ℕ) < 1 := (y 0).isLt
    have ey : y = ix2 (0 : Fin 1) (y 1) := by
      funext a
      match a with
      | ⟨0, _⟩ => exact Fin.ext (show (y 0 : ℕ) = 0 by omega)
      | ⟨1, _⟩ => rfl
    exact (aDg_ref m c (y 1)).trans (congrArg _ ey.symm)

end Cert.Kernel2Ideal.UpBwd

end

end
-- ==== Proof.Entries.lean ====
/- What several calls' proofs share: an index by its coordinates, and one entry of the RMS norm. -/
module

public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Entries

/-- An index of two axes by its coordinates. -/
theorem ix_eta (a b : ℕ) (y : (⟨2, ![a, b]⟩ : Shape).Idx) : y = ix2 (y 0) (y 1) := by
  funext i
  match i with
  | ⟨0, _⟩ => rfl
  | ⟨1, _⟩ => rfl

/-- Entry `k` of the RMS norm of a row `x` of 1024 numbers with the gain `g`. -/
def norm (x g : Fin 1024 → EReal) (k : Fin 1024) : EReal :=
  (x k * Ideal.rsqrt (Ideal.div (∑ l : Fin 1024, x l * x l) (Ideal.ofBits .f32 0x44800000#32) + Ideal.ofBits .f32 0x358637BD#32)) * g k

end Cert.Entries

end

end
-- ==== Proof.UpWeight.lean ====
/- The gradient of one half of the up projection's weight: the call's product of the normalised input, transposed, with the
   half's gradient, tile by tile of columns, is the reference's, whatever the arguments hold. -/
module

public import proofs.«01_k».proof.Proof.Gen.Kernel3Ideal.Value
public import proofs.«01_k».proof.Proof.Gen.Reference3Ideal.Read
public import proofs.«01_k».proof.Proof.Entries
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel3Ideal.UpWeight

open Cert.Kernel3Ideal Cert.Kernel3Ideal.Gen Cert.Reference3Ideal.Read

/-- What a point writes: a column of normalised inputs with a column of gradients, summed over the tokens. -/
theorem out_at (a : FVec Ideal S4096x1024 .bf16) (d : FVec Ideal S4096x1408 .bf16) (r : Fin 1024) (k : Fin 1408) :
    (out0_2 (F := Ideal) a d (ix2 r k) : EReal) = ∑ n : Fin 4096, a (ix2 n r) * d (ix2 n k) := by
  frame_out
  pointwise [k0_pay1]

/-- The blocks of point `t`. -/
theorem idx : ∀ t : Fin cfg0.N, win0_0.index t = ![0, 0] ∧ win0_1.index t = ![0, t.val]
    ∧ win0_2.index t = ![0, t.val] ∧ t.val < 2 :=
  (by decide +kernel : ∀ t : Fin grid0.N, _)

section Reads

variable (c : Dev nD) (W : (b : Ref sig .tc) → Buf (Elt Ideal) ((c : Thread nD τ).loc b)) (t : Fin cfg0.N)

/-- Window 0's block is the whole of the normalised input. -/
theorem read0 (n : Fin 4096) (r i : Fin 1024) (hi : i.val = r.val) :
    (show FVec Ideal S4096x1024 .bf16 from ((cfg0.win 0).blk t).view.read (Elt Ideal) (W (Pipeline.arrRef spec0 0))) (ix2 n r)
      = (show FVec Ideal S4096x1024 .bf16 from W main_v13) (ix2 n i) := by
  blk_ext [idx t]

/-- Window 1's block is the gradient's columns there. -/
theorem read1 (n : Fin 4096) (k : Fin 1408) (j : Fin 2816) (hj : j.val = t.val * 1408 + k.val) :
    (show FVec Ideal S4096x1408 .bf16 from ((cfg0.win 1).blk t).view.read (Elt Ideal) (W (Pipeline.arrRef spec0 1))) (ix2 n k)
      = (show FVec Ideal S4096x2816 .bf16 from W main_arg2) (ix2 n j) := by
  blk_ext [idx t]

end Reads

variable (m : (ℓ : Loc nD τ sig) → Buf (Elt Ideal) ℓ) (c : Dev nD)

abbrev argX : FVec Ideal S4096x1024 .f32 := m ((c : Thread nD τ).loc main_arg0)
abbrev argG : FVec Ideal S1024 .f32 := m ((c : Thread nD τ).loc main_arg1)
abbrev argD : FVec Ideal S4096x2816 .bf16 := m ((c : Thread nD τ).loc main_arg2)

/-- The normalised input. -/
def aH (X : FVec Ideal S4096x1024 .f32) (G : FVec Ideal S1024 .f32) (n : Fin 4096) (k : Fin 1024) : EReal :=
  Cert.Entries.norm (fun l => X (ix2 n l)) (fun l => G (ix1 l)) k

/-- The gradient of the weight as an array. -/
def dwArr (X : FVec Ideal S4096x1024 .f32) (G : FVec Ideal S1024 .f32) (D : FVec Ideal S4096x2816 .bf16) : S1024x2816.Idx → EReal :=
  fun y => ∑ n : Fin 4096, aH X G n (y 0) * D (ix2 n (y 1))

/-- The normalised input that the kernel finds. -/
theorem arrH_at (n : Fin 4096) (k : Fin 1024) :
    ((show FVec Ideal S4096x1024 .bf16 from V m c main_v13) (ix2 n k) : EReal) = aH (argX m c) (argG m c) n k := by
  unfold aH Cert.Entries.norm
  entry_read
  pointwise
theorem arrD_eq : V m c main_arg2 = argD m c := by entry_read; rfl

/-- The array after the run. -/
theorem final : (dats m 0 c).arrAt 2 (cfgs 0).N = dwArr (argX m c) (argG m c) (argD m c) := by
  refine (dats m 0 c).arrAt_eq_of_covers 2 _ (by decide +kernel) fun t hf y => ?_
  blk_simp
  rw [after0_2, ← arrD_eq]
  refine Eq.trans (congrArg _ (Cert.Entries.ix_eta 1024 1408 y)) ((out_at _ _ (y 0) (y 1)).trans (Finset.sum_congr rfl fun n _ => ?_))
  refine congrArg₂ (fun x y : EReal => x * y) ((read0 c (V m c) t n (y 0) _ ?_).trans (arrH_at m c n _)) (read1 c (V m c) t n (y 1) _ ?_)
  all_goals (blk_simp [idx t] <;> (try simp only []) <;> (try omega))

/-- The reference's normalised input. -/
theorem v13_at (X : FVec Ideal S4096x1024 .f32) (G : FVec Ideal S1024 .f32) (n : Fin 4096) (k : Fin 1024) :
    val_main_v13 (F := Ideal) X G (ix2 n k) = aH X G n k := by
  unfold aH Cert.Entries.norm val_main_v13 val_main_v12 val_main_v11 val_main_v10 val_main_v9 val_main_v8 val_main_v7 val_main_v6
    val_main_v5 val_main_v4 val_main_v3 val_main_v2 val_main_v1 val_main_cst_0 val_main_cst_1 val_main_cst_2
  pointwise

/-- The array is the reference's. -/
theorem array_eq : dwArr (argX m c) (argG m c) (argD m c) = val_main_v18 (F := Ideal) (argX m c) (argG m c) (argD m c) := by
  funext y
  rw [val_main_v18_apply, val_main_v17_apply]
  refine Eq.trans ?_ (val_main_v16_apply _ _ _ _).symm
  unfold dwArr
  refine Finset.sum_congr rfl fun n _ => ?_
  rw [mul_comm]
  refine congrArg₂ (fun x y : EReal => x * y) (congrArg _ ?_) ((v13_at _ _ _ _).symm.trans (congrArg _ ?_))
  all_goals
    funext a
    match a with
    | ⟨0, _⟩ => rfl
    | ⟨1, _⟩ => rfl

end Cert.Kernel3Ideal.UpWeight

end

end
-- ==== Proof.DownWeight.lean ====
/- The gradient of the down projection's weight: the call's product of the activations, transposed, with the gradient of the
   output, tile by tile, is the reference's, whatever the arguments hold. -/
module

public import proofs.«01_k».proof.Proof.Gen.Kernel4Ideal.Value
public import proofs.«01_k».proof.Proof.Gen.Reference4Ideal.Read
public import proofs.«01_k».proof.Proof.Entries
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.DownWeight

open Cert.Kernel4Ideal Cert.Kernel4Ideal.Gen Cert.Reference4Ideal.Read

/-- What a point writes: a column of activations with a column of gradients, summed over the tokens. -/
theorem out_at (a : FVec Ideal S4096x1408 .bf16) (d : FVec Ideal S4096x512 .bf16) (r : Fin 1408) (k : Fin 512) :
    (out0_2 (F := Ideal) a d (ix2 r k) : EReal) = ∑ n : Fin 4096, a (ix2 n r) * d (ix2 n k) := by
  frame_out
  pointwise [k0_pay1]

/-- The blocks of point `t`. -/
theorem idx : ∀ t : Fin cfg0.N, win0_0.index t = ![0, t.val / 2] ∧ win0_1.index t = ![0, t.val % 2]
    ∧ win0_2.index t = ![t.val / 2, t.val % 2] ∧ t.val / 2 < 2 :=
  (by decide +kernel : ∀ t : Fin grid0.N, _)

section Reads

variable (c : Dev nD) (W : (b : Ref sig .tc) → Buf (Elt Ideal) ((c : Thread nD τ).loc b)) (t : Fin cfg0.N)

/-- Window 0's block is the activations' columns there. -/
theorem read0 (n : Fin 4096) (r : Fin 1408) (i : Fin 2816) (hi : i.val = (t.val / 2) * 1408 + r.val) :
    (show FVec Ideal S4096x1408 .bf16 from ((cfg0.win 0).blk t).view.read (Elt Ideal) (W (Pipeline.arrRef spec0 0))) (ix2 n r)
      = (show FVec Ideal S4096x2816 .bf16 from W main_arg0) (ix2 n i) := by
  blk_ext [idx t]

/-- Window 1's block is the gradient's columns there. -/
theorem read1 (n : Fin 4096) (k : Fin 512) (j : Fin 1024) (hj : j.val = (t.val % 2) * 512 + k.val) :
    (show FVec Ideal S4096x512 .bf16 from ((cfg0.win 1).blk t).view.read (Elt Ideal) (W (Pipeline.arrRef spec0 1))) (ix2 n k)
      = (show FVec Ideal S4096x1024 .bf16 from W main_arg1) (ix2 n j) := by
  blk_ext [idx t]

end Reads

variable (m : (ℓ : Loc nD τ sig) → Buf (Elt Ideal) ℓ) (c : Dev nD)

abbrev argA : FVec Ideal S4096x2816 .bf16 := m ((c : Thread nD τ).loc main_arg0)
abbrev argD : FVec Ideal S4096x1024 .bf16 := m ((c : Thread nD τ).loc main_arg1)

/-- The gradient of the weight as an array. -/
def dwArr (A : FVec Ideal S4096x2816 .bf16) (D : FVec Ideal S4096x1024 .bf16) : S2816x1024.Idx → EReal :=
  fun y => ∑ n : Fin 4096, A (ix2 n (y 0)) * D (ix2 n (y 1))

theorem arrA_eq : V m c main_arg0 = argA m c := by entry_read; rfl
theorem arrD_eq : V m c main_arg1 = argD m c := by entry_read; rfl

/-- The array after the run. -/
theorem final : (dats m 0 c).arrAt 2 (cfgs 0).N = dwArr (argA m c) (argD m c) := by
  refine (dats m 0 c).arrAt_eq_of_covers 2 _ (by decide +kernel) fun t hf y => ?_
  blk_simp
  rw [after0_2, ← arrA_eq, ← arrD_eq]
  refine Eq.trans (congrArg _ (Cert.Entries.ix_eta 1408 512 y)) ((out_at _ _ (y 0) (y 1)).trans (Finset.sum_congr rfl fun n _ => ?_))
  refine congrArg₂ (fun x y : EReal => x * y) (read0 c (V m c) t n (y 0) _ ?_) (read1 c (V m c) t n (y 1) _ ?_)
  all_goals (blk_simp [idx t] <;> (try simp only []) <;> (try omega))

/-- The array is the reference's. -/
theorem array_eq : dwArr (argA m c) (argD m c) = val_main_v6 (F := Ideal) (argA m c) (argD m c) := by
  funext y
  rw [val_main_v6_apply, val_main_v5_apply]
  refine Eq.trans ?_ (val_main_v4_apply _ _ _).symm
  unfold dwArr
  refine Finset.sum_congr rfl fun n _ => ?_
  rw [mul_comm]
  refine congrArg₂ (fun x y : EReal => x * y) (congrArg _ ?_) (congrArg _ ?_)
  all_goals
    funext a
    match a with
    | ⟨0, _⟩ => rfl
    | ⟨1, _⟩ => rfl

end Cert.Kernel4Ideal.DownWeight

end

end
-- ==== Proof.DownInput.lean ====
/- The gradient of the down projection's input: the call's product of the output's gradient with the weight, transposed, tile
   by tile of tokens, is the reference's, whatever the arguments hold. -/
module

public import proofs.«01_k».proof.Proof.Gen.Kernel5Ideal.Value
public import proofs.«01_k».proof.Proof.Gen.Reference5Ideal.Read
public import proofs.«01_k».proof.Proof.Entries
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel5Ideal.DownInput

open Cert.Kernel5Ideal Cert.Kernel5Ideal.Gen Cert.Reference5Ideal.Read

/-- What a point writes: a token's gradient with a row of the weight. -/
theorem out_at (d : FVec Ideal S1024x1024 .bf16) (w : FVec Ideal S2816x1024 .bf16) (r : Fin 1024) (k : Fin 2816) :
    (out0_2 (F := Ideal) d w (ix2 r k) : EReal) = ∑ n : Fin 1024, d (ix2 r n) * w (ix2 k n) := by
  frame_out
  pointwise [k0_pay1]

/-- The blocks of point `t`. -/
theorem idx : ∀ t : Fin cfg0.N, win0_0.index t = ![t.val, 0] ∧ win0_1.index t = ![0, 0]
    ∧ win0_2.index t = ![t.val, 0] ∧ t.val < 4 :=
  (by decide +kernel : ∀ t : Fin grid0.N, _)

section Reads

variable (c : Dev nD) (W : (b : Ref sig .tc) → Buf (Elt Ideal) ((c : Thread nD τ).loc b)) (t : Fin cfg0.N)

/-- Window 0's block is the gradient's rows there. -/
theorem read0 (r n : Fin 1024) (i : Fin 4096) (hi : i.val = t.val * 1024 + r.val) :
    (show FVec Ideal S1024x1024 .bf16 from ((cfg0.win 0).blk t).view.read (Elt Ideal) (W (Pipeline.arrRef spec0 0))) (ix2 r n)
      = (show FVec Ideal S4096x1024 .bf16 from W main_arg1) (ix2 i n) := by
  blk_ext [idx t]

/-- Window 1's block is the whole weight. -/
theorem read1 (k : Fin 2816) (n : Fin 1024) (j : Fin 2816) (hj : j.val = k.val) :
    (show FVec Ideal S2816x1024 .bf16 from ((cfg0.win 1).blk t).view.read (Elt Ideal) (W (Pipeline.arrRef spec0 1))) (ix2 k n)
      = (show FVec Ideal S2816x1024 .bf16 from W main_v0) (ix2 j n) := by
  blk_ext [idx t]

end Reads

variable (m : (ℓ : Loc nD τ sig) → Buf (Elt Ideal) ℓ) (c : Dev nD)

abbrev argW : FVec Ideal S2816x1024 .f32 := m ((c : Thread nD τ).loc main_arg0)
abbrev argD : FVec Ideal S4096x1024 .bf16 := m ((c : Thread nD τ).loc main_arg1)

/-- The gradient of the input as an array. -/
def dxArr (W : FVec Ideal S2816x1024 .f32) (D : FVec Ideal S4096x1024 .bf16) : S4096x2816.Idx → EReal :=
  fun y => ∑ n : Fin 1024, D (ix2 (y 0) n) * W (ix2 (y 1) n)

theorem arrW_at (k : Fin 2816) (n : Fin 1024) : ((show FVec Ideal S2816x1024 .bf16 from V m c main_v0) (ix2 k n) : EReal) = argW m c (ix2 k n) := by
  entry_read
  pointwise
theorem arrD_eq : V m c main_arg1 = argD m c := by entry_read; rfl

/-- The array after the run. -/
theorem final : (dats m 0 c).arrAt 2 (cfgs 0).N = dxArr (argW m c) (argD m c) := by
  refine (dats m 0 c).arrAt_eq_of_covers 2 _ (by decide +kernel) fun t hf y => ?_
  blk_simp
  rw [after0_2, ← arrD_eq]
  refine Eq.trans (congrArg _ (Cert.Entries.ix_eta 1024 2816 y)) ((out_at _ _ (y 0) (y 1)).trans (Finset.sum_congr rfl fun n _ => ?_))
  refine congrArg₂ (fun x y : EReal => x * y) (read0 c (V m c) t (y 0) n _ ?_) ((read1 c (V m c) t (y 1) n _ ?_).trans (arrW_at m c _ n))
  all_goals (blk_simp [idx t] <;> (try simp only []) <;> (try omega))

/-- The array is the reference's. -/
theorem array_eq : dxArr (argW m c) (argD m c) = val_main_v4 (F := Ideal) (argW m c) (argD m c) := by
  funext y
  rw [val_main_v4_apply]
  refine Eq.trans ?_ (val_main_v3_apply _ _ _).symm
  unfold dxArr
  refine Finset.sum_congr rfl fun n _ => ?_
  refine congrArg₂ (fun x y : EReal => x * y) (congrArg _ ?_) (congrArg _ ?_)
  all_goals
    funext a
    match a with
    | ⟨0, _⟩ => rfl
    | ⟨1, _⟩ => rfl

end Cert.Kernel5Ideal.DownInput

end

end
-- ==== Proof.NormRow.lean ====
/- The gradient of the RMS norm of one row of 1024 numbers: as the kernels compute it, and as the chain rule writes it. -/
module

public import proofs.«01_k».proof.Proof.NormModel
public import Mathlib.Tactic.Ring

@[expose] public section

noncomputable section

namespace Cert.NormRow

open Idealize.ShloMosaic

/-- The row's mean square with the epsilon. -/
def mean (x : Fin 1024 → EReal) : EReal :=
  Ideal.div (∑ k, x k * x k) (Ideal.ofBits .f32 0x44800000#32) + Ideal.ofBits .f32 0x358637BD#32

/-- Its reciprocal root. -/
def root (x : Fin 1024 → EReal) : EReal := Ideal.rsqrt (mean x)

/-- The gradient of the row: `y` is the gradient of the normalised row, `g` the gain, `d` what the residual brings. -/
def dx (x g y d : Fin 1024 → EReal) (k : Fin 1024) : EReal :=
  (root x * (y k * g k)
      - x k * ((root x * root x * root x) * Ideal.div (∑ l, (y l * g l) * x l) (Ideal.ofBits .f32 0x44800000#32)))
    + d k

/-- What the row brings to the gradient of the gain. -/
def dg (x y : Fin 1024 → EReal) (k : Fin 1024) : EReal := (y k * x k) * root x

/-- What every entry of the row gets through the mean square, as the chain rule writes it. -/
def through (x g y : Fin 1024 → EReal) : EReal :=
  Ideal.div ((∑ l, x l * (y l * g l)) * (Ideal.ofBits .f32 0xBF000000#32 * Ideal.div (root x) (mean x))) (Ideal.ofBits .f32 0x44800000#32)

/-- The chain rule's gradient of the row is the kernels'. -/
theorem chain_eq (x g y d : Fin 1024 → EReal) (k : Fin 1024) :
    ((d k + (y k * g k) * root x) + x k * through x g y) + through x g y * x k = dx x g y d k := by
  have h := Cert.NormModel.dx_eq (x k) (y k) (g k) (d k) (∑ l, (y l * g l) * x l) (mean x) (Cert.NormModel.mean_pos x)
  have e : (∑ l, x l * (y l * g l)) = ∑ l, (y l * g l) * x l := Finset.sum_congr rfl fun l _ => mul_comm _ _
  unfold through dx
  rw [e]
  exact h

/-- The chain rule's share of the gradient of the gain is the kernels'. -/
theorem chain_dg (x y : Fin 1024 → EReal) (k : Fin 1024) : (x k * root x) * y k = dg x y k := by
  unfold dg; ac_rfl

/-- A sum over tiles of a sum inside the tile is the whole sum. -/
theorem sum_tiles (a b n : ℕ) (hn : n = a * b) (f : Fin n → EReal) (g : Fin a → Fin b → EReal)
    (h : ∀ s i (k : Fin n), k.val = s.val * b + i.val → g s i = f k) : ∑ s, ∑ i, g s i = ∑ k, f k := by
  subst hn
  rw [← Fintype.sum_prod_type']
  refine Fintype.sum_equiv finProdFinEquiv _ _ fun x => h x.1 x.2 _ ?_
  show x.2.val + b * x.1.val = _
  rw [mul_comm, add_comm]

end Cert.NormRow

end

end
-- ==== Proof.InPoint.lean ====
/- The mixers' input projection, backward to its input: what each grid point leaves in the carried scratch, which holds the
   gradient of the normalised input, and what the last point of a row tile leaves in the two outputs. A row tile takes two
   points, one for each half of the columns. -/
module

public import proofs.«01_k».proof.Proof.Gen.Kernel6Ideal.Frame
public import proofs.«01_k».proof.Proof.NormRow
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.InBwd

open Cert.Kernel6Ideal Cert.Kernel6Ideal.Gen

/-! ## The arithmetic of a point, over its blocks -/

/-- The share of one half of the columns: a row of gradients with a row of weights. -/
def tAcc (d w : FVec Ideal S1024x1152 .bf16) (r k : Fin 1024) : EReal := ∑ n : Fin 1152, d (ix2 r n) * w (ix2 k n)

/-- Row `r` of a tile. -/
abbrev row (X : FVec Ideal S1024x1024 .f32) (r : Fin 1024) : Fin 1024 → EReal := fun k => X (ix2 r k)

/-- The gain. -/
abbrev gain (g : FVec Ideal S1x1024 .f32) : Fin 1024 → EReal := fun k => g (ix2 0 k)

theorem pay2_at (a : FVec Ideal S1024x1024 .f32) (d w : FVec Ideal S1024x1152 .bf16) (r k : Fin 1024) :
    (k0_pay2 (F := Ideal) a d w (ix2 r k) : EReal) = a (ix2 r k) + tAcc d w r k := by
  pointwise [k0_pay2, tAcc]

theorem pay6_at (X : FVec Ideal S1024x1024 .f32) (g : FVec Ideal S1x1024 .f32) (Y R : FVec Ideal S1024x1024 .f32) (r k : Fin 1024) :
    (k0_pay6 (F := Ideal) X g Y R (ix2 r k) : EReal) = Cert.NormRow.dx (row X r) (gain g) (row Y r) (row R r) k := by
  pointwise [k0_pay6, k0_pay5, Cert.NormRow.dx, Cert.NormRow.root, Cert.NormRow.mean]

theorem pay3_at (b : FVec Ideal S1x1024 .f32) (X Y : FVec Ideal S1024x1024 .f32) (k : Fin 1024) :
    (k0_pay3 (F := Ideal) (k0_pay7 b) (k0_pay8 X Y) (ix2 0 k) : EReal)
      = b (ix2 0 k) + ∑ r : Fin 1024, Cert.NormRow.dg (row X r) (row Y r) k := by
  pointwise [k0_pay3, k0_pay7, k0_pay8, k0_pay5, Cert.NormRow.dg, Cert.NormRow.root, Cert.NormRow.mean]

/-! ## What a point leaves -/

variable (m : (ℓ : Loc nD τ sig) → Buf (Elt Ideal) ℓ) (c : Dev nD) (t : Fin cfg0.N)

/-- The first point of a row tile: its share over the zeros that it stored. -/
theorem acc_A (h0 : t.val % 2 = 0) (h2 : ¬t.val % 2 = 1) (r k : Fin 1024) :
    ((outsAt0 m c t.val t.isLt).2.2 (ix2 r k) : EReal) = 0 + tAcc (iblk m c 0 t) (iblk m c 1 t) r k := by
  rw [outsAt0_A m c t h0 h2]
  frame_open
  simp (disch := decide) only [↓ View.readCov_skip, ↓ View.readCov_cons_toLoadRect, ↓ View.readCov_fill]
  frame_out
  refine (pay2_at _ _ _ r k).trans (congrArg (fun z : EReal => z + _) ?_)
  pointwise [k0_pay1]

/-- The last point of a row tile adds its share to what the first left. -/
theorem acc_last (h2 : t.val % 2 = 1) (r k : Fin 1024) :
    ((outsAt0 m c t.val t.isLt).2.2 (ix2 r k) : EReal)
      = (outsAt0 m c (t.val - 1) (Nat.lt_of_le_of_lt (Nat.sub_le _ _) t.isLt)).2.2 (ix2 r k)
        + tAcc (iblk m c 0 t) (iblk m c 1 t) r k := by
  by_cases h3 : t.val < 2
  · rw [outsAt0_B m c t (by omega) h2 h3]
    frame_out
    rw [read_unread_whole]
    exact pay2_at _ _ _ r k
  · rw [outsAt0_C m c t (by omega) h2 h3]
    frame_out
    rw [read_unread_whole]
    exact pay2_at _ _ _ r k

/-- The gradient of the input at the last point of a row tile. -/
theorem dx_last (h2 : t.val % 2 = 1) (r k : Fin 1024) :
    ((outsAt0 m c t.val t.isLt).1 (ix2 r k) : EReal)
      = Cert.NormRow.dx (row (iblk m c 2 t) r) (gain (iblk m c 3 t)) (row (outsAt0 m c t.val t.isLt).2.2 r)
          (row (iblk m c 4 t) r) k := by
  by_cases h3 : t.val < 2
  · rw [outsAt0_B m c t (by omega) h2 h3]
    frame_out
    exact pay6_at _ _ _ _ r k
  · rw [outsAt0_C m c t (by omega) h2 h3]
    frame_out
    exact pay6_at _ _ _ _ r k

/-- What the row tile that ends at point `n` adds to the gradient of the gain. -/
def dgTile (n : ℕ) (hn : n < cfg0.N) (k : Fin 1024) : EReal :=
  ∑ r : Fin 1024, Cert.NormRow.dg (row (iblk m c 2 ⟨n, hn⟩) r) (row (outsAt0 m c n hn).2.2 r) k

/-- The gradient of the gain after point `n`. -/
def dgAt (n : ℕ) (hn : n < cfg0.N) (k : Fin 1024) : EReal := (outsAt0 m c n hn).2.1 (ix2 0 k)

/-- The first row tile's share lands on the zeros stored just before. -/
theorem dg_B (h2 : t.val % 2 = 1) (h3 : t.val < 2) (k : Fin 1024) :
    ((outsAt0 m c t.val t.isLt).2.1 (ix2 0 k) : EReal) = 0 + dgTile m c t.val t.isLt k := by
  unfold dgTile
  rw [outsAt0_B m c t (by omega) h2 h3]
  frame_out
  refine (pay3_at _ _ _ k).trans (congrArg (fun z : EReal => z + _) ?_)
  pointwise [k0_pay4]

/-- A later row tile's share is added to what the point before left. -/
theorem dg_C (h2 : t.val % 2 = 1) (h3 : ¬t.val < 2) (k : Fin 1024) :
    ((outsAt0 m c t.val t.isLt).2.1 (ix2 0 k) : EReal)
      = (outsAt0 m c (t.val - 1) (Nat.lt_of_le_of_lt (Nat.sub_le _ _) t.isLt)).2.1 (ix2 0 k) + dgTile m c t.val t.isLt k := by
  unfold dgTile
  rw [outsAt0_C m c t (by omega) h2 h3]
  frame_out
  exact pay3_at _ _ _ k

/-- The first point of a row tile leaves the gradient of the gain alone. -/
theorem dg_keep (h0 : t.val % 2 = 0) (k : Fin 1024) :
    (outsAt0 m c t.val t.isLt).2.1 (ix2 0 k)
      = (outsAt0 m c (t.val - 1) (Nat.lt_of_le_of_lt (Nat.sub_le _ _) t.isLt)).2.1 (ix2 0 k) := by
  have h2 : ¬t.val % 2 = 1 := by omega
  rw [outsAt0_A m c t h0 h2]
  unfold out0_A_6
  rfl

/-! ## The points together -/

/-- The scratch after the last point of a row tile: the two points' shares. -/
theorem acc_sum (ht : t.val % 2 = 1) (r k : Fin 1024) :
    ((outsAt0 m c t.val t.isLt).2.2 (ix2 r k) : EReal)
      = ∑ s : Fin 2, tAcc (iblk m c 0 ⟨2 * (t.val / 2) + s.val, Pipeline.run_point_lt_of_flush t ht s⟩)
          (iblk m c 1 ⟨2 * (t.val / 2) + s.val, Pipeline.run_point_lt_of_flush t ht s⟩) r k := by
  have h := Pipeline.eq_sum_fin_of_reset_step_apply_of_flush (M := EReal)
    (fun n h (y : Fin 1024 × Fin 1024) => (outsAt0 m c n h).2.2 (ix2 y.1 y.2)) 2 (fun _ => 0)
    (fun t y => tAcc (iblk m c 0 t) (iblk m c 1 t) y.1 y.2)
    (fun t h0 y => acc_A m c t h0 (by omega) y.1 y.2)
    (fun t h0 y => acc_last m c t (by omega) y.1 y.2)
    t ht (r, k)
  rw [zero_add] at h
  exact h

/-- The first row tile's share is all there is after it. -/
theorem dg_first (n : ℕ) (hn : n < cfg0.N) (h : n = 1) (k : Fin 1024) : dgAt m c n hn k = dgTile m c n hn k :=
  (dg_B m c ⟨n, hn⟩ (by simp only []; omega) (by simp only []; omega) k).trans (zero_add _)

/-- A later row tile adds its share to what the tile before it left. -/
theorem dg_step (n n' : ℕ) (hn : n < cfg0.N) (hn' : n' < cfg0.N) (e : n' = n + 2) (h : n % 2 = 1) (k : Fin 1024) :
    dgAt m c n' hn' k = dgAt m c n hn k + dgTile m c n' hn' k := by
  subst e
  have e := dg_C m c ⟨n + 2, hn'⟩ (by simp only []; omega) (by simp only []; omega) k
  have e1 := dg_keep m c ⟨n + 1, by omega⟩ (by simp only []; omega) k
  exact e.trans (congrArg (fun z : EReal => z + _) e1)

/-- The gradient of the gain after the last point: the four row tiles' shares. -/
theorem dg_out (h1 : 1 < cfg0.N) (h3 : 3 < cfg0.N) (h5 : 5 < cfg0.N) (h7 : 7 < cfg0.N) (k : Fin 1024) :
    dgAt m c 7 h7 k = dgTile m c 1 h1 k + dgTile m c 3 h3 k + dgTile m c 5 h5 k + dgTile m c 7 h7 k := by
  rw [dg_step m c 5 7 h5 h7 rfl rfl, dg_step m c 3 5 h3 h5 rfl rfl, dg_step m c 1 3 h1 h3 rfl rfl, dg_first m c 1 h1 rfl]

end Cert.Kernel6Ideal.InBwd

end

end
-- ==== Proof.InArrays.lean ====
/- The two results of the mixers' input projection, backward to its input, as functions of the arrays that the call reads. -/
module

public import proofs.«01_k».proof.Proof.InPoint
public import proofs.«01_k».proof.Proof.Gen.Kernel6Ideal.Value
public import proofs.«01_k».proof.Proof.Entries
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel6Ideal.InBwd

open Cert.Kernel6Ideal Cert.Kernel6Ideal.Gen

/-- The blocks of point `t`: row tile `t / 2`, column tile `t % 2`. -/
theorem idx : ∀ t : Fin cfg0.N, win0_0.index t = ![t.val / 2, t.val % 2] ∧ win0_1.index t = ![0, t.val % 2]
    ∧ win0_2.index t = ![t.val / 2, 0] ∧ win0_3.index t = ![0, 0] ∧ win0_4.index t = ![t.val / 2, 0]
    ∧ win0_5.index t = ![t.val / 2, 0] ∧ win0_6.index t = ![0, 0] ∧ t.val / 2 < 4 :=
  (by decide +kernel : ∀ t : Fin grid0.N, _)

section Reads

variable (c : Dev nD) (W : (b : Ref sig .tc) → Buf (Elt Ideal) ((c : Thread nD τ).loc b)) (t : Fin cfg0.N)

/-- Window 0's block is the projection's gradient there. -/
theorem read0 (r : Fin 1024) (l : Fin 1152) (i : Fin 4096) (n : Fin 2304)
    (hi : i.val = (t.val / 2) * 1024 + r.val) (hn : n.val = (t.val % 2) * 1152 + l.val) :
    (show FVec Ideal S1024x1152 .bf16 from ((cfg0.win 0).blk t).view.read (Elt Ideal) (W (Pipeline.arrRef spec0 0))) (ix2 r l)
      = (show FVec Ideal S4096x2304 .bf16 from W main_arg3) (ix2 i n) := by
  blk_ext [idx t]

/-- Window 1's block is the weight's columns there. -/
theorem read1 (k : Fin 1024) (l : Fin 1152) (n : Fin 2304) (hn : n.val = (t.val % 2) * 1152 + l.val) :
    (show FVec Ideal S1024x1152 .bf16 from ((cfg0.win 1).blk t).view.read (Elt Ideal) (W (Pipeline.arrRef spec0 1))) (ix2 k l)
      = (show FVec Ideal S1024x2304 .bf16 from W main_v0) (ix2 k n) := by
  blk_ext [idx t]

/-- Window 2's block is the input's rows there. -/
theorem read2 (r k : Fin 1024) (i : Fin 4096) (hi : i.val = (t.val / 2) * 1024 + r.val) :
    (show FVec Ideal S1024x1024 .f32 from ((cfg0.win 2).blk t).view.read (Elt Ideal) (W (Pipeline.arrRef spec0 2))) (ix2 r k)
      = (show FVec Ideal S4096x1024 .f32 from W main_arg0) (ix2 i k) := by
  blk_ext [idx t]

/-- Window 3's block is the gain. -/
theorem read3 (k : Fin 1024) :
    (show FVec Ideal S1x1024 .f32 from ((cfg0.win 3).blk t).view.read (Elt Ideal) (W (Pipeline.arrRef spec0 3))) (ix2 0 k)
      = (show FVec Ideal S1x1024 .f32 from W main_v1) (ix2 0 k) := by
  blk_ext [idx t]

/-- Window 4's block is the residual's gradient there. -/
theorem read4 (r k : Fin 1024) (i : Fin 4096) (hi : i.val = (t.val / 2) * 1024 + r.val) :
    (show FVec Ideal S1024x1024 .f32 from ((cfg0.win 4).blk t).view.read (Elt Ideal) (W (Pipeline.arrRef spec0 4))) (ix2 r k)
      = (show FVec Ideal S4096x1024 .f32 from W main_arg4) (ix2 i k) := by
  blk_ext [idx t]

end Reads

variable (m : (ℓ : Loc nD τ sig) → Buf (Elt Ideal) ℓ) (c : Dev nD)

abbrev argX : FVec Ideal S4096x1024 .f32 := m ((c : Thread nD τ).loc main_arg0)
abbrev argG : FVec Ideal S1024 .f32 := m ((c : Thread nD τ).loc main_arg1)
abbrev argW : FVec Ideal S1024x2304 .f32 := m ((c : Thread nD τ).loc main_arg2)
abbrev argD : FVec Ideal S4096x2304 .bf16 := m ((c : Thread nD τ).loc main_arg3)
abbrev argR : FVec Ideal S4096x1024 .f32 := m ((c : Thread nD τ).loc main_arg4)

theorem arrW_at (k : Fin 1024) (n : Fin 2304) : ((show FVec Ideal S1024x2304 .bf16 from V m c main_v0) (ix2 k n) : EReal) = argW m c (ix2 k n) := by
  entry_read
  pointwise
theorem arrG_at (k : Fin 1024) : (show FVec Ideal S1x1024 .f32 from V m c main_v1) (ix2 0 k) = argG m c (ix1 k) := by
  entry_read
  pointwise
theorem arrX_eq : V m c main_arg0 = argX m c := by entry_read; rfl
theorem arrD_eq : V m c main_arg3 = argD m c := by entry_read; rfl
theorem arrR_eq : V m c main_arg4 = argR m c := by entry_read; rfl

/-- Row `i` of an array of 4096 rows. -/
abbrev arow (X : FVec Ideal S4096x1024 .f32) (i : Fin 4096) : Fin 1024 → EReal := fun k => X (ix2 i k)

/-- The gain as a function. -/
abbrev again (G : FVec Ideal S1024 .f32) : Fin 1024 → EReal := fun k => G (ix1 k)

/-- The gradient of the normalised input. -/
def aY (W : FVec Ideal S1024x2304 .f32) (D : FVec Ideal S4096x2304 .bf16) (i : Fin 4096) (k : Fin 1024) : EReal :=
  ∑ n : Fin 2304, D (ix2 i n) * W (ix2 k n)

/-- The gradient of the input as an array. -/
def dxArr (X : FVec Ideal S4096x1024 .f32) (G : FVec Ideal S1024 .f32) (W : FVec Ideal S1024x2304 .f32) (D : FVec Ideal S4096x2304 .bf16)
    (R : FVec Ideal S4096x1024 .f32) : S4096x1024.Idx → EReal :=
  fun y => Cert.NormRow.dx (arow X (y 0)) (again G) (aY W D (y 0)) (arow R (y 0)) (y 1)

/-- The gradient of the gain as an array. -/
def dgArr (X : FVec Ideal S4096x1024 .f32) (W : FVec Ideal S1024x2304 .f32) (D : FVec Ideal S4096x2304 .bf16) : S1x1024.Idx → EReal :=
  fun y => ∑ i : Fin 4096, Cert.NormRow.dg (arow X i) (aY W D i) (y 1)

/-! ## The rows of a tile are the arrays' -/

theorem row2_eq (t : Fin cfg0.N) (r : Fin 1024) (i : Fin 4096) (hi : i.val = (t.val / 2) * 1024 + r.val) :
    row (iblk m c 2 t) r = arow (argX m c) i := by
  funext k
  exact (read2 c (V m c) t r k i hi).trans (congrFun (arrX_eq m c) _)

theorem row4_eq (t : Fin cfg0.N) (r : Fin 1024) (i : Fin 4096) (hi : i.val = (t.val / 2) * 1024 + r.val) :
    row (iblk m c 4 t) r = arow (argR m c) i := by
  funext k
  exact (read4 c (V m c) t r k i hi).trans (congrFun (arrR_eq m c) _)

theorem gain_eq (t : Fin cfg0.N) : gain (iblk m c 3 t) = again (argG m c) := by
  funext k
  exact (read3 c (V m c) t k).trans (arrG_at m c k)

/-- One half of the columns of a row of the product. -/
def half (i : Fin 4096) (k : Fin 1024) (s : Fin 2) (l : Fin 1152) : EReal :=
  argD m c (ix2 i ⟨s.val * 1152 + l.val, by omega⟩) * argW m c (ix2 k ⟨s.val * 1152 + l.val, by omega⟩)

/-- A point's share, over the arrays. -/
theorem share_eq (t : Fin cfg0.N) (s : Fin 2) (hs : s.val = t.val % 2) (r k : Fin 1024) (i : Fin 4096)
    (hi : i.val = (t.val / 2) * 1024 + r.val) :
    tAcc (iblk m c 0 t) (iblk m c 1 t) r k = ∑ l : Fin 1152, half m c i k s l := by
  unfold tAcc half
  refine Finset.sum_congr rfl fun l _ => congrArg₂ (fun x y : EReal => x * y) ?_ ?_
  · exact (read0 c (V m c) t r l i _ hi (by simp only []; rw [hs])).trans (congrFun (arrD_eq m c) _)
  · exact (read1 c (V m c) t k l _ (by simp only []; rw [hs])).trans (arrW_at m c k _)

/-- The scratch after a row tile's last point: the gradient of the normalised input. -/
theorem rowY_eq (t : Fin cfg0.N) (ht : t.val % 2 = 1) (r : Fin 1024) (i : Fin 4096) (hi : i.val = (t.val / 2) * 1024 + r.val) :
    row (outsAt0 m c t.val t.isLt).2.2 r = aY (argW m c) (argD m c) i := by
  funext k
  refine (acc_sum m c t ht r k).trans ?_
  refine (Finset.sum_congr rfl fun s _ => share_eq m c ⟨2 * (t.val / 2) + s.val, Pipeline.run_point_lt_of_flush t ht s⟩ s
    (by simp only []; omega) r k i (by simp only []; omega)).trans ?_
  exact Cert.NormRow.sum_tiles 2 1152 2304 rfl _ _ fun s l n hn => by
    have e : n = ⟨s.val * 1152 + l.val, by clear hn n; omega⟩ := Fin.ext hn
    subst e
    rfl

/-- What the tokens of row tile `s` bring to the gradient of the gain. -/
def dgRows (k : Fin 1024) (s : Fin 4) : EReal :=
  ∑ r : Fin 1024, Cert.NormRow.dg (arow (argX m c) ⟨s.val * 1024 + r.val, by omega⟩)
    (aY (argW m c) (argD m c) ⟨s.val * 1024 + r.val, by omega⟩) k

theorem dgTile_eq (n : ℕ) (hn : n < cfg0.N) (s : Fin 4) (hs : n = 2 * s.val + 1) (k : Fin 1024) :
    dgTile m c n hn k = dgRows m c k s := by
  unfold dgTile dgRows
  refine Finset.sum_congr rfl fun r _ => congrArg₂ (fun x y => Cert.NormRow.dg x y k) ?_ ?_
  · exact row2_eq m c ⟨n, hn⟩ r _ (by simp only []; omega)
  · exact rowY_eq m c ⟨n, hn⟩ (by simp only []; omega) r _ (by simp only []; omega)

/-- The gradient of the gain after the last point. -/
theorem dg_eq (h7 : 7 < cfg0.N) (k : Fin 1024) :
    dgAt m c 7 h7 k = ∑ i : Fin 4096, Cert.NormRow.dg (arow (argX m c) i) (aY (argW m c) (argD m c) i) k := by
  rw [dg_out m c (by omega) (by omega) (by omega) h7, dgTile_eq m c 1 _ 0 rfl, dgTile_eq m c 3 _ 1 rfl,
    dgTile_eq m c 5 _ 2 rfl, dgTile_eq m c 7 _ 3 rfl]
  refine Eq.trans (Fin.sum_univ_four (dgRows m c k)).symm ?_
  unfold dgRows
  exact Cert.NormRow.sum_tiles 4 1024 4096 rfl _ _ fun s r n hn => by
    have e : n = ⟨s.val * 1024 + r.val, by clear hn n; omega⟩ := Fin.ext hn
    subst e
    rfl

/-! ## The arrays after the run -/

/-- The gradient of the input after the run. -/
theorem final_dx : (dats m 0 c).arrAt 5 (cfgs 0).N = dxArr (argX m c) (argG m c) (argW m c) (argD m c) (argR m c) := by
  refine (dats m 0 c).arrAt_eq_of_covers 5 _ (by decide +kernel) fun t hf y => ?_
  blk_simp
  rw [after0_5]
  have ht : t.val % 2 = 1 := (flush0_5 t).mp hf
  have hb : t.val / 2 < 4 := (idx t).2.2.2.2.2.2.2
  have hy0 : (y 0 : ℕ) < 1024 := (y 0).isLt
  have e := dx_last m c t ht (y 0) (y 1)
  rw [row2_eq m c t (y 0) ⟨t.val / 2 * 1024 + (y 0 : ℕ), by omega⟩ rfl, row4_eq m c t (y 0) ⟨t.val / 2 * 1024 + (y 0 : ℕ), by omega⟩ rfl,
    rowY_eq m c t ht (y 0) ⟨t.val / 2 * 1024 + (y 0 : ℕ), by omega⟩ rfl, gain_eq] at e
  refine Eq.trans (congrArg _ (Cert.Entries.ix_eta 1024 1024 y)) (e.trans (Eq.symm ?_))
  unfold dxArr
  refine congrArg₂ (fun (i : Fin 4096) (k : Fin 1024) => Cert.NormRow.dx (arow (argX m c) i) (again (argG m c))
    (aY (argW m c) (argD m c) i) (arow (argR m c) i) k) (Fin.ext ?_) (Fin.ext ?_)
  all_goals (blk_simp [idx t] <;> (try simp only []) <;> (try omega))

/-- The gradient of the gain after the last point, read at an index of its block. -/
theorem dg_at (t : Fin cfg0.N) (ht : t.val = 7) (k : Fin 1024) :
    (outsAt0 m c t.val t.isLt).2.1 (ix2 0 k) = ∑ i : Fin 4096, Cert.NormRow.dg (arow (argX m c) i) (aY (argW m c) (argD m c) i) k := by
  obtain ⟨n, hn⟩ := t
  simp only [] at ht
  subst ht
  exact dg_eq m c hn k

/-- An index of a row by its column. -/
theorem ix_row (y : S1x1024.Idx) : y = ix2 (0 : Fin 1) (y 1) := by
  have hy0 : (y 0 : ℕ) < 1 := (y 0).isLt
  funext a
  match a with
  | ⟨0, _⟩ => exact Fin.ext (show (y 0 : ℕ) = 0 by omega)
  | ⟨1, _⟩ => rfl

/-- The gradient of the gain after the run. -/
theorem final_dg : (dats m 0 c).arrAt 6 (cfgs 0).N = dgArr (argX m c) (argW m c) (argD m c) := by
  refine (dats m 0 c).arrAt_eq_of_covers 6 _ (by decide +kernel) fun t hf y => ?_
  blk_simp
  rw [after0_6]
  have ht : t.val % 8 = 7 := (flush0_6 t).mp hf
  have hN : t.val < 8 := lt_of_lt_of_eq t.isLt N_0
  refine Eq.trans (congrArg _ (ix_row y)) ((dg_at m c t (by omega) (y 1)).trans (Eq.symm ?_))
  unfold dgArr
  refine congrArg (fun k : Fin 1024 => ∑ i : Fin 4096, Cert.NormRow.dg (arow (argX m c) i) (aY (argW m c) (argD m c) i) k) (Fin.ext ?_)
  blk_simp [idx t] <;> (try simp only []) <;> (try omega)

end Cert.Kernel6Ideal.InBwd

end

end
-- ==== Proof.InEquation.lean ====
/- The two results of the mixers' input projection, backward to its input, are the chain rule's, whatever the arguments hold. -/
module

public import proofs.«01_k».proof.Proof.InArrays
public import proofs.«01_k».proof.Proof.Gen.Reference6Ideal.Read
public import Idealize.ShloMosaic.Lib.Pointwise

@[expose] public section

set_option maxRecDepth 16384

noncomputable section

open Idealize.ShloMosaic Idealize.ShloMosaic.TcCoe Idealize.SL.Sem

namespace Cert.Kernel6Ideal.InBwd

open Cert.Kernel6Ideal Cert.Kernel6Ideal.Gen Cert.Reference6Ideal.Read

variable (x : FVec Ideal S4096x1024 .f32) (g : FVec Ideal S1024 .f32) (w : FVec Ideal S1024x2304 .f32)
  (d : FVec Ideal S4096x2304 .bf16) (R : FVec Ideal S4096x1024 .f32)

/-- The mean square with the epsilon. -/
theorem v6_at (i : Fin 4096) : val_main_v6 (F := Ideal) x (ix2 i 0) = Cert.NormRow.mean (arow x i) := by
  unfold val_main_v6 val_main_v5 val_main_v4 val_main_v3 val_main_v2 val_main_v1 val_main_v0 val_main_cst val_main_cst_0 val_main_cst_1
    Cert.NormRow.mean
  pointwise

/-- Its reciprocal root. -/
theorem v7_at (i : Fin 4096) : val_main_v7 (F := Ideal) x (ix2 i 0) = Cert.NormRow.root (arow x i) := by
  have e := v6_at x i
  unfold val_main_v7 Cert.NormRow.root
  rw [← e]
  generalize val_main_v6 (F := Ideal) x = v
  pointwise

/-- The derivative of the reciprocal root. -/
theorem v10_at (i : Fin 4096) :
    val_main_v10 (F := Ideal) x (ix2 i 0)
      = Ideal.ofBits .f32 0xBF000000#32 * Ideal.div (Cert.NormRow.root (arow x i)) (Cert.NormRow.mean (arow x i)) := by
  rw [← v7_at, ← v6_at]
  unfold val_main_v10 val_main_v9 val_main_v8 val_main_cst_2
  generalize val_main_v7 (F := Ideal) x = r
  generalize val_main_v6 (F := Ideal) x = v
  pointwise

/-- The gradient of the normalised input. -/
theorem v18_at (i : Fin 4096) (k : Fin 1024) : val_main_v18 (F := Ideal) w d (ix2 i k) = aY w d i k := by
  unfold val_main_v18 val_main_v17 aY
  pointwise

/-- The gradient of the norm before its gain. -/
theorem v23_at (i : Fin 4096) (k : Fin 1024) : val_main_v23 (F := Ideal) g w d (ix2 i k) = aY w d i k * again g k := by
  rw [← v18_at]
  unfold val_main_v23 val_main_v22 val_main_v13
  generalize val_main_v18 (F := Ideal) w d = y
  pointwise

/-- The row's sum of entries times gradients. -/
theorem v27_at (i : Fin 4096) :
    val_main_v27 (F := Ideal) x g w d (ix2 i 0) = ∑ l : Fin 1024, x (ix2 i l) * val_main_v23 (F := Ideal) g w d (ix2 i l) := by
  unfold val_main_v27 val_main_v26 val_main_v25 val_main_cst_5
  generalize val_main_v23 (F := Ideal) g w d = y
  pointwise

/-- What reaches every entry of a row through the mean. -/
theorem v35_at (i : Fin 4096) (k : Fin 1024) :
    val_main_v35 (F := Ideal) x g w d (ix2 i k) = Cert.NormRow.through (arow x i) (again g) (aY w d i) := by
  have e : val_main_v27 (F := Ideal) x g w d (ix2 i 0) = ∑ l : Fin 1024, arow x i l * (aY w d i l * again g l) :=
    (v27_at x g w d i).trans (Finset.sum_congr rfl fun l _ => congrArg (fun z => x (ix2 i l) * z) (v23_at g w d i l))
  unfold Cert.NormRow.through
  rw [← v10_at, ← e]
  unfold val_main_v35 val_main_v34 val_main_v33 val_main_v32 val_main_v31 val_main_cst_6 val_main_cst_7
  generalize val_main_v27 (F := Ideal) x g w d = s
  generalize val_main_v10 (F := Ideal) x = r
  pointwise
  exact Fintype.sum_unique (ι := Fin 1) _

/-- The gradient of the input. -/
theorem v39_at (i : Fin 4096) (k : Fin 1024) :
    val_main_v39 (F := Ideal) x g w d R (ix2 i k) = Cert.NormRow.dx (arow x i) (again g) (aY w d i) (arow R i) k := by
  rw [← Cert.NormRow.chain_eq, ← v23_at, ← v7_at, ← v35_at x g w d i k]
  unfold val_main_v39 val_main_v38 val_main_v37 val_main_v36 val_main_v30 val_main_v29 val_main_v28
  generalize val_main_v23 (F := Ideal) g w d = y
  generalize val_main_v35 (F := Ideal) x g w d = s
  generalize val_main_v7 (F := Ideal) x = r
  pointwise

/-- The gradient of the gain, one column. -/
theorem v40_at (k : Fin 1024) :
    val_main_v40 (F := Ideal) x w d (ix2 0 k) = ∑ i : Fin 4096, Cert.NormRow.dg (arow x i) (aY w d i) k := by
  have e : (∑ i : Fin 4096, Cert.NormRow.dg (arow x i) (aY w d i) k)
      = ∑ i : Fin 4096, (x (ix2 i k) * val_main_v7 (F := Ideal) x (ix2 i 0)) * val_main_v18 (F := Ideal) w d (ix2 i k) :=
    Finset.sum_congr rfl fun i _ => by rw [← Cert.NormRow.chain_dg, ← v7_at, ← v18_at]
  rw [e]
  unfold val_main_v40 val_main_v24 val_main_v21 val_main_v20 val_main_v19 val_main_v12 val_main_v11 val_main_cst_3 val_main_cst_4
  generalize val_main_v7 (F := Ideal) x = r
  generalize val_main_v18 (F := Ideal) w d = y
  pointwise
  exact Fintype.sum_unique (ι := Fin 1) _

/-- The two arrays. -/
theorem arrays_eq : dxArr x g w d R = val_main_v39 (F := Ideal) x g w d R ∧ dgArr x w d = val_main_v40 (F := Ideal) x w d := by
  refine ⟨funext fun y => ?_, funext fun y => ?_⟩
  · exact (v39_at x g w d R (y 0) (y 1)).symm.trans (congrArg _ (Cert.Entries.ix_eta 4096 1024 y).symm)
  · exact (v40_at x w d (y 1)).symm.trans (congrArg _ (ix_row y).symm)

end Cert.Kernel6Ideal.InBwd

end

end
-- ==== Proof.InWeight.lean ====
/- The gradient of the input projection's weight: the call's product of the normalised input, transposed, with the
   projection's gradient, tile by tile of columns, is the reference's, whatever the arguments hold. -/
module

public import proofs.«01_k».proof.Proof.Gen.Kernel7Ideal.Value
public import proofs.«01_k».proof.Proof.Gen.Reference7Ideal.Read
public import proofs.«01_k».proof.Proof.UpWeight
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel7Ideal.InWeight

open Cert.Kernel7Ideal Cert.Kernel7Ideal.Gen Cert.Reference7Ideal.Read

/-- What a point writes: a column of normalised inputs with a column of gradients, summed over the tokens. -/
theorem out_at (a : FVec Ideal S4096x1024 .bf16) (d : FVec Ideal S4096x768 .bf16) (r : Fin 1024) (k : Fin 768) :
    (out0_2 (F := Ideal) a d (ix2 r k) : EReal) = ∑ n : Fin 4096, a (ix2 n r) * d (ix2 n k) := by
  frame_out
  pointwise [k0_pay1]

/-- The blocks of point `t`. -/
theorem idx : ∀ t : Fin cfg0.N, win0_0.index t = ![0, 0] ∧ win0_1.index t = ![0, t.val]
    ∧ win0_2.index t = ![0, t.val] ∧ t.val < 3 :=
  (by decide +kernel : ∀ t : Fin grid0.N, _)

section Reads

variable (c : Dev nD) (W : (b : Ref sig .tc) → Buf (Elt Ideal) ((c : Thread nD τ).loc b)) (t : Fin cfg0.N)

/-- Window 0's block is the whole of the normalised input. -/
theorem read0 (n : Fin 4096) (r i : Fin 1024) (hi : i.val = r.val) :
    (show FVec Ideal S4096x1024 .bf16 from ((cfg0.win 0).blk t).view.read (Elt Ideal) (W (Pipeline.arrRef spec0 0))) (ix2 n r)
      = (show FVec Ideal S4096x1024 .bf16 from W main_v13) (ix2 n i) := by
  blk_ext [idx t]

/-- Window 1's block is the gradient's columns there. -/
theorem read1 (n : Fin 4096) (k : Fin 768) (j : Fin 2304) (hj : j.val = t.val * 768 + k.val) :
    (show FVec Ideal S4096x768 .bf16 from ((cfg0.win 1).blk t).view.read (Elt Ideal) (W (Pipeline.arrRef spec0 1))) (ix2 n k)
      = (show FVec Ideal S4096x2304 .bf16 from W main_arg2) (ix2 n j) := by
  blk_ext [idx t]

end Reads

variable (m : (ℓ : Loc nD τ sig) → Buf (Elt Ideal) ℓ) (c : Dev nD)

abbrev argX : FVec Ideal S4096x1024 .f32 := m ((c : Thread nD τ).loc main_arg0)
abbrev argG : FVec Ideal S1024 .f32 := m ((c : Thread nD τ).loc main_arg1)
abbrev argD : FVec Ideal S4096x2304 .bf16 := m ((c : Thread nD τ).loc main_arg2)

/-- The gradient of the weight as an array. -/
def dwArr (X : FVec Ideal S4096x1024 .f32) (G : FVec Ideal S1024 .f32) (D : FVec Ideal S4096x2304 .bf16) : S1024x2304.Idx → EReal :=
  fun y => ∑ n : Fin 4096, Cert.Kernel3Ideal.UpWeight.aH X G n (y 0) * D (ix2 n (y 1))

/-- The normalised input that the kernel finds. -/
theorem arrH_at (n : Fin 4096) (k : Fin 1024) :
    ((show FVec Ideal S4096x1024 .bf16 from V m c main_v13) (ix2 n k) : EReal) = Cert.Kernel3Ideal.UpWeight.aH (argX m c) (argG m c) n k := by
  unfold Cert.Kernel3Ideal.UpWeight.aH Cert.Entries.norm
  entry_read
  pointwise
theorem arrD_eq : V m c main_arg2 = argD m c := by entry_read; rfl

/-- The array after the run. -/
theorem final : (dats m 0 c).arrAt 2 (cfgs 0).N = dwArr (argX m c) (argG m c) (argD m c) := by
  refine (dats m 0 c).arrAt_eq_of_covers 2 _ (by decide +kernel) fun t hf y => ?_
  blk_simp
  rw [after0_2, ← arrD_eq]
  refine Eq.trans (congrArg _ (Cert.Entries.ix_eta 1024 768 y)) ((out_at _ _ (y 0) (y 1)).trans (Finset.sum_congr rfl fun n _ => ?_))
  refine congrArg₂ (fun x y : EReal => x * y) ((read0 c (V m c) t n (y 0) _ ?_).trans (arrH_at m c n _)) (read1 c (V m c) t n (y 1) _ ?_)
  all_goals (blk_simp [idx t] <;> (try simp only []) <;> (try omega))

/-- The reference's normalised input: the same lines as before the up projection. -/
theorem v13_at (X : FVec Ideal S4096x1024 .f32) (G : FVec Ideal S1024 .f32) (n : Fin 4096) (k : Fin 1024) :
    val_main_v13 (F := Ideal) X G (ix2 n k) = Cert.Kernel3Ideal.UpWeight.aH X G n k := Cert.Kernel3Ideal.UpWeight.v13_at X G n k

/-- The array is the reference's. -/
theorem array_eq : dwArr (argX m c) (argG m c) (argD m c) = val_main_v18 (F := Ideal) (argX m c) (argG m c) (argD m c) := by
  funext y
  rw [val_main_v18_apply, val_main_v17_apply]
  refine Eq.trans ?_ (val_main_v16_apply _ _ _ _).symm
  unfold dwArr
  refine Finset.sum_congr rfl fun n _ => ?_
  rw [mul_comm]
  refine congrArg₂ (fun x y : EReal => x * y) (congrArg _ ?_) ((v13_at _ _ _ _).symm.trans (congrArg _ ?_))
  all_goals
    funext a
    match a with
    | ⟨0, _⟩ => rfl
    | ⟨1, _⟩ => rfl

end Cert.Kernel7Ideal.InWeight

end

end
-- ==== Proof.DownOut.lean ====
/- The down projection with its residual: the call's product of the activations with the weight, plus the residual, tile by tile
   of tokens, is the reference's, whatever the arguments hold. -/
module

public import proofs.«01_k».proof.Proof.Gen.Kernel8Ideal.Value
public import proofs.«01_k».proof.Proof.Gen.Reference8Ideal.Read
public import proofs.«01_k».proof.Proof.Entries
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel8Ideal.DownOut

open Cert.Kernel8Ideal Cert.Kernel8Ideal.Gen Cert.Reference8Ideal.Read

/-- What a point writes: a token's activations with a column of the weight, and the residual. -/
theorem out_at (a : FVec Ideal S1024x2816 .bf16) (w : FVec Ideal S2816x1024 .bf16) (x : FVec Ideal S1024x1024 .f32) (r k : Fin 1024) :
    (out0_3 (F := Ideal) a w x (ix2 r k) : EReal) = (∑ n : Fin 2816, a (ix2 r n) * w (ix2 n k)) + x (ix2 r k) := by
  frame_out
  pointwise [k0_pay1]

/-- The blocks of point `t`. -/
theorem idx : ∀ t : Fin cfg0.N, win0_0.index t = ![t.val, 0] ∧ win0_1.index t = ![0, 0]
    ∧ win0_2.index t = ![t.val, 0] ∧ win0_3.index t = ![t.val, 0] ∧ t.val < 4 :=
  (by decide +kernel : ∀ t : Fin grid0.N, _)

section Reads

variable (c : Dev nD) (W : (b : Ref sig .tc) → Buf (Elt Ideal) ((c : Thread nD τ).loc b)) (t : Fin cfg0.N)

/-- Window 0's block is the activations' rows there. -/
theorem read0 (r : Fin 1024) (n : Fin 2816) (i : Fin 4096) (hi : i.val = t.val * 1024 + r.val) :
    (show FVec Ideal S1024x2816 .bf16 from ((cfg0.win 0).blk t).view.read (Elt Ideal) (W (Pipeline.arrRef spec0 0))) (ix2 r n)
      = (show FVec Ideal S4096x2816 .bf16 from W main_arg0) (ix2 i n) := by
  blk_ext [idx t]

/-- Window 1's block is the whole weight. -/
theorem read1 (n : Fin 2816) (k j : Fin 1024) (hj : j.val = k.val) :
    (show FVec Ideal S2816x1024 .bf16 from ((cfg0.win 1).blk t).view.read (Elt Ideal) (W (Pipeline.arrRef spec0 1))) (ix2 n k)
      = (show FVec Ideal S2816x1024 .bf16 from W main_v0) (ix2 n j) := by
  blk_ext [idx t]

/-- Window 2's block is the residual's rows there. -/
theorem read2 (r k : Fin 1024) (i : Fin 4096) (j : Fin 1024) (hi : i.val = t.val * 1024 + r.val) (hj : j.val = k.val) :
    (show FVec Ideal S1024x1024 .f32 from ((cfg0.win 2).blk t).view.read (Elt Ideal) (W (Pipeline.arrRef spec0 2))) (ix2 r k)
      = (show FVec Ideal S4096x1024 .f32 from W main_arg2) (ix2 i j) := by
  blk_ext [idx t]

end Reads

variable (m : (ℓ : Loc nD τ sig) → Buf (Elt Ideal) ℓ) (c : Dev nD)

abbrev argA : FVec Ideal S4096x2816 .bf16 := m ((c : Thread nD τ).loc main_arg0)
abbrev argW : FVec Ideal S2816x1024 .f32 := m ((c : Thread nD τ).loc main_arg1)
abbrev argX : FVec Ideal S4096x1024 .f32 := m ((c : Thread nD τ).loc main_arg2)

/-- The result as an array. -/
def outArr (A : FVec Ideal S4096x2816 .bf16) (W : FVec Ideal S2816x1024 .f32) (X : FVec Ideal S4096x1024 .f32) : S4096x1024.Idx → EReal :=
  fun y => (∑ n : Fin 2816, A (ix2 (y 0) n) * W (ix2 n (y 1))) + X (ix2 (y 0) (y 1))

theorem arrW_at (n : Fin 2816) (k : Fin 1024) : ((show FVec Ideal S2816x1024 .bf16 from V m c main_v0) (ix2 n k) : EReal) = argW m c (ix2 n k) := by
  entry_read
  pointwise
theorem arrA_eq : V m c main_arg0 = argA m c := by entry_read; rfl
theorem arrX_eq : V m c main_arg2 = argX m c := by entry_read; rfl

/-- The array after the run. -/
theorem final : (dats m 0 c).arrAt 3 (cfgs 0).N = outArr (argA m c) (argW m c) (argX m c) := by
  refine (dats m 0 c).arrAt_eq_of_covers 3 _ (by decide +kernel) fun t hf y => ?_
  blk_simp
  rw [after0_3, ← arrA_eq, ← arrX_eq]
  refine Eq.trans (congrArg _ (Cert.Entries.ix_eta 1024 1024 y)) ((out_at _ _ _ (y 0) (y 1)).trans
    (congrArg₂ (fun x y : EReal => x + y) (Finset.sum_congr rfl fun n _ => ?_) (read2 c (V m c) t (y 0) (y 1) _ _ ?_ ?_)))
  · refine congrArg₂ (fun x y : EReal => x * y) (read0 c (V m c) t (y 0) n _ ?_) ((read1 c (V m c) t n (y 1) _ ?_).trans (arrW_at m c n _))
    all_goals (blk_simp [idx t] <;> (try simp only []) <;> (try omega))
  all_goals (blk_simp [idx t] <;> (try simp only []) <;> (try omega))

/-- The array is the reference's. -/
theorem array_eq : outArr (argA m c) (argW m c) (argX m c) = val_main_v2 (F := Ideal) (argA m c) (argW m c) (argX m c) := by
  funext y
  have e : val_main_v2 (F := Ideal) (argA m c) (argW m c) (argX m c) (ix2 (y 0) (y 1))
      = (∑ n : Fin 2816, argA m c (ix2 (y 0) n) * argW m c (ix2 n (y 1))) + argX m c (ix2 (y 0) (y 1)) := by
    rw [add_comm]
    generalize argA m c = a
    generalize argW m c = w
    generalize argX m c = x
    unfold val_main_v2 val_main_v1 val_main_v0
    pointwise
  exact e.symm.trans (congrArg _ (Cert.Entries.ix_eta 4096 1024 y).symm)

end Cert.Kernel8Ideal.DownOut

end

end
-- ==== Proof.OutWeight.lean ====
/- The gradient of a square weight, the mixers' output projection's and the gate's of the per-layer embedding alike: the call's
   product of the projection's input, transposed, with the gradient of its output, tile by tile of columns, is the reference's,
   whatever the arguments hold. -/
module

public import proofs.«01_k».proof.Proof.Gen.Kernel9Ideal.Value
public import proofs.«01_k».proof.Proof.Gen.Reference9Ideal.Read
public import proofs.«01_k».proof.Proof.Entries
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel9Ideal.OutWeight

open Cert.Kernel9Ideal Cert.Kernel9Ideal.Gen Cert.Reference9Ideal.Read

/-- What a point writes: a column of inputs with a column of gradients, summed over the tokens. -/
theorem out_at (a : FVec Ideal S4096x1024 .bf16) (d : FVec Ideal S4096x512 .bf16) (r : Fin 1024) (k : Fin 512) :
    (out0_2 (F := Ideal) a d (ix2 r k) : EReal) = ∑ n : Fin 4096, a (ix2 n r) * d (ix2 n k) := by
  frame_out
  pointwise [k0_pay1]

/-- The blocks of point `t`. -/
theorem idx : ∀ t : Fin cfg0.N, win0_0.index t = ![0, 0] ∧ win0_1.index t = ![0, t.val]
    ∧ win0_2.index t = ![0, t.val] ∧ t.val < 2 :=
  (by decide +kernel : ∀ t : Fin grid0.N, _)

section Reads

variable (c : Dev nD) (W : (b : Ref sig .tc) → Buf (Elt Ideal) ((c : Thread nD τ).loc b)) (t : Fin cfg0.N)

/-- Window 0's block is the whole input. -/
theorem read0 (n : Fin 4096) (r i : Fin 1024) (hi : i.val = r.val) :
    (show FVec Ideal S4096x1024 .bf16 from ((cfg0.win 0).blk t).view.read (Elt Ideal) (W (Pipeline.arrRef spec0 0))) (ix2 n r)
      = (show FVec Ideal S4096x1024 .bf16 from W main_arg0) (ix2 n i) := by
  blk_ext [idx t]

/-- Window 1's block is the gradient's columns there. -/
theorem read1 (n : Fin 4096) (k : Fin 512) (j : Fin 1024) (hj : j.val = t.val * 512 + k.val) :
    (show FVec Ideal S4096x512 .bf16 from ((cfg0.win 1).blk t).view.read (Elt Ideal) (W (Pipeline.arrRef spec0 1))) (ix2 n k)
      = (show FVec Ideal S4096x1024 .bf16 from W main_arg1) (ix2 n j) := by
  blk_ext [idx t]

end Reads

variable (m : (ℓ : Loc nD τ sig) → Buf (Elt Ideal) ℓ) (c : Dev nD)

abbrev argA : FVec Ideal S4096x1024 .bf16 := m ((c : Thread nD τ).loc main_arg0)
abbrev argD : FVec Ideal S4096x1024 .bf16 := m ((c : Thread nD τ).loc main_arg1)

/-- The gradient of the weight as an array. -/
def dwArr (A D : FVec Ideal S4096x1024 .bf16) : S1024x1024.Idx → EReal :=
  fun y => ∑ n : Fin 4096, A (ix2 n (y 0)) * D (ix2 n (y 1))

theorem arrA_eq : V m c main_arg0 = argA m c := by entry_read; rfl
theorem arrD_eq : V m c main_arg1 = argD m c := by entry_read; rfl

/-- The array after the run. -/
theorem final : (dats m 0 c).arrAt 2 (cfgs 0).N = dwArr (argA m c) (argD m c) := by
  refine (dats m 0 c).arrAt_eq_of_covers 2 _ (by decide +kernel) fun t hf y => ?_
  blk_simp
  rw [after0_2, ← arrA_eq, ← arrD_eq]
  refine Eq.trans (congrArg _ (Cert.Entries.ix_eta 1024 512 y)) ((out_at _ _ (y 0) (y 1)).trans (Finset.sum_congr rfl fun n _ => ?_))
  refine congrArg₂ (fun x y : EReal => x * y) (read0 c (V m c) t n (y 0) _ ?_) (read1 c (V m c) t n (y 1) _ ?_)
  all_goals (blk_simp [idx t] <;> (try simp only []) <;> (try omega))

/-- The array is the reference's. -/
theorem array_eq : dwArr (argA m c) (argD m c) = val_main_v6 (F := Ideal) (argA m c) (argD m c) := by
  funext y
  rw [val_main_v6_apply, val_main_v5_apply]
  refine Eq.trans ?_ (val_main_v4_apply _ _ _).symm
  unfold dwArr
  refine Finset.sum_congr rfl fun n _ => ?_
  rw [mul_comm]
  refine congrArg₂ (fun x y : EReal => x * y) (congrArg _ ?_) (congrArg _ ?_)
  all_goals
    funext a
    match a with
    | ⟨0, _⟩ => rfl
    | ⟨1, _⟩ => rfl

end Cert.Kernel9Ideal.OutWeight

end

end
-- ==== Proof.GatePoint.lean ====
/- The gate of the per-layer embedding, backward to its input: what each grid point leaves in the three outputs. A row tile takes
   one point, since one column tile covers the weight. -/
module

public import proofs.«01_k».proof.Proof.Gen.Kernel10Ideal.Frame
public import proofs.«01_k».proof.Proof.InPoint
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.GateBwd

open Cert.Kernel10Ideal Cert.Kernel10Ideal.Gen
open Cert.Kernel6Ideal.InBwd (row gain)

/-! ## The arithmetic of a point, over its blocks -/

/-- A row of gradients with a row of weights. -/
def prod (d w : FVec Ideal S1024x1024 .bf16) (r k : Fin 1024) : EReal := ∑ n : Fin 1024, d (ix2 r n) * w (ix2 k n)

/-- The product added to the zeros stored before it. -/
theorem acc_at (d w : FVec Ideal S1024x1024 .bf16) (r k : Fin 1024) :
    (k0_pay2 (F := Ideal) (k0_pay1 (F := Ideal)) d w (ix2 r k) : EReal) = prod d w r k := by
  have e : (k0_pay2 (F := Ideal) (k0_pay1 (F := Ideal)) d w (ix2 r k) : EReal) = 0 + prod d w r k := by
    pointwise [k0_pay2, k0_pay1, prod]
  exact e.trans (zero_add _)

theorem acc_row (d w : FVec Ideal S1024x1024 .bf16) (r : Fin 1024) :
    row (k0_pay2 (F := Ideal) (k0_pay1 (F := Ideal)) d w) r = prod d w r := funext fun k => acc_at d w r k

/-- The gradient of the input: the payload is the input projection's. -/
theorem pay6_at (X : FVec Ideal S1024x1024 .f32) (g : FVec Ideal S1x1024 .f32) (Y R : FVec Ideal S1024x1024 .f32) (r k : Fin 1024) :
    (k0_pay6 (F := Ideal) X g Y R (ix2 r k) : EReal) = Cert.NormRow.dx (row X r) (gain g) (row Y r) (row R r) k :=
  Cert.Kernel6Ideal.InBwd.pay6_at X g Y R r k

/-- The same in the narrower format. -/
theorem pay7_at (X : FVec Ideal S1024x1024 .f32) (g : FVec Ideal S1x1024 .f32) (Y R : FVec Ideal S1024x1024 .f32) (r k : Fin 1024) :
    (k0_pay7 (F := Ideal) X g Y R (ix2 r k) : EReal) = Cert.NormRow.dx (row X r) (gain g) (row Y r) (row R r) k :=
  pay6_at X g Y R r k

/-- The gradient of the gain over what the block held. -/
theorem pay3_at (b : FVec Ideal S1x1024 .f32) (X Y : FVec Ideal S1024x1024 .f32) (k : Fin 1024) :
    (k0_pay3 (F := Ideal) X Y (k0_pay5 X) b (ix2 0 k) : EReal)
      = b (ix2 0 k) + ∑ r : Fin 1024, Cert.NormRow.dg (row X r) (row Y r) k := by
  pointwise [k0_pay3, k0_pay5, Cert.NormRow.dg, Cert.NormRow.root, Cert.NormRow.mean]

/-! ## What a point leaves -/

variable (m : (ℓ : Loc nD τ sig) → Buf (Elt Ideal) ℓ) (c : Dev nD) (t : Fin cfg0.N)

/-- The gradient of row `r` of a point's tile. -/
def dxRow (r : Fin 1024) : Fin 1024 → EReal :=
  Cert.NormRow.dx (row (iblk m c 2 t) r) (gain (iblk m c 3 t)) (prod (iblk m c 0 t) (iblk m c 1 t) r) (row (iblk m c 4 t) r)

theorem dx_at (r k : Fin 1024) : ((outsAt0 m c t.val t.isLt).1 (ix2 r k) : EReal) = dxRow m c t r k := by
  unfold dxRow
  by_cases h3 : t.val % 4 = 0
  · rw [outsAt0_A m c t h3]
    frame_open
    simp (disch := decide) only [↓ View.readCov_skip, ↓ View.readCov_cons_toLoadRect, ↓ View.readCov_fill]
    frame_out
    exact (pay6_at _ _ _ _ r k).trans (congrArg (fun y => Cert.NormRow.dx _ _ y _ k) (acc_row _ _ r))
  · rw [outsAt0_B m c t h3]
    frame_open
    simp (disch := decide) only [↓ View.readCov_skip, ↓ View.readCov_cons_toLoadRect, ↓ View.readCov_fill]
    frame_out
    exact (pay6_at _ _ _ _ r k).trans (congrArg (fun y => Cert.NormRow.dx _ _ y _ k) (acc_row _ _ r))

theorem dxb_at (r k : Fin 1024) : ((outsAt0 m c t.val t.isLt).2.1 (ix2 r k) : EReal) = dxRow m c t r k := by
  unfold dxRow
  by_cases h3 : t.val % 4 = 0
  · rw [outsAt0_A m c t h3]
    frame_open
    simp (disch := decide) only [↓ View.readCov_skip, ↓ View.readCov_cons_toLoadRect, ↓ View.readCov_fill]
    frame_out
    exact (pay7_at _ _ _ _ r k).trans (congrArg (fun y => Cert.NormRow.dx _ _ y _ k) (acc_row _ _ r))
  · rw [outsAt0_B m c t h3]
    frame_open
    simp (disch := decide) only [↓ View.readCov_skip, ↓ View.readCov_cons_toLoadRect, ↓ View.readCov_fill]
    frame_out
    exact (pay7_at _ _ _ _ r k).trans (congrArg (fun y => Cert.NormRow.dx _ _ y _ k) (acc_row _ _ r))

/-- What a point's tile adds to the gradient of the gain. -/
def dgTile (k : Fin 1024) : EReal :=
  ∑ r : Fin 1024, Cert.NormRow.dg (row (iblk m c 2 t) r) (prod (iblk m c 0 t) (iblk m c 1 t) r) k

/-- The first tile's share lands on the zeros stored just before. -/
theorem dg_A (h3 : t.val % 4 = 0) (k : Fin 1024) :
    ((outsAt0 m c t.val t.isLt).2.2 (ix2 0 k) : EReal) = 0 + dgTile m c t k := by
  unfold dgTile
  rw [outsAt0_A m c t h3]
  frame_open
  simp (disch := decide) only [↓ View.readCov_skip, ↓ View.readCov_cons_toLoadRect, ↓ View.readCov_fill]
  frame_out
  refine (pay3_at _ _ _ k).trans (congrArg₂ (fun y z : EReal => y + z) ?_ (Finset.sum_congr rfl fun r _ =>
    congrArg (fun y => Cert.NormRow.dg _ y k) (acc_row _ _ r)))
  pointwise [k0_pay4]

/-- A later tile's share is added to what the point before left. -/
theorem dg_B (h3 : ¬t.val % 4 = 0) (k : Fin 1024) :
    ((outsAt0 m c t.val t.isLt).2.2 (ix2 0 k) : EReal)
      = (outsAt0 m c (t.val - 1) (Nat.lt_of_le_of_lt (Nat.sub_le _ _) t.isLt)).2.2 (ix2 0 k) + dgTile m c t k := by
  unfold dgTile
  rw [outsAt0_B m c t h3]
  frame_open
  simp (disch := decide) only [↓ View.readCov_skip, ↓ View.readCov_cons_toLoadRect, ↓ View.readCov_fill]
  frame_out
  exact (pay3_at _ _ _ k).trans (congrArg (fun z : EReal => _ + z) (Finset.sum_congr rfl fun r _ =>
    congrArg (fun y => Cert.NormRow.dg _ y k) (acc_row _ _ r)))

/-- The gradient of the gain after the last point: the four tiles' shares. -/
theorem dg_sum (ht : t.val % 4 = 3) (k : Fin 1024) :
    ((outsAt0 m c t.val t.isLt).2.2 (ix2 0 k) : EReal)
      = ∑ s : Fin 4, dgTile m c ⟨4 * (t.val / 4) + s.val, Pipeline.run_point_lt_of_flush t ht s⟩ k := by
  have h := Pipeline.eq_sum_fin_of_reset_step_apply_of_flush (M := EReal)
    (fun n h (k : Fin 1024) => (outsAt0 m c n h).2.2 (ix2 0 k)) 4 (fun _ => 0) (fun t k => dgTile m c t k)
    (fun t h0 k => dg_A m c t h0 k) (fun t h0 k => dg_B m c t h0 k) t ht k
  rw [zero_add] at h
  exact h

end Cert.Kernel10Ideal.GateBwd

end

end
-- ==== Proof.GateArrays.lean ====
/- The three results of the gate of the per-layer embedding, backward to its input, as functions of the arrays that the call
   reads. -/
module

public import proofs.«01_k».proof.Proof.GatePoint
public import proofs.«01_k».proof.Proof.InArrays
public import proofs.«01_k».proof.Proof.Gen.Kernel10Ideal.Value
public import proofs.«01_k».proof.Proof.Entries
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel10Ideal.GateBwd

open Cert.Kernel10Ideal Cert.Kernel10Ideal.Gen
open Cert.Kernel6Ideal.InBwd (row gain arow again ix_row)

/-- The blocks of point `t`: row tile `t`. -/
theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![t.val, 0] ∧ win0_7.index t = ![0, 0] ∧ t.val < 4 :=
  (by decide +kernel : ∀ t : Fin grid0.N, _)

section Reads

variable (c : Dev nD) (W : (b : Ref sig .tc) → Buf (Elt Ideal) ((c : Thread nD τ).loc b)) (t : Fin cfg0.N)

/-- Window 0's block is the gate's gradient there. -/
theorem read0 (r n : Fin 1024) (i : Fin 4096) (hi : i.val = t.val * 1024 + r.val) :
    (show FVec Ideal S1024x1024 .bf16 from ((cfg0.win 0).blk t).view.read (Elt Ideal) (W (Pipeline.arrRef spec0 0))) (ix2 r n)
      = (show FVec Ideal S4096x1024 .bf16 from W main_arg3) (ix2 i n) := by
  blk_ext [idx t]

/-- Window 1's block is the whole weight. -/
theorem read1 (k n : Fin 1024) :
    (show FVec Ideal S1024x1024 .bf16 from ((cfg0.win 1).blk t).view.read (Elt Ideal) (W (Pipeline.arrRef spec0 1))) (ix2 k n)
      = (show FVec Ideal S1024x1024 .bf16 from W main_v0) (ix2 k n) := by
  blk_ext [idx t]

/-- Window 2's block is the input's rows there. -/
theorem read2 (r k : Fin 1024) (i : Fin 4096) (hi : i.val = t.val * 1024 + r.val) :
    (show FVec Ideal S1024x1024 .f32 from ((cfg0.win 2).blk t).view.read (Elt Ideal) (W (Pipeline.arrRef spec0 2))) (ix2 r k)
      = (show FVec Ideal S4096x1024 .f32 from W main_arg0) (ix2 i k) := by
  blk_ext [idx t]

/-- Window 3's block is the gain. -/
theorem read3 (k : Fin 1024) :
    (show FVec Ideal S1x1024 .f32 from ((cfg0.win 3).blk t).view.read (Elt Ideal) (W (Pipeline.arrRef spec0 3))) (ix2 0 k)
      = (show FVec Ideal S1x1024 .f32 from W main_v1) (ix2 0 k) := by
  blk_ext [idx t]

/-- Window 4's block is the residual's gradient there. -/
theorem read4 (r k : Fin 1024) (i : Fin 4096) (hi : i.val = t.val * 1024 + r.val) :
    (show FVec Ideal S1024x1024 .f32 from ((cfg0.win 4).blk t).view.read (Elt Ideal) (W (Pipeline.arrRef spec0 4))) (ix2 r k)
      = (show FVec Ideal S4096x1024 .f32 from W main_arg4) (ix2 i k) := by
  blk_ext [idx t]

end Reads

variable (m : (ℓ : Loc nD τ sig) → Buf (Elt Ideal) ℓ) (c : Dev nD)

abbrev argX : FVec Ideal S4096x1024 .f32 := m ((c : Thread nD τ).loc main_arg0)
abbrev argG : FVec Ideal S1024 .f32 := m ((c : Thread nD τ).loc main_arg1)
abbrev argW : FVec Ideal S1024x1024 .f32 := m ((c : Thread nD τ).loc main_arg2)
abbrev argD : FVec Ideal S4096x1024 .bf16 := m ((c : Thread nD τ).loc main_arg3)
abbrev argR : FVec Ideal S4096x1024 .f32 := m ((c : Thread nD τ).loc main_arg4)

theorem arrW_at (k n : Fin 1024) : ((show FVec Ideal S1024x1024 .bf16 from V m c main_v0) (ix2 k n) : EReal) = argW m c (ix2 k n) := by
  entry_read
  pointwise
theorem arrG_at (k : Fin 1024) : (show FVec Ideal S1x1024 .f32 from V m c main_v1) (ix2 0 k) = argG m c (ix1 k) := by
  entry_read
  pointwise
theorem arrX_eq : V m c main_arg0 = argX m c := by entry_read; rfl
theorem arrD_eq : V m c main_arg3 = argD m c := by entry_read; rfl
theorem arrR_eq : V m c main_arg4 = argR m c := by entry_read; rfl

/-- The gradient of the normalised input. -/
def aY (W : FVec Ideal S1024x1024 .f32) (D : FVec Ideal S4096x1024 .bf16) (i : Fin 4096) (k : Fin 1024) : EReal :=
  ∑ n : Fin 1024, D (ix2 i n) * W (ix2 k n)

/-- The gradient of the input as an array. -/
def dxArr (X : FVec Ideal S4096x1024 .f32) (G : FVec Ideal S1024 .f32) (W : FVec Ideal S1024x1024 .f32) (D : FVec Ideal S4096x1024 .bf16)
    (R : FVec Ideal S4096x1024 .f32) : S4096x1024.Idx → EReal :=
  fun y => Cert.NormRow.dx (arow X (y 0)) (again G) (aY W D (y 0)) (arow R (y 0)) (y 1)

/-- The gradient of the gain as an array. -/
def dgArr (X : FVec Ideal S4096x1024 .f32) (W : FVec Ideal S1024x1024 .f32) (D : FVec Ideal S4096x1024 .bf16) : S1x1024.Idx → EReal :=
  fun y => ∑ i : Fin 4096, Cert.NormRow.dg (arow X i) (aY W D i) (y 1)

/-! ## The rows of a tile are the arrays' -/

section Rows

variable (t : Fin cfg0.N) (r : Fin 1024) (i : Fin 4096) (hi : i.val = t.val * 1024 + r.val)
include hi

theorem row2_eq : row (iblk m c 2 t) r = arow (argX m c) i :=
  funext fun k => (read2 c (V m c) t r k i hi).trans (congrFun (arrX_eq m c) _)

theorem row4_eq : row (iblk m c 4 t) r = arow (argR m c) i :=
  funext fun k => (read4 c (V m c) t r k i hi).trans (congrFun (arrR_eq m c) _)

theorem prod_eq : prod (iblk m c 0 t) (iblk m c 1 t) r = aY (argW m c) (argD m c) i := by
  funext k
  unfold prod aY
  exact Finset.sum_congr rfl fun n _ => congrArg₂ (fun x y : EReal => x * y)
    ((read0 c (V m c) t r n i hi).trans (congrFun (arrD_eq m c) _)) ((read1 c (V m c) t k n).trans (arrW_at m c k n))

/-- The gradient of a row of a tile is the array's row. -/
theorem dxRow_eq : dxRow m c t r
    = Cert.NormRow.dx (arow (argX m c) i) (again (argG m c)) (aY (argW m c) (argD m c) i) (arow (argR m c) i) := by
  have e : gain (iblk m c 3 t) = again (argG m c) := funext fun k => (read3 c (V m c) t k).trans (arrG_at m c k)
  unfold dxRow
  rw [row2_eq m c t r i hi, row4_eq m c t r i hi, prod_eq m c t r i hi, e]

end Rows

/-- The gradient of the gain after the last point. -/
theorem dg_eq (t : Fin cfg0.N) (ht : t.val % 4 = 3) (k : Fin 1024) :
    ((outsAt0 m c t.val t.isLt).2.2 (ix2 0 k) : EReal) = ∑ i : Fin 4096, Cert.NormRow.dg (arow (argX m c) i) (aY (argW m c) (argD m c) i) k := by
  have hb : t.val < 4 := (idx t).2.2.2.2.2.2.2.2
  refine (dg_sum m c t ht k).trans ?_
  unfold dgTile
  exact Cert.NormRow.sum_tiles 4 1024 4096 rfl _ _ fun s r i hi => by
    rw [row2_eq m c _ r i (by simp only []; omega), prod_eq m c _ r i (by simp only []; omega)]

/-! ## The arrays after the run -/

/-- An index of a row tile, read at the array. -/
theorem dx_idx (t : Fin cfg0.N) (y : S1024x1024.Idx) (j : S4096x1024.Idx) (h0 : (j 0 : ℕ) = t.val * 1024 + (y 0 : ℕ)) (h1 : (j 1 : ℕ) = (y 1 : ℕ)) :
    dxRow m c t (y 0) (y 1) = dxArr (argX m c) (argG m c) (argW m c) (argD m c) (argR m c) j := by
  unfold dxArr
  rw [dxRow_eq m c t (y 0) (j 0) h0]
  exact congrArg _ (Fin.ext h1.symm)

theorem final_dx : (dats m 0 c).arrAt 5 (cfgs 0).N = dxArr (argX m c) (argG m c) (argW m c) (argD m c) (argR m c) := by
  refine (dats m 0 c).arrAt_eq_of_covers 5 _ (by decide +kernel) fun t hf y => ?_
  blk_simp
  rw [after0_5]
  refine Eq.trans (congrArg _ (Cert.Entries.ix_eta 1024 1024 y)) ((dx_at m c t (y 0) (y 1)).trans (dx_idx m c t y _ ?_ ?_))
  all_goals (blk_simp [idx t] <;> (try simp only []) <;> (try omega))

theorem final_dxb : (dats m 0 c).arrAt 6 (cfgs 0).N = dxArr (argX m c) (argG m c) (argW m c) (argD m c) (argR m c) := by
  refine (dats m 0 c).arrAt_eq_of_covers 6 _ (by decide +kernel) fun t hf y => ?_
  blk_simp
  rw [after0_6]
  refine Eq.trans (congrArg _ (Cert.Entries.ix_eta 1024 1024 y)) ((dxb_at m c t (y 0) (y 1)).trans (dx_idx m c t y _ ?_ ?_))
  all_goals (blk_simp [idx t] <;> (try simp only []) <;> (try omega))

theorem final_dg : (dats m 0 c).arrAt 7 (cfgs 0).N = dgArr (argX m c) (argW m c) (argD m c) := by
  refine (dats m 0 c).arrAt_eq_of_covers 7 _ (by decide +kernel) fun t hf y => ?_
  blk_simp
  rw [after0_7]
  refine Eq.trans (congrArg _ (ix_row y)) ((dg_eq m c t ((flush0_7 t).mp hf) (y 1)).trans (Eq.symm ?_))
  unfold dgArr
  refine congrArg (fun k : Fin 1024 => ∑ i : Fin 4096, Cert.NormRow.dg (arow (argX m c) i) (aY (argW m c) (argD m c) i) k) (Fin.ext ?_)
  blk_simp [idx t] <;> (try simp only []) <;> (try omega)

end Cert.Kernel10Ideal.GateBwd

end

end
-- ==== Proof.GateEquation.lean ====
/- The three results of the gate of the per-layer embedding, backward to its input, are the chain rule's, whatever the arguments
   hold. The reference's lines up to the norm's root are those of the input projection's reference. -/
module

public import proofs.«01_k».proof.Proof.GateArrays
public import proofs.«01_k».proof.Proof.InEquation
public import proofs.«01_k».proof.Proof.Gen.Reference10Ideal.Read
public import Idealize.ShloMosaic.Lib.Pointwise

@[expose] public section

set_option maxRecDepth 16384

noncomputable section

open Idealize.ShloMosaic Idealize.ShloMosaic.TcCoe Idealize.SL.Sem

namespace Cert.Kernel10Ideal.GateBwd

open Cert.Kernel10Ideal Cert.Kernel10Ideal.Gen Cert.Reference10Ideal.Read
open Cert.Kernel6Ideal.InBwd (row gain arow again ix_row)

variable (x : FVec Ideal S4096x1024 .f32) (g : FVec Ideal S1024 .f32) (w : FVec Ideal S1024x1024 .f32)
  (d : FVec Ideal S4096x1024 .bf16) (R : FVec Ideal S4096x1024 .f32)

theorem v7_at (i : Fin 4096) : val_main_v7 (F := Ideal) x (ix2 i 0) = Cert.NormRow.root (arow x i) :=
  Cert.Kernel6Ideal.InBwd.v7_at x i

theorem v10_at (i : Fin 4096) :
    val_main_v10 (F := Ideal) x (ix2 i 0)
      = Ideal.ofBits .f32 0xBF000000#32 * Ideal.div (Cert.NormRow.root (arow x i)) (Cert.NormRow.mean (arow x i)) :=
  Cert.Kernel6Ideal.InBwd.v10_at x i

/-- The gradient of the normalised input. -/
theorem v18_at (i : Fin 4096) (k : Fin 1024) : val_main_v18 (F := Ideal) w d (ix2 i k) = aY w d i k := by
  unfold val_main_v18 val_main_v17 aY
  pointwise

/-- The gradient of the norm before its gain. -/
theorem v23_at (i : Fin 4096) (k : Fin 1024) : val_main_v23 (F := Ideal) g w d (ix2 i k) = aY w d i k * again g k := by
  rw [← v18_at]
  unfold val_main_v23 val_main_v22 val_main_v13
  generalize val_main_v18 (F := Ideal) w d = y
  pointwise

/-- The row's sum of entries times gradients. -/
theorem v27_at (i : Fin 4096) :
    val_main_v27 (F := Ideal) x g w d (ix2 i 0) = ∑ l : Fin 1024, arow x i l * (aY w d i l * again g l) := by
  have e : val_main_v27 (F := Ideal) x g w d (ix2 i 0) = ∑ l : Fin 1024, x (ix2 i l) * val_main_v23 (F := Ideal) g w d (ix2 i l) := by
    unfold val_main_v27 val_main_v26 val_main_v25 val_main_cst_5
    generalize val_main_v23 (F := Ideal) g w d = y
    pointwise
  exact e.trans (Finset.sum_congr rfl fun l _ => congrArg (fun z => x (ix2 i l) * z) (v23_at g w d i l))

/-- What reaches every entry of a row through the mean. -/
theorem v35_at (i : Fin 4096) (k : Fin 1024) :
    val_main_v35 (F := Ideal) x g w d (ix2 i k) = Cert.NormRow.through (arow x i) (again g) (aY w d i) := by
  unfold Cert.NormRow.through
  rw [← v10_at, ← v27_at]
  unfold val_main_v35 val_main_v34 val_main_v33 val_main_v32 val_main_v31 val_main_cst_6 val_main_cst_7
  generalize val_main_v27 (F := Ideal) x g w d = s
  generalize val_main_v10 (F := Ideal) x = r
  pointwise
  exact Fintype.sum_unique (ι := Fin 1) _

/-- The gradient of the input. -/
theorem v39_at (i : Fin 4096) (k : Fin 1024) :
    val_main_v39 (F := Ideal) x g w d R (ix2 i k) = Cert.NormRow.dx (arow x i) (again g) (aY w d i) (arow R i) k := by
  rw [← Cert.NormRow.chain_eq, ← v23_at, ← v7_at, ← v35_at x g w d i k]
  unfold val_main_v39 val_main_v38 val_main_v37 val_main_v36 val_main_v30 val_main_v29 val_main_v28
  generalize val_main_v23 (F := Ideal) g w d = y
  generalize val_main_v35 (F := Ideal) x g w d = s
  generalize val_main_v7 (F := Ideal) x = r
  pointwise

/-- The gradient of the gain, one column. -/
theorem v41_at (k : Fin 1024) :
    val_main_v41 (F := Ideal) x w d (ix2 0 k) = ∑ i : Fin 4096, Cert.NormRow.dg (arow x i) (aY w d i) k := by
  refine Eq.trans ?_ (Finset.sum_congr rfl fun i _ => by rw [← v7_at, ← v18_at] :
    (∑ i : Fin 4096, (x (ix2 i k) * val_main_v7 (F := Ideal) x (ix2 i 0)) * val_main_v18 (F := Ideal) w d (ix2 i k))
      = ∑ i : Fin 4096, (arow x i k * Cert.NormRow.root (arow x i)) * aY w d i k) |>.trans
    (Finset.sum_congr rfl fun i _ => Cert.NormRow.chain_dg (arow x i) (aY w d i) k)
  unfold val_main_v41 val_main_v24 val_main_v21 val_main_v20 val_main_v19 val_main_v12 val_main_v11 val_main_cst_3 val_main_cst_4
  generalize val_main_v7 (F := Ideal) x = r
  generalize val_main_v18 (F := Ideal) w d = y
  pointwise
  exact Fintype.sum_unique (ι := Fin 1) _

/-- The three arrays. -/
theorem arrays_eq : dxArr x g w d R = val_main_v39 (F := Ideal) x g w d R ∧ dxArr x g w d R = val_main_v40 (F := Ideal) x g w d R
    ∧ dgArr x w d = val_main_v41 (F := Ideal) x w d := by
  have h : dxArr x g w d R = val_main_v39 (F := Ideal) x g w d R := funext fun y =>
    (v39_at x g w d R (y 0) (y 1)).symm.trans (congrArg _ (Cert.Entries.ix_eta 4096 1024 y).symm)
  refine ⟨h, h.trans ?_, funext fun y => ?_⟩
  · funext y
    unfold val_main_v40
    pointwise
  · exact (v41_at x w d (y 1)).symm.trans (congrArg _ (ix_row y).symm)

end Cert.Kernel10Ideal.GateBwd

end

end
-- ==== Proof.GroupRow.lean ====
/- A row of 1024 entries in four groups of 256, each with its own mean square: the norm of a row, its parts and its
   gradients. -/
module

public import proofs.«01_k».proof.Proof.NormModel

@[expose] public section

noncomputable section

namespace Cert.GroupRow

open Idealize.ShloMosaic

/-- The group of a column. -/
def grp (n : Fin 1024) : Fin 4 := ⟨n.val / 256, by have := n.isLt; omega⟩

/-- Its place in the group. -/
def off (n : Fin 1024) : Fin 256 := ⟨n.val % 256, by omega⟩

/-- The column of a group's place. -/
def col (q : Fin 4) (k : Fin 256) : Fin 1024 := ⟨256 * q.val + k.val, by have := q.isLt; have := k.isLt; omega⟩

theorem grp_of (n : Fin 1024) (q : Fin 4) (k : Fin 256) (h : n.val = 256 * q.val + k.val) : grp n = q :=
  Fin.ext (by have := k.isLt; show n.val / 256 = q.val; omega)

theorem off_of (n : Fin 1024) (q : Fin 4) (k : Fin 256) (h : n.val = 256 * q.val + k.val) : off n = k :=
  Fin.ext (by have := k.isLt; show n.val % 256 = k.val; omega)

theorem col_grp_off (n : Fin 1024) : col (grp n) (off n) = n := Fin.ext (by show 256 * (n.val / 256) + n.val % 256 = n.val; omega)

/-- The mean square of a group's row with the epsilon. -/
def mean (x : Fin 256 → EReal) : EReal :=
  Ideal.div (∑ k, x k * x k) (Ideal.ofBits .f32 0x43800000#32) + Ideal.ofBits .f32 0x358637BD#32

/-- Its reciprocal root. -/
def root (x : Fin 256 → EReal) : EReal := Ideal.rsqrt (mean x)

/-- The norm of a group's row with its gain. -/
def norm (x g : Fin 256 → EReal) (k : Fin 256) : EReal := (x k * root x) * g k

/-- The norm of the whole row. -/
def mixed (Y G : Fin 4 → Fin 256 → EReal) (n : Fin 1024) : EReal := norm (Y (grp n)) (G (grp n)) (off n)

theorem mixed_of (Y G : Fin 4 → Fin 256 → EReal) (n : Fin 1024) (q : Fin 4) (k : Fin 256) (h : n.val = 256 * q.val + k.val) :
    mixed Y G n = norm (Y q) (G q) k := by
  unfold mixed
  rw [grp_of n q k h, off_of n q k h]

/-! ## The gradients -/

/-- The word of 256. -/
theorem word_256 : Ideal.ofBits .f32 0x43800000#32 = ((256 : ℝ) : EReal) := by
  simp [Ideal.ofBits, Ideal.ieee, -EReal.coe_mul]; norm_num

/-- The quotient by 256 is the product with its inverse. -/
theorem div_256 (x : EReal) : Ideal.div x (Ideal.ofBits .f32 0x43800000#32) = x * ((1 / 256 : ℝ) : EReal) := by
  rw [word_256]; exact Ideal.div_coe (by norm_num) x

/-- The mean square with the epsilon is positive. -/
theorem mean_pos (x : Fin 256 → EReal) : 0 < mean x := by
  unfold mean
  rw [div_256]
  have h : (0 : EReal) ≤ (∑ k, x k * x k) * ((1 / 256 : ℝ) : EReal) :=
    mul_nonneg (Finset.sum_nonneg fun k _ => Cert.NormModel.square_nonneg _) (by exact_mod_cast (by norm_num : (0 : ℝ) ≤ 1 / 256))
  exact lt_of_lt_of_le Cert.NormModel.eps_pos (le_add_of_nonneg_left h)

/-- The gradient of a group's row, in the closed form with the root's cube: `y` is the gradient of the norm. -/
def dx (x g y : Fin 256 → EReal) (k : Fin 256) : EReal :=
  root x * (y k * g k) - x k * ((root x * root x * root x) * Ideal.div (∑ l, (y l * g l) * x l) (Ideal.ofBits .f32 0x43800000#32))

/-- A row's share of the gradient of the gain. -/
def dg (x y : Fin 256 → EReal) (k : Fin 256) : EReal := (y k * x k) * root x

/-- What reaches every entry of the row through the mean, as the chain rule writes it. -/
def through (x g y : Fin 256 → EReal) : EReal :=
  Ideal.div ((∑ l, x l * (y l * g l)) * (Ideal.ofBits .f32 0xBF000000#32 * Ideal.div (root x) (mean x))) (Ideal.ofBits .f32 0x43800000#32)

/-- The chain rule's gradient is the closed form. -/
theorem chain_eq (x g y : Fin 256 → EReal) (k : Fin 256) :
    (((y k * g k) * root x) + x k * through x g y) + through x g y * x k = dx x g y k := by
  have e : (∑ l, x l * (y l * g l)) = ∑ l, (y l * g l) * x l := Finset.sum_congr rfl fun l _ => mul_comm _ _
  unfold through dx
  rw [e, div_256, div_256, show Ideal.div (root x) (mean x) = root x * root x * root x from Cert.NormModel.root_cube _ (mean_pos x),
    Cert.NormModel.word_neg_half, add_assoc, Cert.NormModel.root_term, sub_eq_add_neg, mul_comm (y k * g k)]

/-- Its share of the gain's gradient is the closed form's. -/
theorem chain_dg (x y : Fin 256 → EReal) (k : Fin 256) : (x k * root x) * y k = dg x y k := by unfold dg; ac_rfl

/-- The gradient of the whole row. -/
def mixedDx (Y G D : Fin 4 → Fin 256 → EReal) (n : Fin 1024) : EReal := dx (Y (grp n)) (G (grp n)) (D (grp n)) (off n)

theorem mixedDx_of (Y G D : Fin 4 → Fin 256 → EReal) (n : Fin 1024) (q : Fin 4) (k : Fin 256) (h : n.val = 256 * q.val + k.val) :
    mixedDx Y G D n = dx (Y q) (G q) (D q) k := by
  unfold mixedDx
  rw [grp_of n q k h, off_of n q k h]

/-- The whole row's share of the gradient of the four gains. -/
def mixedDg (Y D : Fin 4 → Fin 256 → EReal) (n : Fin 1024) : EReal := dg (Y (grp n)) (D (grp n)) (off n)

theorem mixedDg_of (Y D : Fin 4 → Fin 256 → EReal) (n : Fin 1024) (q : Fin 4) (k : Fin 256) (h : n.val = 256 * q.val + k.val) :
    mixedDg Y D n = dg (Y q) (D q) k := by
  unfold mixedDg
  rw [grp_of n q k h, off_of n q k h]

end Cert.GroupRow

end

end
-- ==== Proof.MixPoint.lean ====
/- The mixer's output call, forward: what each grid point leaves in its two outputs, over the point's blocks. -/
module

public import proofs.«01_k».proof.Proof.Gen.Kernel11Ideal.Frame
public import proofs.«01_k».proof.Proof.GroupRow
public import proofs.«01_k».proof.Proof.Entries
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.MixOut

open Cert.Kernel11Ideal Cert.Kernel11Ideal.Gen

/-- The rows `r` of the four groups' tiles. -/
def rows (a b d e : FVec Ideal S1024x256 .bf16) (r : Fin 1024) : Fin 4 → Fin 256 → EReal :=
  ![fun l => a (ix2 r l), fun l => b (ix2 r l), fun l => d (ix2 r l), fun l => e (ix2 r l)]

/-- The gains of the four groups, side by side in one row. -/
def gains (g : FVec Ideal S1x1024 .f32) (q : Fin 4) (k : Fin 256) : EReal := g (ix2 0 (Cert.GroupRow.col q k))

theorem pay2_at (Y : FVec Ideal S1024x256 .bf16) (g : FVec Ideal S1x256 .f32) (r : Fin 1024) (k : Fin 256) :
    (k0_pay2 (F := Ideal) Y g (ix2 r k) : EReal) = Cert.GroupRow.norm (fun l => Y (ix2 r l)) (fun l => g (ix2 0 l)) k := by
  unfold Cert.GroupRow.norm Cert.GroupRow.root Cert.GroupRow.mean
  pointwise [k0_pay2]

theorem pay1_at (h w : FVec Ideal S1024x1024 .bf16) (x : FVec Ideal S1024x1024 .f32) (r k : Fin 1024) :
    (k0_pay1 (F := Ideal) h w x (ix2 r k) : EReal) = (∑ n : Fin 1024, h (ix2 r n) * w (ix2 n k)) + x (ix2 r k) := by
  pointwise [k0_pay1]

theorem pay1_of (h w : FVec Ideal S1024x1024 .bf16) (x : FVec Ideal S1024x1024 .f32) (r k : Fin 1024) (R : Fin 1024 → EReal)
    (hR : ∀ n, (h (ix2 r n) : EReal) = R n) :
    (k0_pay1 (F := Ideal) h w x (ix2 r k) : EReal) = (∑ n : Fin 1024, R n * w (ix2 n k)) + x (ix2 r k) := by
  rw [pay1_at]
  exact congrArg (fun s : EReal => s + x (ix2 r k)) (Finset.sum_congr rfl fun n _ => congrArg (fun z : EReal => z * w (ix2 n k)) (hR n))

/-- One group's store, at the column it holds. -/
theorem group_at (Y : FVec Ideal S1024x256 .bf16) (g : FVec Ideal S1x256 .f32) (R G : Fin 4 → Fin 256 → EReal) (q : Fin 4)
    (r k : Fin 1024) (x : S1024x256.Idx) (hr : (x 0).val = r.val) (hk : k.val = 256 * q.val + (x 1).val)
    (hR : (fun l => Y (ix2 r l)) = R q) (hG : (fun l => g (ix2 0 l)) = G q) :
    (k0_pay2 (F := Ideal) Y g x : EReal) = Cert.GroupRow.mixed R G k := by
  have e0 : x 0 = r := Fin.ext hr
  refine (congrArg (k0_pay2 (F := Ideal) Y g) (Cert.Entries.ix_eta 1024 256 x)).trans ((pay2_at Y g (x 0) (x 1)).trans ?_)
  rw [Cert.GroupRow.mixed_of R G k q (x 1) hk, e0, hR, hG]

/-- The gains a load of one group's columns reads. -/
theorem gain_ld (G : FVec Ideal S1x1024 .f32) (o : ℕ) (q : Fin 4) (h : ∀ a, (![0, o] : Fin 2 → ℕ) a + (![1, 256] : Fin 2 → ℕ) a ≤ S1x1024.size a)
    (ho : o = 256 * q.val) :
    (fun l : Fin 256 => (show FVec Ideal S1x256 .f32 from View.ld (Val := Elt Ideal) (e' := .f32) G (Rect.unit (s := S1x1024) ![0, o] ![1, 256] h)) (ix2 0 l)) = gains G q := by
  funext l
  refine congrArg G (funext fun a => Fin.ext ?_)
  match a with
  | ⟨0, _⟩ => rfl
  | ⟨1, _⟩ => show o + 1 * l.val = 256 * q.val + l.val; omega

variable (a b d e : FVec Ideal S1024x256 .bf16) (G : FVec Ideal S1x1024 .f32)

/-- The whole tile of normalised rows, from its four groups of columns. -/
theorem scratch_at (r k : Fin 1024) :
    (View.canon (Val := Elt Ideal) (s := S1024x1024) (e := .bf16)
      [⟨Rect.unit ![0, 768] ![1024, 256] inb_S1024x1024_S1024x256_0_768,
          k0_pay5 (F := Ideal) d (View.ld (Val := Elt Ideal) (e' := .f32) G (Rect.unit ![0, 768] ![1, 256] inb_S1x1024_S1x256_0_768))⟩,
        ⟨Rect.unit ![0, 512] ![1024, 256] inb_S1024x1024_S1024x256_0_512,
          k0_pay4 (F := Ideal) e (View.ld (Val := Elt Ideal) (e' := .f32) G (Rect.unit ![0, 512] ![1, 256] inb_S1x1024_S1x256_0_512))⟩,
        ⟨Rect.unit ![0, 256] ![1024, 256] inb_S1024x1024_S1024x256_0_256,
          k0_pay3 (F := Ideal) b (View.ld (Val := Elt Ideal) (e' := .f32) G (Rect.unit ![0, 256] ![1, 256] inb_S1x1024_S1x256_0_256))⟩,
        ⟨Rect.unit ![0, 0] ![1024, 256] inb_S1024x1024_S1024x256_0_0,
          k0_pay2 (F := Ideal) a (View.ld (Val := Elt Ideal) (e' := .f32) G (Rect.unit ![0, 0] ![1, 256] inb_S1x1024_S1x256_0_0))⟩]
      ((Rect.unit (s := S1024x1024) ![0, 0] ![1024, 1024] inb_S1024x1024_S1024x1024_0_0).idx (ix2 r k)) : EReal)
      = Cert.GroupRow.mixed (rows a b e d r) (gains G) k := by
  have i0 : ((Rect.unit (s := S1024x1024) ![0, 0] ![1024, 1024] inb_S1024x1024_S1024x1024_0_0).idx (ix2 r k) 0).val = r.val := by
    show 0 + 1 * r.val = r.val; omega
  have i1 : ((Rect.unit (s := S1024x1024) ![0, 0] ![1024, 1024] inb_S1024x1024_S1024x1024_0_0).idx (ix2 r k) 1).val = k.val := by
    show 0 + 1 * k.val = k.val; omega
  canon_tiles x h
  · exact group_at d _ _ _ 3 r k x (h0.symm.trans i0) (i1.symm.trans h1) rfl (gain_ld G 768 3 _ rfl)
  · exact group_at e _ _ _ 2 r k x (h0.symm.trans i0) (i1.symm.trans h1) rfl (gain_ld G 512 2 _ rfl)
  · exact group_at b _ _ _ 1 r k x (h0.symm.trans i0) (i1.symm.trans h1) rfl (gain_ld G 256 1 _ rfl)
  · exact group_at a _ _ _ 0 r k x (h0.symm.trans i0) (i1.symm.trans (h1.trans (by show _ = 256 * 0 + _; omega))) rfl (gain_ld G 0 0 _ rfl)

variable (m : (ℓ : Loc nD τ sig) → Buf (Elt Ideal) ℓ) (c : Dev nD) (t : Fin cfg0.N)

/-- The normalised row of the point's tile. -/
def hRow (r : Fin 1024) : Fin 1024 → EReal :=
  Cert.GroupRow.mixed (rows (iblk m c 0 t) (iblk m c 1 t) (iblk m c 2 t) (iblk m c 3 t) r) (gains (iblk m c 4 t))

theorem h_at (r k : Fin 1024) : ((outsAt0 m c t).1 (ix2 r k) : EReal) = hRow m c t r k := by
  unfold outsAt0
  frame_open
  frame_out
  rw [View.readCov_eq_canon']
  exact scratch_at _ _ _ _ _ r k

theorem out_at (r k : Fin 1024) : ((outsAt0 m c t).2 (ix2 r k) : EReal)
    = (∑ n : Fin 1024, hRow m c t r n * (show FVec Ideal S1024x1024 .bf16 from iblk m c 5 t) (ix2 n k))
      + (show FVec Ideal S1024x1024 .f32 from iblk m c 6 t) (ix2 r k) := by
  unfold outsAt0
  frame_open
  frame_out
  rw [View.readCov_eq_canon']
  exact pay1_of _ _ _ r k _ fun n => scratch_at (iblk m c 0 t) (iblk m c 1 t) (iblk m c 3 t) (iblk m c 2 t) (iblk m c 4 t) r n

end Cert.Kernel11Ideal.MixOut

end

end
-- ==== Proof.MixArrays.lean ====
/- The mixer's output call, forward: the two arrays it leaves, and that they are the reference's. -/
module

public import proofs.«01_k».proof.Proof.MixPoint
public import proofs.«01_k».proof.Proof.Gen.Kernel11Ideal.Value
public import proofs.«01_k».proof.Proof.Gen.Reference11Ideal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.MixOut

open Cert.Kernel11Ideal Cert.Kernel11Ideal.Gen Cert.Reference11Ideal.Read

/-- The blocks of point `t`: row tile `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

section Reads

variable (c : Dev nD) (W : (b : Ref sig .tc) → Buf (Elt Ideal) ((c : Thread nD τ).loc b)) (t : Fin cfg0.N)

/-- The groups' blocks are their rows there. -/
theorem read0 (r : Fin 1024) (k : Fin 256) (i : Fin 4096) (hi : i.val = t.val * 1024 + r.val) :
    (show FVec Ideal S1024x256 .bf16 from ((cfg0.win 0).blk t).view.read (Elt Ideal) (W (Pipeline.arrRef spec0 0))) (ix2 r k)
      = (show FVec Ideal S4096x256 .bf16 from W main_arg0) (ix2 i k) := by
  blk_ext [idx t]
theorem read1 (r : Fin 1024) (k : Fin 256) (i : Fin 4096) (hi : i.val = t.val * 1024 + r.val) :
    (show FVec Ideal S1024x256 .bf16 from ((cfg0.win 1).blk t).view.read (Elt Ideal) (W (Pipeline.arrRef spec0 1))) (ix2 r k)
      = (show FVec Ideal S4096x256 .bf16 from W main_arg1) (ix2 i k) := by
  blk_ext [idx t]
theorem read2 (r : Fin 1024) (k : Fin 256) (i : Fin 4096) (hi : i.val = t.val * 1024 + r.val) :
    (show FVec Ideal S1024x256 .bf16 from ((cfg0.win 2).blk t).view.read (Elt Ideal) (W (Pipeline.arrRef spec0 2))) (ix2 r k)
      = (show FVec Ideal S4096x256 .bf16 from W main_arg2) (ix2 i k) := by
  blk_ext [idx t]
theorem read3 (r : Fin 1024) (k : Fin 256) (i : Fin 4096) (hi : i.val = t.val * 1024 + r.val) :
    (show FVec Ideal S1024x256 .bf16 from ((cfg0.win 3).blk t).view.read (Elt Ideal) (W (Pipeline.arrRef spec0 3))) (ix2 r k)
      = (show FVec Ideal S4096x256 .bf16 from W main_arg3) (ix2 i k) := by
  blk_ext [idx t]

/-- Window 4's block is the four gains side by side. -/
theorem read4 (k : Fin 1024) :
    (show FVec Ideal S1x1024 .f32 from ((cfg0.win 4).blk t).view.read (Elt Ideal) (W (Pipeline.arrRef spec0 4))) (ix2 0 k)
      = (show FVec Ideal S1x1024 .f32 from W main_v0) (ix2 0 k) := by
  blk_ext [idx t]

/-- Window 5's block is the whole weight. -/
theorem read5 (n k : Fin 1024) :
    (show FVec Ideal S1024x1024 .bf16 from ((cfg0.win 5).blk t).view.read (Elt Ideal) (W (Pipeline.arrRef spec0 5))) (ix2 n k)
      = (show FVec Ideal S1024x1024 .bf16 from W main_v1) (ix2 n k) := by
  blk_ext [idx t]

/-- Window 6's block is the residual's rows there. -/
theorem read6 (r k : Fin 1024) (i : Fin 4096) (hi : i.val = t.val * 1024 + r.val) :
    (show FVec Ideal S1024x1024 .f32 from ((cfg0.win 6).blk t).view.read (Elt Ideal) (W (Pipeline.arrRef spec0 6))) (ix2 r k)
      = (show FVec Ideal S4096x1024 .f32 from W main_arg6) (ix2 i k) := by
  blk_ext [idx t]

end Reads

/-! ## The arrays -/

section Arrays

variable (a b d e : FVec Ideal S4096x256 .bf16) (G : FVec Ideal S4x256 .f32) (W : FVec Ideal S1024x1024 .f32) (X : FVec Ideal S4096x1024 .f32)

/-- The rows `i` of the four groups. -/
def aRows (i : Fin 4096) : Fin 4 → Fin 256 → EReal :=
  ![fun l => a (ix2 i l), fun l => b (ix2 i l), fun l => d (ix2 i l), fun l => e (ix2 i l)]

def hArr : S4096x1024.Idx → EReal := fun y => Cert.GroupRow.mixed (aRows a b d e (y 0)) (fun q k => G (ix2 q k)) (y 1)
def outArr : S4096x1024.Idx → EReal := fun y =>
  (∑ n : Fin 1024, Cert.GroupRow.mixed (aRows a b d e (y 0)) (fun q k => G (ix2 q k)) n * W (ix2 n (y 1))) + X (ix2 (y 0) (y 1))

end Arrays

variable (m : (ℓ : Loc nD τ sig) → Buf (Elt Ideal) ℓ) (c : Dev nD)

abbrev arg0 : FVec Ideal S4096x256 .bf16 := m ((c : Thread nD τ).loc main_arg0)
abbrev arg1 : FVec Ideal S4096x256 .bf16 := m ((c : Thread nD τ).loc main_arg1)
abbrev arg2 : FVec Ideal S4096x256 .bf16 := m ((c : Thread nD τ).loc main_arg2)
abbrev arg3 : FVec Ideal S4096x256 .bf16 := m ((c : Thread nD τ).loc main_arg3)
abbrev argG : FVec Ideal S4x256 .f32 := m ((c : Thread nD τ).loc main_arg4)
abbrev argW : FVec Ideal S1024x1024 .f32 := m ((c : Thread nD τ).loc main_arg5)
abbrev argX : FVec Ideal S4096x1024 .f32 := m ((c : Thread nD τ).loc main_arg6)

theorem arr0_eq : V m c main_arg0 = arg0 m c := by entry_read; rfl
theorem arr1_eq : V m c main_arg1 = arg1 m c := by entry_read; rfl
theorem arr2_eq : V m c main_arg2 = arg2 m c := by entry_read; rfl
theorem arr3_eq : V m c main_arg3 = arg3 m c := by entry_read; rfl
theorem arrX_eq : V m c main_arg6 = argX m c := by entry_read; rfl
theorem arrW_at (n k : Fin 1024) : ((show FVec Ideal S1024x1024 .bf16 from V m c main_v1) (ix2 n k) : EReal) = argW m c (ix2 n k) := by
  entry_read
  pointwise
theorem arrG_at (q : Fin 4) (k : Fin 256) :
    (show FVec Ideal S1x1024 .f32 from V m c main_v0) (ix2 0 (Cert.GroupRow.col q k)) = argG m c (ix2 q k) := by
  entry_read
  pointwise
  exact congrArg₂ (fun (q : Fin 4) (k : Fin 256) => argG m c (ix2 q k))
    (Cert.GroupRow.grp_of (Cert.GroupRow.col q k) q k rfl) (Cert.GroupRow.off_of (Cert.GroupRow.col q k) q k rfl)

section Rows

variable (t : Fin cfg0.N) (r : Fin 1024) (i : Fin 4096) (hi : i.val = t.val * 1024 + r.val)
include hi

theorem rows_eq : rows (iblk m c 0 t) (iblk m c 1 t) (iblk m c 2 t) (iblk m c 3 t) r = aRows (arg0 m c) (arg1 m c) (arg2 m c) (arg3 m c) i := by
  funext q k
  match q with
  | 0 => exact (read0 c (V m c) t r k i hi).trans (congrFun (arr0_eq m c) _)
  | 1 => exact (read1 c (V m c) t r k i hi).trans (congrFun (arr1_eq m c) _)
  | 2 => exact (read2 c (V m c) t r k i hi).trans (congrFun (arr2_eq m c) _)
  | 3 => exact (read3 c (V m c) t r k i hi).trans (congrFun (arr3_eq m c) _)

theorem hRow_eq : hRow m c t r = Cert.GroupRow.mixed (aRows (arg0 m c) (arg1 m c) (arg2 m c) (arg3 m c) i) (fun q k => argG m c (ix2 q k)) := by
  have e : gains (iblk m c 4 t) = fun q k => argG m c (ix2 q k) :=
    funext fun q => funext fun k => (read4 c (V m c) t (Cert.GroupRow.col q k)).trans (arrG_at m c q k)
  unfold hRow
  rw [rows_eq m c t r i hi, e]

theorem out_eq (k : Fin 1024) :
    (∑ n : Fin 1024, hRow m c t r n * (show FVec Ideal S1024x1024 .bf16 from iblk m c 5 t) (ix2 n k))
      + (show FVec Ideal S1024x1024 .f32 from iblk m c 6 t) (ix2 r k)
      = outArr (arg0 m c) (arg1 m c) (arg2 m c) (arg3 m c) (argG m c) (argW m c) (argX m c) (ix2 i k) := by
  rw [hRow_eq m c t r i hi]
  exact congrArg₂ (fun x y : EReal => x + y)
    (Finset.sum_congr rfl fun n _ => congrArg (fun z : EReal => _ * z) ((read5 c (V m c) t n k).trans (arrW_at m c n k)))
    ((read6 c (V m c) t r k i hi).trans (congrFun (arrX_eq m c) _))

end Rows

/-- The place in the array of an index of a row tile. -/
theorem place (f : S4096x1024.Idx → EReal) (t : Fin cfg0.N) (y : S1024x1024.Idx) (j : S4096x1024.Idx) (h1 : (j 1 : ℕ) = (y 1 : ℕ)) :
    f (ix2 (j 0) (y 1)) = f j :=
  (congrArg (fun k : Fin 1024 => f (ix2 (j 0) k)) (Fin.ext h1.symm : (y 1 : Fin 1024) = j 1)).trans
    (congrArg f (Cert.Entries.ix_eta 4096 1024 j).symm)

theorem final_h : (dats m 0 c).arrAt 7 (cfgs 0).N = hArr (arg0 m c) (arg1 m c) (arg2 m c) (arg3 m c) (argG m c) := by
  refine (dats m 0 c).arrAt_eq_of_covers 7 _ (by decide +kernel) fun t hf y => ?_
  blk_simp
  rw [after0_7]
  refine Eq.trans (congrArg _ (Cert.Entries.ix_eta 1024 1024 y)) ((h_at m c t (y 0) (y 1)).trans
    ((congrFun (hRow_eq m c t (y 0) _ ?_) (y 1)).trans (place (hArr _ _ _ _ _) t y _ ?_)))
  all_goals (blk_simp [idx t] <;> (try simp only []) <;> (try omega))

theorem final_out : (dats m 0 c).arrAt 8 (cfgs 0).N
    = outArr (arg0 m c) (arg1 m c) (arg2 m c) (arg3 m c) (argG m c) (argW m c) (argX m c) := by
  refine (dats m 0 c).arrAt_eq_of_covers 8 _ (by decide +kernel) fun t hf y => ?_
  blk_simp
  rw [after0_8]
  refine Eq.trans (congrArg _ (Cert.Entries.ix_eta 1024 1024 y)) ((out_at m c t (y 0) (y 1)).trans
    ((out_eq m c t (y 0) _ ?_ (y 1)).trans (place _ t y _ ?_)))
  all_goals (blk_simp [idx t] <;> (try simp only []) <;> (try omega))

/-! ## The reference's -/

section Ref

variable (a b d e : FVec Ideal S4096x256 .bf16) (G : FVec Ideal S4x256 .f32) (W : FVec Ideal S1024x1024 .f32) (X : FVec Ideal S4096x1024 .f32)

/-- The reference's four norms, a group each. -/
theorem v15_at (i : Fin 4096) (k : Fin 256) :
    val_main_v15 (F := Ideal) a G (ix2 i k) = Cert.GroupRow.norm (fun l => a (ix2 i l)) (fun l => G (ix2 0 l)) k := by
  unfold Cert.GroupRow.norm Cert.GroupRow.root Cert.GroupRow.mean val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1
  pointwise
theorem v31_at (i : Fin 4096) (k : Fin 256) :
    val_main_v31 (F := Ideal) a G (ix2 i k) = Cert.GroupRow.norm (fun l => a (ix2 i l)) (fun l => G (ix2 1 l)) k := by
  unfold Cert.GroupRow.norm Cert.GroupRow.root Cert.GroupRow.mean val_main_v31 val_main_v30 val_main_v29 val_main_v28 val_main_v27 val_main_v26
    val_main_v25 val_main_v24 val_main_v23 val_main_v22 val_main_v21 val_main_v20 val_main_v19 val_main_v18 val_main_v17 val_main_v16
    val_main_cst_2 val_main_cst_3 val_main_cst_4
  pointwise
theorem v47_at (i : Fin 4096) (k : Fin 256) :
    val_main_v47 (F := Ideal) a G (ix2 i k) = Cert.GroupRow.norm (fun l => a (ix2 i l)) (fun l => G (ix2 2 l)) k := by
  unfold Cert.GroupRow.norm Cert.GroupRow.root Cert.GroupRow.mean val_main_v47 val_main_v46 val_main_v45 val_main_v44 val_main_v43 val_main_v42
    val_main_v41 val_main_v40 val_main_v39 val_main_v38 val_main_v37 val_main_v36 val_main_v35 val_main_v34 val_main_v33 val_main_v32
    val_main_cst_5 val_main_cst_6 val_main_cst_7
  pointwise
theorem v63_at (i : Fin 4096) (k : Fin 256) :
    val_main_v63 (F := Ideal) a G (ix2 i k) = Cert.GroupRow.norm (fun l => a (ix2 i l)) (fun l => G (ix2 3 l)) k := by
  unfold Cert.GroupRow.norm Cert.GroupRow.root Cert.GroupRow.mean val_main_v63 val_main_v62 val_main_v61 val_main_v60 val_main_v59 val_main_v58
    val_main_v57 val_main_v56 val_main_v55 val_main_v54 val_main_v53 val_main_v52 val_main_v51 val_main_v50 val_main_v49 val_main_v48
    val_main_cst_8 val_main_cst_9 val_main_cst_10
  pointwise

/-- The reference's four norms side by side. -/
theorem v64_at (i : Fin 4096) (k : Fin 1024) : val_main_v64 (F := Ideal) a b d e G (ix2 i k) = hArr a b d e G (ix2 i k) := by
  have h0 := v15_at a G i
  have h1 := v31_at b G i
  have h2 := v47_at d G i
  have h3 := v63_at e G i
  unfold val_main_v64
  revert h0 h1 h2 h3
  generalize val_main_v15 (F := Ideal) a G = n0
  generalize val_main_v31 (F := Ideal) b G = n1
  generalize val_main_v47 (F := Ideal) d G = n2
  generalize val_main_v63 (F := Ideal) e G = n3
  intro h0 h1 h2 h3
  pointwise
  have hk := k.isLt
  have place (q : Fin 4) (l : Fin 256) (h : k.val = 256 * q.val + l.val) :
      Cert.GroupRow.norm (aRows a b d e i q) (fun n => G (ix2 q n)) l = hArr a b d e G (ix2 i k) :=
    (Cert.GroupRow.mixed_of (aRows a b d e i) (fun q k => G (ix2 q k)) k q l h).symm
  split
  · exact (h0 _).trans (place 0 _ (by show k.val = 256 * 0 + k.val; omega))
  split
  · exact (h1 _).trans (place 1 _ (by show k.val = 256 * 1 + (k.val - 256); omega))
  split
  · exact (h2 _).trans (place 2 _ (by show k.val = 256 * 2 + (k.val - 256 - 256); omega))
  · exact (h3 _).trans (place 3 _ (by show k.val = 256 * 3 + (k.val - 256 - 256 - 256); omega))

/-- The two arrays. -/
theorem arrays_eq : hArr a b d e G = val_main_v65 (F := Ideal) a b d e G ∧ outArr a b d e G W X = val_main_v67 (F := Ideal) a b d e G W X := by
  refine ⟨funext fun y => ?_, funext fun y => ?_⟩
  · exact (v64_at a b d e G (y 0) (y 1)).symm.trans (congrArg (val_main_v64 (F := Ideal) a b d e G) (Cert.Entries.ix_eta 4096 1024 y).symm)
  · have h : val_main_v67 (F := Ideal) a b d e G W X (ix2 (y 0) (y 1))
        = X (ix2 (y 0) (y 1)) + ∑ n : Fin 1024, val_main_v64 (F := Ideal) a b d e G (ix2 (y 0) n) * W (ix2 n (y 1)) := by
      unfold val_main_v67 val_main_v66
      generalize val_main_v64 (F := Ideal) a b d e G = z
      pointwise
    refine Eq.trans ?_ (h.symm.trans (congrArg _ (Cert.Entries.ix_eta 4096 1024 y).symm))
    rw [add_comm]
    exact congrArg (fun s : EReal => s + _) (Finset.sum_congr rfl fun n _ => congrArg (fun z : EReal => z * W (ix2 n (y 1))) (v64_at a b d e G (y 0) n).symm)

end Ref

end Cert.Kernel11Ideal.MixOut

end

end
-- ==== Proof.MixBackPoint.lean ====
/- The mixer's output call, backward to the four groups: what each grid point leaves in its two outputs, over the point's
   blocks. -/
module

public import proofs.«01_k».proof.Proof.Gen.Kernel12Ideal.Frame
public import proofs.«01_k».proof.Proof.MixPoint

@[expose] public section

set_option maxRecDepth 16384

noncomputable section

open Idealize.ShloMosaic Idealize.ShloMosaic.TcCoe Idealize.SL.Sem
open Idealize.ShloMosaic.Pipeline (Dat)

namespace Cert.Kernel12Ideal.MixBack

open Cert.Kernel12Ideal Cert.Kernel12Ideal.Gen
open Cert.Kernel11Ideal.MixOut (rows gains gain_ld)

/-! ## The arithmetic of a point, over its blocks -/

/-- A row of gradients with a row of weights. -/
def prod (d w : FVec Ideal S1024x1024 .bf16) (r k : Fin 1024) : EReal := ∑ n : Fin 1024, d (ix2 r n) * w (ix2 k n)

/-- The product added to the zeros stored before it. -/
theorem acc_at (d w : FVec Ideal S1024x1024 .bf16) (r k : Fin 1024) :
    (k0_pay2 (F := Ideal) (k0_pay1 (F := Ideal)) d w (ix2 r k) : EReal) = prod d w r k := by
  have e : (k0_pay2 (F := Ideal) (k0_pay1 (F := Ideal)) d w (ix2 r k) : EReal) = 0 + prod d w r k := by
    pointwise [k0_pay2, k0_pay1, prod]
  exact e.trans (zero_add _)

/-- A row of the product in its four groups. -/
def prods (d w : FVec Ideal S1024x1024 .bf16) (r : Fin 1024) (q : Fin 4) (l : Fin 256) : EReal := prod d w r (Cert.GroupRow.col q l)

theorem pay6_at (Y : FVec Ideal S1024x256 .bf16) (g : FVec Ideal S1x256 .f32) (D : FVec Ideal S1024x256 .f32) (r : Fin 1024) (k : Fin 256) :
    (k0_pay6 (F := Ideal) Y g D (ix2 r k) : EReal)
      = Cert.GroupRow.dx (fun l => Y (ix2 r l)) (fun l => g (ix2 0 l)) (fun l => D (ix2 r l)) k := by
  unfold Cert.GroupRow.dx Cert.GroupRow.root Cert.GroupRow.mean
  pointwise [k0_pay6, k0_pay5, k0_pay4]

theorem pay7_at (Y : FVec Ideal S1024x256 .bf16) (D : FVec Ideal S1024x256 .f32) (B : FVec Ideal S1x256 .f32) (k : Fin 256) :
    (k0_pay7 (F := Ideal) Y D B (ix2 0 k) : EReal)
      = B (ix2 0 k) + ∑ r : Fin 1024, Cert.GroupRow.dg (fun l => Y (ix2 r l)) (fun l => D (ix2 r l)) k := by
  pointwise [k0_pay7, k0_pay5, k0_pay4, Cert.GroupRow.dg, Cert.GroupRow.root, Cert.GroupRow.mean]

/-- The product's columns that a load of one group reads. -/
theorem prod_ld (d w : FVec Ideal S1024x1024 .bf16) (o : ℕ) (q : Fin 4)
    (h : ∀ a, (![0, o] : Fin 2 → ℕ) a + (![1024, 256] : Fin 2 → ℕ) a ≤ S1024x1024.size a) (ho : o = 256 * q.val) (r : Fin 1024) :
    (fun l : Fin 256 => (show FVec Ideal S1024x256 .f32 from View.ld (Val := Elt Ideal) (e' := .f32) (k0_pay2 (F := Ideal) (k0_pay1 (F := Ideal)) d w)
      (Rect.unit (s := S1024x1024) ![0, o] ![1024, 256] h)) (ix2 r l)) = prods d w r q := by
  funext l
  refine Eq.trans (congrArg (k0_pay2 (F := Ideal) (k0_pay1 (F := Ideal)) d w) (funext fun a => Fin.ext ?_)) (acc_at d w r (Cert.GroupRow.col q l))
  match a with
  | ⟨0, _⟩ => show 0 + 1 * r.val = r.val; omega
  | ⟨1, _⟩ => show o + 1 * l.val = 256 * q.val + l.val; omega

/-- One group's store of gradients, at the column it holds. -/
theorem dx_group (Y : FVec Ideal S1024x256 .bf16) (g : FVec Ideal S1x256 .f32) (D : FVec Ideal S1024x256 .f32)
    (R G Z : Fin 4 → Fin 256 → EReal) (q : Fin 4) (r k : Fin 1024) (x : S1024x256.Idx) (hr : (x 0).val = r.val)
    (hk : k.val = 256 * q.val + (x 1).val) (hR : (fun l => Y (ix2 r l)) = R q) (hG : (fun l => g (ix2 0 l)) = G q)
    (hZ : (fun l => D (ix2 r l)) = Z q) :
    (k0_pay6 (F := Ideal) Y g D x : EReal) = Cert.GroupRow.mixedDx R G Z k := by
  have e0 : x 0 = r := Fin.ext hr
  refine (congrArg (k0_pay6 (F := Ideal) Y g D) (Cert.Entries.ix_eta 1024 256 x)).trans ((pay6_at Y g D (x 0) (x 1)).trans ?_)
  rw [Cert.GroupRow.mixedDx_of R G Z k q (x 1) hk, e0, hR, hG, hZ]

/-- One group's store of the gains' gradients, at the column it holds. -/
theorem dg_group (Y : FVec Ideal S1024x256 .bf16) (D : FVec Ideal S1024x256 .f32) (B : FVec Ideal S1x1024 .f32) (o : ℕ)
    (h : ∀ a, (![0, o] : Fin 2 → ℕ) a + (![1, 256] : Fin 2 → ℕ) a ≤ S1x1024.size a)
    (R Z : Fin 1024 → Fin 4 → Fin 256 → EReal) (q : Fin 4) (k : Fin 1024) (x : S1x256.Idx) (ho : o = 256 * q.val)
    (hk : k.val = 256 * q.val + (x 1).val) (hR : ∀ r, (fun l => Y (ix2 r l)) = R r q) (hZ : ∀ r, (fun l => D (ix2 r l)) = Z r q) :
    (k0_pay7 (F := Ideal) Y D (View.ld (Val := Elt Ideal) (e' := .f32) B (Rect.unit (s := S1x1024) ![0, o] ![1, 256] h)) x : EReal)
      = B (ix2 0 k) + ∑ r : Fin 1024, Cert.GroupRow.mixedDg (R r) (Z r) k := by
  have e : x = ix2 0 (x 1) := (Cert.Entries.ix_eta 1 256 x).trans (congrArg (fun a : Fin 1 => ix2 a (x 1)) (Subsingleton.elim _ _))
  have hc : k = Cert.GroupRow.col q (x 1) := Fin.ext hk
  refine (congrArg (k0_pay7 (F := Ideal) Y D _) e).trans ((pay7_at Y D _ (x 1)).trans ?_)
  refine congrArg₂ (fun a b : EReal => a + b) ?_ (Finset.sum_congr rfl fun r _ => ?_)
  · exact (congrFun (gain_ld B o q h ho) (x 1)).trans (congrArg (fun k : Fin 1024 => (B (ix2 0 k) : EReal)) hc.symm)
  · rw [Cert.GroupRow.mixedDg_of (R r) (Z r) k q (x 1) hk, hR r, hZ r]

/-! ## The two outputs' four groups of columns -/

section Tiles

variable (a b d e : FVec Ideal S1024x256 .bf16) (G : FVec Ideal S1x1024 .f32) (D W : FVec Ideal S1024x1024 .bf16) (B : FVec Ideal S1x1024 .f32)

/-- The tile of gradients. -/
theorem dx_tiles (r k : Fin 1024) :
    (View.canon (Val := Elt Ideal) (s := S1024x1024) (e := .f32)
      [⟨Rect.unit ![0, 768] ![1024, 256] inb_S1024x1024_S1024x256_0_768,
          k0_pay18 (F := Ideal) e (View.ld (Val := Elt Ideal) (e' := .f32) G (Rect.unit ![0, 768] ![1, 256] inb_S1x1024_S1x256_0_768))
            (View.ld (Val := Elt Ideal) (e' := .f32) (k0_pay2 (F := Ideal) (k0_pay1 (F := Ideal)) D W)
              (Rect.unit ![0, 768] ![1024, 256] inb_S1024x1024_S1024x256_0_768))⟩,
        ⟨Rect.unit ![0, 512] ![1024, 256] inb_S1024x1024_S1024x256_0_512,
          k0_pay14 (F := Ideal) d (View.ld (Val := Elt Ideal) (e' := .f32) G (Rect.unit ![0, 512] ![1, 256] inb_S1x1024_S1x256_0_512))
            (View.ld (Val := Elt Ideal) (e' := .f32) (k0_pay2 (F := Ideal) (k0_pay1 (F := Ideal)) D W)
              (Rect.unit ![0, 512] ![1024, 256] inb_S1024x1024_S1024x256_0_512))⟩,
        ⟨Rect.unit ![0, 256] ![1024, 256] inb_S1024x1024_S1024x256_0_256,
          k0_pay10 (F := Ideal) b (View.ld (Val := Elt Ideal) (e' := .f32) G (Rect.unit ![0, 256] ![1, 256] inb_S1x1024_S1x256_0_256))
            (View.ld (Val := Elt Ideal) (e' := .f32) (k0_pay2 (F := Ideal) (k0_pay1 (F := Ideal)) D W)
              (Rect.unit ![0, 256] ![1024, 256] inb_S1024x1024_S1024x256_0_256))⟩,
        ⟨Rect.unit ![0, 0] ![1024, 256] inb_S1024x1024_S1024x256_0_0,
          k0_pay6 (F := Ideal) a (View.ld (Val := Elt Ideal) (e' := .f32) G (Rect.unit ![0, 0] ![1, 256] inb_S1x1024_S1x256_0_0))
            (View.ld (Val := Elt Ideal) (e' := .f32) (k0_pay2 (F := Ideal) (k0_pay1 (F := Ideal)) D W)
              (Rect.unit ![0, 0] ![1024, 256] inb_S1024x1024_S1024x256_0_0))⟩]
      (ix2 r k) : EReal)
      = Cert.GroupRow.mixedDx (rows a b d e r) (gains G) (prods D W r) k := by
  canon_tiles x h
  · exact dx_group e _ _ _ _ _ 3 r k x h0.symm h1 rfl (gain_ld G 768 3 _ rfl) (prod_ld D W 768 3 _ rfl r)
  · exact dx_group d _ _ _ _ _ 2 r k x h0.symm h1 rfl (gain_ld G 512 2 _ rfl) (prod_ld D W 512 2 _ rfl r)
  · exact dx_group b _ _ _ _ _ 1 r k x h0.symm h1 rfl (gain_ld G 256 1 _ rfl) (prod_ld D W 256 1 _ rfl r)
  · exact dx_group a _ _ _ _ _ 0 r k x h0.symm (h1.trans (by show _ = 256 * 0 + _; omega)) rfl (gain_ld G 0 0 _ rfl) (prod_ld D W 0 0 _ rfl r)

/-- The four stores of the gains' gradients over what the block held. -/
abbrev dgStores : List (View.Piece (Elt Ideal) S1x1024 .f32) :=
  [⟨Rect.unit ![0, 768] ![1, 256] inb_S1x1024_S1x256_0_768,
      k0_pay19 (F := Ideal) e (View.ld (Val := Elt Ideal) (e' := .f32) (k0_pay2 (F := Ideal) (k0_pay1 (F := Ideal)) D W)
          (Rect.unit ![0, 768] ![1024, 256] inb_S1024x1024_S1024x256_0_768))
        (View.ld (Val := Elt Ideal) (e' := .f32) B (Rect.unit ![0, 768] ![1, 256] inb_S1x1024_S1x256_0_768))⟩,
    ⟨Rect.unit ![0, 512] ![1, 256] inb_S1x1024_S1x256_0_512,
      k0_pay15 (F := Ideal) d (View.ld (Val := Elt Ideal) (e' := .f32) (k0_pay2 (F := Ideal) (k0_pay1 (F := Ideal)) D W)
          (Rect.unit ![0, 512] ![1024, 256] inb_S1024x1024_S1024x256_0_512))
        (View.ld (Val := Elt Ideal) (e' := .f32) B (Rect.unit ![0, 512] ![1, 256] inb_S1x1024_S1x256_0_512))⟩,
    ⟨Rect.unit ![0, 256] ![1, 256] inb_S1x1024_S1x256_0_256,
      k0_pay11 (F := Ideal) b (View.ld (Val := Elt Ideal) (e' := .f32) (k0_pay2 (F := Ideal) (k0_pay1 (F := Ideal)) D W)
          (Rect.unit ![0, 256] ![1024, 256] inb_S1024x1024_S1024x256_0_256))
        (View.ld (Val := Elt Ideal) (e' := .f32) B (Rect.unit ![0, 256] ![1, 256] inb_S1x1024_S1x256_0_256))⟩,
    ⟨Rect.unit ![0, 0] ![1, 256] inb_S1x1024_S1x256_0_0,
      k0_pay7 (F := Ideal) a (View.ld (Val := Elt Ideal) (e' := .f32) (k0_pay2 (F := Ideal) (k0_pay1 (F := Ideal)) D W)
          (Rect.unit ![0, 0] ![1024, 256] inb_S1024x1024_S1024x256_0_0))
        (View.ld (Val := Elt Ideal) (e' := .f32) B (Rect.unit ![0, 0] ![1, 256] inb_S1x1024_S1x256_0_0))⟩]

theorem dg_tiles (k : Fin 1024) :
    (View.canon (dgStores a b d e D W B) (ix2 0 k) : EReal)
      = B (ix2 0 k) + ∑ r : Fin 1024, Cert.GroupRow.mixedDg (rows a b d e r) (prods D W r) k := by
  unfold dgStores
  canon_tiles x h
  · exact dg_group e _ B 768 _ _ _ 3 k x rfl h1 (fun _ => rfl) (prod_ld D W 768 3 _ rfl)
  · exact dg_group d _ B 512 _ _ _ 2 k x rfl h1 (fun _ => rfl) (prod_ld D W 512 2 _ rfl)
  · exact dg_group b _ B 256 _ _ _ 1 k x rfl h1 (fun _ => rfl) (prod_ld D W 256 1 _ rfl)
  · exact dg_group a _ B 0 _ _ _ 0 k x rfl (h1.trans (by show _ = 256 * 0 + _; omega)) (fun _ => rfl) (prod_ld D W 0 0 _ rfl)

end Tiles

/-- Stores over an earlier one, at an index they cover. -/
theorem canon_over {s : Shape} {f : EltTy} (L L' : List (View.Piece (Elt Ideal) s f)) (y : s.Idx) :
    (∃ p ∈ L, y ∈ p.1.set) → View.canon (L ++ L') y = View.canon L y := by
  induction L with
  | nil => rintro ⟨p, hp, _⟩; exact absurd hp List.not_mem_nil
  | cons p L ih =>
    intro hc
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := hc
      rcases List.mem_cons.mp hq with rfl | hq
      · exact absurd hy hm
      · exact ih ⟨q, hq, hy⟩

/-! ## What a point leaves -/

variable (m : (ℓ : Loc nD τ sig) → Buf (Elt Ideal) ℓ) (c : Dev nD) (t : Fin cfg0.N)

/-- The rows of a point's four groups. -/
def tRows (r : Fin 1024) : Fin 4 → Fin 256 → EReal := rows (iblk m c 2 t) (iblk m c 3 t) (iblk m c 4 t) (iblk m c 5 t) r

/-- The gradients of the groups' norms there. -/
def tProds (r : Fin 1024) : Fin 4 → Fin 256 → EReal := prods (iblk m c 0 t) (iblk m c 1 t) r

theorem dx_at (r k : Fin 1024) : ((outsAt0 m c t.val t.isLt).1 (ix2 r k) : EReal)
    = Cert.GroupRow.mixedDx (tRows m c t r) (gains (iblk m c 6 t)) (tProds m c t r) k := by
  by_cases h3 : t.val % 4 = 0
  · rw [outsAt0_A m c t h3]
    frame_open
    simp (disch := decide) only [↓ View.readCov_skip, ↓ View.readCov_cons_toLoadRect, ↓ View.readCov_fill]
    frame_out
    exact dx_tiles (iblk m c 2 t) (iblk m c 3 t) (iblk m c 4 t) (iblk m c 5 t) (iblk m c 6 t) (iblk m c 0 t) (iblk m c 1 t) r k
  · rw [outsAt0_B m c t h3]
    frame_open
    simp (disch := decide) only [↓ View.readCov_skip, ↓ View.readCov_cons_toLoadRect, ↓ View.readCov_fill]
    frame_out
    exact dx_tiles (iblk m c 2 t) (iblk m c 3 t) (iblk m c 4 t) (iblk m c 5 t) (iblk m c 6 t) (iblk m c 0 t) (iblk m c 1 t) r k

/-- What a point's tile adds to the gradient of the gains. -/
def dgTile (k : Fin 1024) : EReal := ∑ r : Fin 1024, Cert.GroupRow.mixedDg (tRows m c t r) (tProds m c t r) k

/-- The first tile's share lands on the zeros stored just before. -/
theorem dg_A (h3 : t.val % 4 = 0) (k : Fin 1024) : ((outsAt0 m c t.val t.isLt).2 (ix2 0 k) : EReal) = 0 + dgTile m c t k := by
  rw [outsAt0_A m c t h3]
  frame_open
  simp (disch := decide) only [↓ View.readCov_skip, ↓ View.readCov_cons_toLoadRect, ↓ View.readCov_fill]
  frame_out
  refine (canon_over (dgStores (iblk m c 2 t) (iblk m c 3 t) (iblk m c 4 t) (iblk m c 5 t) (iblk m c 0 t) (iblk m c 1 t) (k0_pay3 (F := Ideal))) _ (ix2 0 k)
    (View.cover_of_tiled _ ![1, 256] rfl _)).trans ((dg_tiles _ _ _ _ _ _ _ k).trans (congrArg (fun z : EReal => z + _) ?_))
  pointwise [k0_pay3]

/-- A later tile's share is added to what the point before left. -/
theorem dg_B (h3 : ¬t.val % 4 = 0) (k : Fin 1024) : ((outsAt0 m c t.val t.isLt).2 (ix2 0 k) : EReal)
    = (outsAt0 m c (t.val - 1) (Nat.lt_of_le_of_lt (Nat.sub_le _ _) t.isLt)).2 (ix2 0 k) + dgTile m c t k := by
  rw [outsAt0_B m c t h3]
  frame_open
  simp (disch := decide) only [↓ View.readCov_skip, ↓ View.readCov_cons_toLoadRect, ↓ View.readCov_fill]
  frame_out
  exact dg_tiles (iblk m c 2 t) (iblk m c 3 t) (iblk m c 4 t) (iblk m c 5 t) (iblk m c 0 t) (iblk m c 1 t) _ k

/-- The gradient of the gains after the last point: the four tiles' shares. -/
theorem dg_sum (ht : t.val % 4 = 3) (k : Fin 1024) :
    ((outsAt0 m c t.val t.isLt).2 (ix2 0 k) : EReal)
      = ∑ s : Fin 4, dgTile m c ⟨4 * (t.val / 4) + s.val, Pipeline.run_point_lt_of_flush t ht s⟩ k := by
  have h := Pipeline.eq_sum_fin_of_reset_step_apply_of_flush (M := EReal)
    (fun n h (k : Fin 1024) => (outsAt0 m c n h).2 (ix2 0 k)) 4 (fun _ => 0) (fun t k => dgTile m c t k)
    (fun t h0 k => dg_A m c t h0 k) (fun t h0 k => dg_B m c t h0 k) t ht k
  rw [zero_add] at h
  exact h

end Cert.Kernel12Ideal.MixBack

end

end
-- ==== Proof.MixBackArrays.lean ====
/- The mixer's output call, backward: its two results as functions of the arrays that the call reads. -/
module

public import proofs.«01_k».proof.Proof.MixBackPoint
public import proofs.«01_k».proof.Proof.MixArrays
public import proofs.«01_k».proof.Proof.NormRow
public import proofs.«01_k».proof.Proof.InArrays
public import proofs.«01_k».proof.Proof.Gen.Kernel12Ideal.Value
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel12Ideal.MixBack

open Cert.Kernel12Ideal Cert.Kernel12Ideal.Gen
open Cert.Kernel11Ideal.MixOut (rows gains aRows place)
open Cert.Kernel6Ideal.InBwd (ix_row)

/-- The blocks of point `t`: row tile `t`. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![t.val, 0]
    ∧ win0_6.index t = ![0, 0] ∧ win0_7.index t = ![t.val, 0] ∧ win0_8.index t = ![0, 0] ∧ t.val < 4 :=
  (by decide +kernel : ∀ t : Fin grid0.N, _)

section Reads

variable (c : Dev nD) (W : (b : Ref sig .tc) → Buf (Elt Ideal) ((c : Thread nD τ).loc b)) (t : Fin cfg0.N)

/-- Window 0's block is the output's gradient there. -/
theorem read0 (r n : Fin 1024) (i : Fin 4096) (hi : i.val = t.val * 1024 + r.val) :
    (show FVec Ideal S1024x1024 .bf16 from ((cfg0.win 0).blk t).view.read (Elt Ideal) (W (Pipeline.arrRef spec0 0))) (ix2 r n)
      = (show FVec Ideal S4096x1024 .bf16 from W main_arg6) (ix2 i n) := by
  blk_ext [idx t]

/-- Window 1's block is the whole weight. -/
theorem read1 (k n : Fin 1024) :
    (show FVec Ideal S1024x1024 .bf16 from ((cfg0.win 1).blk t).view.read (Elt Ideal) (W (Pipeline.arrRef spec0 1))) (ix2 k n)
      = (show FVec Ideal S1024x1024 .bf16 from W main_v0) (ix2 k n) := by
  blk_ext [idx t]

/-- The groups' blocks are their rows there. -/
theorem read2 (r : Fin 1024) (k : Fin 256) (i : Fin 4096) (hi : i.val = t.val * 1024 + r.val) :
    (show FVec Ideal S1024x256 .bf16 from ((cfg0.win 2).blk t).view.read (Elt Ideal) (W (Pipeline.arrRef spec0 2))) (ix2 r k)
      = (show FVec Ideal S4096x256 .bf16 from W main_arg0) (ix2 i k) := by
  blk_ext [idx t]
theorem read3 (r : Fin 1024) (k : Fin 256) (i : Fin 4096) (hi : i.val = t.val * 1024 + r.val) :
    (show FVec Ideal S1024x256 .bf16 from ((cfg0.win 3).blk t).view.read (Elt Ideal) (W (Pipeline.arrRef spec0 3))) (ix2 r k)
      = (show FVec Ideal S4096x256 .bf16 from W main_arg1) (ix2 i k) := by
  blk_ext [idx t]
theorem read4 (r : Fin 1024) (k : Fin 256) (i : Fin 4096) (hi : i.val = t.val * 1024 + r.val) :
    (show FVec Ideal S1024x256 .bf16 from ((cfg0.win 4).blk t).view.read (Elt Ideal) (W (Pipeline.arrRef spec0 4))) (ix2 r k)
      = (show FVec Ideal S4096x256 .bf16 from W main_arg2) (ix2 i k) := by
  blk_ext [idx t]
theorem read5 (r : Fin 1024) (k : Fin 256) (i : Fin 4096) (hi : i.val = t.val * 1024 + r.val) :
    (show FVec Ideal S1024x256 .bf16 from ((cfg0.win 5).blk t).view.read (Elt Ideal) (W (Pipeline.arrRef spec0 5))) (ix2 r k)
      = (show FVec Ideal S4096x256 .bf16 from W main_arg3) (ix2 i k) := by
  blk_ext [idx t]

/-- Window 6's block is the four gains side by side. -/
theorem read6 (k : Fin 1024) :
    (show FVec Ideal S1x1024 .f32 from ((cfg0.win 6).blk t).view.read (Elt Ideal) (W (Pipeline.arrRef spec0 6))) (ix2 0 k)
      = (show FVec Ideal S1x1024 .f32 from W main_v1) (ix2 0 k) := by
  blk_ext [idx t]

end Reads

/-! ## The arrays -/

section Arrays

variable (a b d e : FVec Ideal S4096x256 .bf16) (G : FVec Ideal S4x256 .f32) (W : FVec Ideal S1024x1024 .f32) (D : FVec Ideal S4096x1024 .bf16)

/-- The gradients of the groups' norms, a row. -/
def aProds (i : Fin 4096) (q : Fin 4) (l : Fin 256) : EReal := ∑ n : Fin 1024, D (ix2 i n) * W (ix2 (Cert.GroupRow.col q l) n)

def dxArr : S4096x1024.Idx → EReal := fun y =>
  Cert.GroupRow.mixedDx (aRows a b d e (y 0)) (fun q k => G (ix2 q k)) (aProds W D (y 0)) (y 1)
def dgArr : S1x1024.Idx → EReal := fun y => ∑ i : Fin 4096, Cert.GroupRow.mixedDg (aRows a b d e i) (aProds W D i) (y 1)

end Arrays

variable (m : (ℓ : Loc nD τ sig) → Buf (Elt Ideal) ℓ) (c : Dev nD)

abbrev arg0 : FVec Ideal S4096x256 .bf16 := m ((c : Thread nD τ).loc main_arg0)
abbrev arg1 : FVec Ideal S4096x256 .bf16 := m ((c : Thread nD τ).loc main_arg1)
abbrev arg2 : FVec Ideal S4096x256 .bf16 := m ((c : Thread nD τ).loc main_arg2)
abbrev arg3 : FVec Ideal S4096x256 .bf16 := m ((c : Thread nD τ).loc main_arg3)
abbrev argG : FVec Ideal S4x256 .f32 := m ((c : Thread nD τ).loc main_arg4)
abbrev argW : FVec Ideal S1024x1024 .f32 := m ((c : Thread nD τ).loc main_arg5)
abbrev argD : FVec Ideal S4096x1024 .bf16 := m ((c : Thread nD τ).loc main_arg6)

theorem arr0_eq : V m c main_arg0 = arg0 m c := by entry_read; rfl
theorem arr1_eq : V m c main_arg1 = arg1 m c := by entry_read; rfl
theorem arr2_eq : V m c main_arg2 = arg2 m c := by entry_read; rfl
theorem arr3_eq : V m c main_arg3 = arg3 m c := by entry_read; rfl
theorem arrD_eq : V m c main_arg6 = argD m c := by entry_read; rfl
theorem arrW_at (n k : Fin 1024) : ((show FVec Ideal S1024x1024 .bf16 from V m c main_v0) (ix2 n k) : EReal) = argW m c (ix2 n k) := by
  entry_read
  pointwise
theorem arrG_at (q : Fin 4) (k : Fin 256) :
    (show FVec Ideal S1x1024 .f32 from V m c main_v1) (ix2 0 (Cert.GroupRow.col q k)) = argG m c (ix2 q k) := by
  entry_read
  pointwise
  exact congrArg₂ (fun (q : Fin 4) (k : Fin 256) => argG m c (ix2 q k))
    (Cert.GroupRow.grp_of (Cert.GroupRow.col q k) q k rfl) (Cert.GroupRow.off_of (Cert.GroupRow.col q k) q k rfl)

section Rows

variable (t : Fin cfg0.N) (r : Fin 1024) (i : Fin 4096) (hi : i.val = t.val * 1024 + r.val)
include hi

theorem tRows_eq : tRows m c t r = aRows (arg0 m c) (arg1 m c) (arg2 m c) (arg3 m c) i := by
  funext q k
  match q with
  | 0 => exact (read2 c (V m c) t r k i hi).trans (congrFun (arr0_eq m c) _)
  | 1 => exact (read3 c (V m c) t r k i hi).trans (congrFun (arr1_eq m c) _)
  | 2 => exact (read4 c (V m c) t r k i hi).trans (congrFun (arr2_eq m c) _)
  | 3 => exact (read5 c (V m c) t r k i hi).trans (congrFun (arr3_eq m c) _)

theorem tProds_eq : tProds m c t r = aProds (argW m c) (argD m c) i := by
  funext q l
  unfold tProds prods prod aProds
  exact Finset.sum_congr rfl fun n _ => congrArg₂ (fun x y : EReal => x * y)
    ((read0 c (V m c) t r n i hi).trans (congrFun (arrD_eq m c) _))
    ((read1 c (V m c) t (Cert.GroupRow.col q l) n).trans (arrW_at m c (Cert.GroupRow.col q l) n))

/-- The gradient of a row of a tile is the array's row. -/
theorem dxRow_eq : Cert.GroupRow.mixedDx (tRows m c t r) (gains (iblk m c 6 t)) (tProds m c t r)
    = Cert.GroupRow.mixedDx (aRows (arg0 m c) (arg1 m c) (arg2 m c) (arg3 m c) i) (fun q k => argG m c (ix2 q k)) (aProds (argW m c) (argD m c) i) := by
  have e : gains (iblk m c 6 t) = fun q k => argG m c (ix2 q k) :=
    funext fun q => funext fun k => (read6 c (V m c) t (Cert.GroupRow.col q k)).trans (arrG_at m c q k)
  rw [tRows_eq m c t r i hi, tProds_eq m c t r i hi, e]

end Rows

/-- The gradient of the gains after the last point. -/
theorem dg_eq (t : Fin cfg0.N) (ht : t.val % 4 = 3) (k : Fin 1024) :
    ((outsAt0 m c t.val t.isLt).2 (ix2 0 k) : EReal)
      = ∑ i : Fin 4096, Cert.GroupRow.mixedDg (aRows (arg0 m c) (arg1 m c) (arg2 m c) (arg3 m c) i) (aProds (argW m c) (argD m c) i) k := by
  have hb : t.val < 4 := (idx t).2.2.2.2.2.2.2.2.2
  refine (dg_sum m c t ht k).trans ?_
  unfold dgTile
  exact Cert.NormRow.sum_tiles 4 1024 4096 rfl _ _ fun s r i hi => by
    rw [tRows_eq m c _ r i (by simp only []; omega), tProds_eq m c _ r i (by simp only []; omega)]

/-! ## The arrays after the run -/

theorem final_dx : (dats m 0 c).arrAt 7 (cfgs 0).N
    = dxArr (arg0 m c) (arg1 m c) (arg2 m c) (arg3 m c) (argG m c) (argW m c) (argD m c) := by
  refine (dats m 0 c).arrAt_eq_of_covers 7 _ (by decide +kernel) fun t hf y => ?_
  blk_simp
  rw [after0_7]
  refine Eq.trans (congrArg _ (Cert.Entries.ix_eta 1024 1024 y)) ((dx_at m c t (y 0) (y 1)).trans
    ((congrFun (dxRow_eq m c t (y 0) _ ?_) (y 1)).trans (place (dxArr _ _ _ _ _ _ _) ⟨0, by decide⟩ y _ ?_)))
  all_goals (blk_simp [idx t] <;> (try simp only []) <;> (try omega))

theorem final_dg : (dats m 0 c).arrAt 8 (cfgs 0).N
    = dgArr (arg0 m c) (arg1 m c) (arg2 m c) (arg3 m c) (argW m c) (argD m c) := by
  refine (dats m 0 c).arrAt_eq_of_covers 8 _ (by decide +kernel) fun t hf y => ?_
  blk_simp
  rw [after0_8]
  refine Eq.trans (congrArg _ (ix_row y)) ((dg_eq m c t ((flush0_8 t).mp hf) (y 1)).trans (Eq.symm ?_))
  unfold dgArr
  refine congrArg (fun k : Fin 1024 => ∑ i : Fin 4096, Cert.GroupRow.mixedDg (aRows (arg0 m c) (arg1 m c) (arg2 m c) (arg3 m c) i)
    (aProds (argW m c) (argD m c) i) k) (Fin.ext ?_)
  blk_simp [idx t] <;> (try simp only []) <;> (try omega)

end Cert.Kernel12Ideal.MixBack

end

end
-- ==== Proof.MixBackEquation.lean ====
/- The mixer's output call, backward: its two results are the chain rule's, whatever the arguments hold. The reference differentiates
   each group by the same lines, so one group's are read once, over that group's rows, gain and gradients. -/
module

public import proofs.«01_k».proof.Proof.MixBackArrays
public import proofs.«01_k».proof.Proof.Gen.Reference12Ideal.Read
public import Idealize.ShloMosaic.Lib.Pointwise

@[expose] public section

set_option maxRecDepth 16384

noncomputable section

open Idealize.ShloMosaic Idealize.ShloMosaic.TcCoe Idealize.SL.Sem

namespace Cert.Kernel12Ideal.MixBack

open Cert.Reference12Ideal Cert.Reference12Ideal.Gen Cert.Reference12Ideal.Read
open Cert.Kernel11Ideal.MixOut (aRows)

/-! ## One group's lines -/

section Group

variable (x : FVec Ideal S4096x256 .bf16) (y : FVec Ideal S4096x256 .f32) (g : FVec Ideal S1x256 .f32)

/-- The gradient of a group's norm before its gain. -/
def beforeGain : FVec Ideal S4096x256 .f32 := mulf y (broadcastInDim S4096x256 ![0, 1] bcast_S1x256_S4096x256_0_1 g)

/-- Each row's sum of entries times gradients. -/
def rowSum : FVec Ideal S4096x1 .f32 :=
  shapeCast _ (Host.reduceAdd (mulf (val_main_v0 (F := Ideal) x) (beforeGain y g)) (val_main_cst_35 (F := Ideal)) reducesTo_S4096x256_S4096_d1 h_S_)
    shapeCasts_S4096_S4096x1

/-- What reaches the entries through the mean. -/
def viaMean : FVec Ideal S4096x256 .f32 :=
  broadcastInDim S4096x256 ![0] bcast_S4096_S4096x256_0
    (Host.reduceAdd (Host.divf (mulf (rowSum x y g) (val_main_v16 (F := Ideal) x)) (val_main_v164 (F := Ideal))) (val_main_cst_37 (F := Ideal))
      reducesTo_S4096x1_S4096_d1 h_S_)

/-- The gradient of a group. -/
def groupDx : FVec Ideal S4096x256 .f32 :=
  addf (addf (mulf (beforeGain y g) (val_main_v161 (F := Ideal) x)) (mulf (val_main_v0 (F := Ideal) x) (viaMean x y g)))
    (mulf (viaMean x y g) (val_main_v0 (F := Ideal) x))

/-- The gradient of its gain. -/
def groupDg : FVec Ideal S1x256 .f32 :=
  broadcastInDim S1x256 ![1] bcast_S256_S1x256_1
    (Host.reduceAdd (shapeCast _ (Host.reduceAdd (mulf (val_main_v18 (F := Ideal) x) y) (val_main_cst_33 (F := Ideal)) reducesTo_S4096x256_S256_d0 h_S_)
      shapeCasts_S256_S1x256) (val_main_cst_34 (F := Ideal)) reducesTo_S1x256_S256_d0 h_S_)

/-- A group's row. -/
abbrev gRow (z : FVec Ideal S4096x256 .f32) (i : Fin 4096) : Fin 256 → EReal := fun l => z (ix2 i l)

theorem v12_at (i : Fin 4096) : val_main_v12 (F := Ideal) x (ix2 i 0) = Cert.GroupRow.mean (fun l => x (ix2 i l)) := by
  unfold val_main_v12 val_main_v11 val_main_v10 val_main_v9 val_main_v8 val_main_v7 val_main_v6 val_main_v0 val_main_cst val_main_cst_0 val_main_cst_1
    Cert.GroupRow.mean
  pointwise

theorem v13_at (i : Fin 4096) : val_main_v13 (F := Ideal) x (ix2 i 0) = Cert.GroupRow.root (fun l => x (ix2 i l)) := by
  unfold Cert.GroupRow.root
  rw [← v12_at]
  unfold val_main_v13
  generalize val_main_v12 (F := Ideal) x = s
  pointwise

theorem v16_at (i : Fin 4096) : val_main_v16 (F := Ideal) x (ix2 i 0)
    = Ideal.ofBits .f32 0xBF000000#32 * Ideal.div (Cert.GroupRow.root (fun l => x (ix2 i l))) (Cert.GroupRow.mean (fun l => x (ix2 i l))) := by
  rw [← v12_at, ← v13_at]
  unfold val_main_v16 val_main_v15 val_main_v14 val_main_cst_2
  generalize val_main_v13 (F := Ideal) x = s
  generalize val_main_v12 (F := Ideal) x = r
  pointwise

theorem before_at (i : Fin 4096) (k : Fin 256) : beforeGain y g (ix2 i k) = y (ix2 i k) * g (ix2 0 k) := by
  unfold beforeGain
  pointwise

theorem sum_at (i : Fin 4096) : rowSum x y g (ix2 i 0) = ∑ l : Fin 256, x (ix2 i l) * (y (ix2 i l) * g (ix2 0 l)) := by
  have e : rowSum x y g (ix2 i 0) = ∑ l : Fin 256, x (ix2 i l) * beforeGain y g (ix2 i l) := by
    unfold rowSum val_main_v0 val_main_cst_35
    generalize beforeGain y g = z
    pointwise
  exact e.trans (Finset.sum_congr rfl fun l _ => congrArg (fun z : EReal => x (ix2 i l) * z) (before_at y g i l))

theorem via_at (i : Fin 4096) (k : Fin 256) :
    viaMean x y g (ix2 i k) = Cert.GroupRow.through (fun l => x (ix2 i l)) (fun l => g (ix2 0 l)) (gRow y i) := by
  unfold Cert.GroupRow.through
  rw [← v16_at, ← sum_at]
  unfold viaMean val_main_v164 val_main_cst_36 val_main_cst_37
  generalize rowSum x y g = s
  generalize val_main_v16 (F := Ideal) x = r
  pointwise
  exact Fintype.sum_unique (ι := Fin 1) _

theorem groupDx_at (i : Fin 4096) (k : Fin 256) :
    groupDx x y g (ix2 i k) = Cert.GroupRow.dx (fun l => x (ix2 i l)) (fun l => g (ix2 0 l)) (gRow y i) k := by
  rw [← Cert.GroupRow.chain_eq, ← before_at, ← v13_at, ← via_at x y g i k]
  unfold groupDx val_main_v161 val_main_v0
  generalize beforeGain y g = b
  generalize viaMean x y g = s
  generalize val_main_v13 (F := Ideal) x = r
  pointwise

theorem groupDg_at (k : Fin 256) :
    groupDg x y (ix2 0 k) = ∑ i : Fin 4096, Cert.GroupRow.dg (fun l => x (ix2 i l)) (gRow y i) k := by
  refine Eq.trans ?_ (Finset.sum_congr rfl fun i _ => by rw [← v13_at] :
    (∑ i : Fin 4096, (x (ix2 i k) * val_main_v13 (F := Ideal) x (ix2 i 0)) * y (ix2 i k))
      = ∑ i : Fin 4096, (x (ix2 i k) * Cert.GroupRow.root (fun l => x (ix2 i l))) * y (ix2 i k)) |>.trans
    (Finset.sum_congr rfl fun i _ => Cert.GroupRow.chain_dg (fun l => x (ix2 i l)) (gRow y i) k)
  unfold groupDg val_main_v18 val_main_v17 val_main_v0 val_main_cst_33 val_main_cst_34
  generalize val_main_v13 (F := Ideal) x = r
  pointwise
  exact Fintype.sum_unique (ι := Fin 1) _

end Group

/-! ## The reference's groups are those lines -/

variable (a b d e : FVec Ideal S4096x256 .bf16) (G : FVec Ideal S4x256 .f32) (W : FVec Ideal S1024x1024 .f32) (D : FVec Ideal S4096x1024 .bf16)

theorem v171_eq : val_main_v171 (F := Ideal) a G W D = groupDx a (val_main_v80 (F := Ideal) W D) (val_main_v19 (F := Ideal) G) := rfl
theorem v148_eq : val_main_v148 (F := Ideal) b G W D = groupDx b (val_main_v81 (F := Ideal) W D) (val_main_v37 (F := Ideal) G) := rfl
theorem v125_eq : val_main_v125 (F := Ideal) d G W D = groupDx d (val_main_v82 (F := Ideal) W D) (val_main_v55 (F := Ideal) G) := rfl
theorem v103_eq : val_main_v103 (F := Ideal) e G W D = groupDx e (val_main_v83 (F := Ideal) W D) (val_main_v73 (F := Ideal) G) := rfl
theorem v172_eq : val_main_v172 (F := Ideal) a W D = groupDg a (val_main_v80 (F := Ideal) W D) := rfl
theorem v149_eq : val_main_v149 (F := Ideal) b W D = groupDg b (val_main_v81 (F := Ideal) W D) := rfl
theorem v126_eq : val_main_v126 (F := Ideal) d W D = groupDg d (val_main_v82 (F := Ideal) W D) := rfl
theorem v104_eq : val_main_v104 (F := Ideal) e W D = groupDg e (val_main_v83 (F := Ideal) W D) := rfl

/-- The gradients of the four norms are columns of one product. -/
theorem v79_at (i : Fin 4096) (k : Fin 1024) : val_main_v79 (F := Ideal) W D (ix2 i k) = ∑ n : Fin 1024, D (ix2 i n) * W (ix2 k n) := by
  unfold val_main_v79 val_main_v78
  pointwise
theorem v80_row (i : Fin 4096) : gRow (val_main_v80 (F := Ideal) W D) i = aProds W D i 0 := by
  funext l
  refine Eq.trans ?_ (v79_at W D i (Cert.GroupRow.col 0 l))
  unfold val_main_v80
  generalize val_main_v79 (F := Ideal) W D = z
  pointwise
  exact congrArg (fun k : Fin 1024 => z (ix2 i k)) (Fin.ext (by show l.val = 256 * 0 + l.val; omega))
theorem v81_row (i : Fin 4096) : gRow (val_main_v81 (F := Ideal) W D) i = aProds W D i 1 := by
  funext l
  refine Eq.trans ?_ (v79_at W D i (Cert.GroupRow.col 1 l))
  unfold val_main_v81
  generalize val_main_v79 (F := Ideal) W D = z
  pointwise
  exact congrArg (fun k : Fin 1024 => z (ix2 i k)) (Fin.ext (by show 256 + l.val = 256 * 1 + l.val; omega))
theorem v82_row (i : Fin 4096) : gRow (val_main_v82 (F := Ideal) W D) i = aProds W D i 2 := by
  funext l
  refine Eq.trans ?_ (v79_at W D i (Cert.GroupRow.col 2 l))
  unfold val_main_v82
  generalize val_main_v79 (F := Ideal) W D = z
  pointwise
  exact congrArg (fun k : Fin 1024 => z (ix2 i k)) (Fin.ext (by show 512 + l.val = 256 * 2 + l.val; omega))
theorem v83_row (i : Fin 4096) : gRow (val_main_v83 (F := Ideal) W D) i = aProds W D i 3 := by
  funext l
  refine Eq.trans ?_ (v79_at W D i (Cert.GroupRow.col 3 l))
  unfold val_main_v83
  generalize val_main_v79 (F := Ideal) W D = z
  pointwise
  exact congrArg (fun k : Fin 1024 => z (ix2 i k)) (Fin.ext (by show 768 + l.val = 256 * 3 + l.val; omega))

/-- The gains of the four groups. -/
theorem v19_row : (fun l : Fin 256 => val_main_v19 (F := Ideal) G (ix2 0 l)) = fun l => G (ix2 0 l) := by
  funext l; unfold val_main_v19 val_main_v5 val_main_v4; pointwise
theorem v37_row : (fun l : Fin 256 => val_main_v37 (F := Ideal) G (ix2 0 l)) = fun l => G (ix2 1 l) := by
  funext l; unfold val_main_v37 val_main_v23 val_main_v22; pointwise
theorem v55_row : (fun l : Fin 256 => val_main_v55 (F := Ideal) G (ix2 0 l)) = fun l => G (ix2 2 l) := by
  funext l; unfold val_main_v55 val_main_v41 val_main_v40; pointwise
theorem v73_row : (fun l : Fin 256 => val_main_v73 (F := Ideal) G (ix2 0 l)) = fun l => G (ix2 3 l) := by
  funext l; unfold val_main_v73 val_main_v59 val_main_v58; pointwise

/-! ## The two results -/

theorem v175_at (i : Fin 4096) (k : Fin 1024) :
    val_main_v175 (F := Ideal) a b d e G W D (ix2 i k) = dxArr a b d e G W D (ix2 i k) := by
  have h0 : ∀ l, val_main_v171 (F := Ideal) a G W D (ix2 i l) = _ := fun l => groupDx_at a _ _ i l
  have h1 : ∀ l, val_main_v148 (F := Ideal) b G W D (ix2 i l) = _ := fun l => groupDx_at b _ _ i l
  have h2 : ∀ l, val_main_v125 (F := Ideal) d G W D (ix2 i l) = _ := fun l => groupDx_at d _ _ i l
  have h3 : ∀ l, val_main_v103 (F := Ideal) e G W D (ix2 i l) = _ := fun l => groupDx_at e _ _ i l
  rw [v80_row, v19_row] at h0
  rw [v81_row, v37_row] at h1
  rw [v82_row, v55_row] at h2
  rw [v83_row, v73_row] at h3
  unfold val_main_v175
  revert h0 h1 h2 h3
  generalize val_main_v171 (F := Ideal) a G W D = n0
  generalize val_main_v148 (F := Ideal) b G W D = n1
  generalize val_main_v125 (F := Ideal) d G W D = n2
  generalize val_main_v103 (F := Ideal) e G W D = n3
  intro h0 h1 h2 h3
  pointwise
  have hk := k.isLt
  have place (q : Fin 4) (l : Fin 256) (h : k.val = 256 * q.val + l.val) :
      Cert.GroupRow.dx (aRows a b d e i q) (fun n => G (ix2 q n)) (aProds W D i q) l = dxArr a b d e G W D (ix2 i k) :=
    (Cert.GroupRow.mixedDx_of (aRows a b d e i) (fun q k => G (ix2 q k)) (aProds W D i) k q l h).symm
  split
  · exact (h0 _).trans (place 0 _ (by show k.val = 256 * 0 + k.val; omega))
  split
  · exact (h1 _).trans (place 1 _ (by show k.val = 256 * 1 + (k.val - 256); omega))
  split
  · exact (h2 _).trans (place 2 _ (by show k.val = 256 * 2 + (k.val - 256 - 256); omega))
  · exact (h3 _).trans (place 3 _ (by show k.val = 256 * 3 + (k.val - 256 - 256 - 256); omega))

theorem v174_at (q : Fin 4) (l : Fin 256) : val_main_v174 (F := Ideal) a b d e W D (ix2 q l)
    = ∑ i : Fin 4096, Cert.GroupRow.dg (aRows a b d e i q) (aProds W D i q) l := by
  have h0 : ∀ l, val_main_v172 (F := Ideal) a W D (ix2 0 l) = _ := fun l => groupDg_at a _ l
  have h1 : ∀ l, val_main_v149 (F := Ideal) b W D (ix2 0 l) = _ := fun l => groupDg_at b _ l
  have h2 : ∀ l, val_main_v126 (F := Ideal) d W D (ix2 0 l) = _ := fun l => groupDg_at d _ l
  have h3 : ∀ l, val_main_v104 (F := Ideal) e W D (ix2 0 l) = _ := fun l => groupDg_at e _ l
  simp only [v80_row] at h0
  simp only [v81_row] at h1
  simp only [v82_row] at h2
  simp only [v83_row] at h3
  unfold val_main_v174 val_main_v173 val_main_v151 val_main_v150 val_main_v128 val_main_v127 val_main_v105
    val_main_cst_38 val_main_cst_32 val_main_cst_26 val_main_cst_20
  revert h0 h1 h2 h3
  generalize val_main_v172 (F := Ideal) a W D = n0
  generalize val_main_v149 (F := Ideal) b W D = n1
  generalize val_main_v126 (F := Ideal) d W D = n2
  generalize val_main_v104 (F := Ideal) e W D = n3
  intro h0 h1 h2 h3
  match q with
  | 0 => pointwise; exact h0 l
  | 1 => pointwise; exact h1 l
  | 2 => pointwise; exact h2 l
  | 3 => pointwise; exact h3 l

theorem v176_at (k : Fin 1024) : val_main_v176 (F := Ideal) a b d e W D (ix2 0 k) = dgArr a b d e W D (ix2 0 k) := by
  have h : val_main_v176 (F := Ideal) a b d e W D (ix2 0 k) = val_main_v174 (F := Ideal) a b d e W D (ix2 (Cert.GroupRow.grp k) (Cert.GroupRow.off k)) := by
    unfold val_main_v176
    generalize val_main_v174 (F := Ideal) a b d e W D = z
    pointwise
    rfl
  exact h.trans (v174_at a b d e W D _ _)

/-- The two arrays. -/
theorem arrays_eq : dxArr a b d e G W D = val_main_v175 (F := Ideal) a b d e G W D ∧ dgArr a b d e W D = val_main_v176 (F := Ideal) a b d e W D := by
  refine ⟨funext fun y => ?_, funext fun y => ?_⟩
  · exact (congrArg (dxArr a b d e G W D) (Cert.Entries.ix_eta 4096 1024 y)).trans ((v175_at a b d e G W D (y 0) (y 1)).symm.trans
      (congrArg (val_main_v175 (F := Ideal) a b d e G W D) (Cert.Entries.ix_eta 4096 1024 y).symm))
  · exact (congrArg (dgArr a b d e W D) (Cert.Kernel6Ideal.InBwd.ix_row y)).trans ((v176_at a b d e W D (y 1)).symm.trans
      (congrArg (val_main_v176 (F := Ideal) a b d e W D) (Cert.Kernel6Ideal.InBwd.ix_row y).symm))

end Cert.Kernel12Ideal.MixBack

end

end
-- ==== Proof.PlePoint.lean ====
/- The per-layer embedding's forward call: what each grid point leaves in the four outputs, over the point's blocks. -/
module

public import proofs.«01_k».proof.Proof.Gen.Kernel13Ideal.Frame
public import proofs.«01_k».proof.Proof.InPoint
public import proofs.«01_k».proof.Proof.Entries
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Ple

open Cert.Kernel13Ideal Cert.Kernel13Ideal.Gen
open Cert.Kernel6Ideal.InBwd (row gain)

/-- The logistic function. -/
def logistic (s : EReal) : EReal :=
  Ideal.div (Ideal.ofBits .f32 0x3F800000#32) (Ideal.ofBits .f32 0x3F800000#32 + Ideal.exp (-s))

/-- The gate of a row: its norm with a column of the weight, through the logistic function. -/
def gate (x g w : Fin 1024 → EReal) : EReal := logistic (∑ n : Fin 1024, Cert.Entries.norm x g n * w n)

theorem pay2_at (X : FVec Ideal S1024x1024 .f32) (g : FVec Ideal S1x1024 .f32) (r k : Fin 1024) :
    (k0_pay2 (F := Ideal) X g (ix2 r k) : EReal) = Cert.Entries.norm (row X r) (gain g) k := by
  unfold Cert.Entries.norm
  pointwise [k0_pay2]

theorem pay3_at (X : FVec Ideal S1024x1024 .f32) (g : FVec Ideal S1x1024 .f32) (w : FVec Ideal S1024x1024 .bf16) (r k : Fin 1024) :
    (k0_pay3 (F := Ideal) X g w (ix2 r k) : EReal) = gate (row X r) (gain g) (fun n => w (ix2 n k)) := by
  have e : (k0_pay3 (F := Ideal) X g w (ix2 r k) : EReal)
      = Ideal.div (Ideal.ofBits .f32 0x3F800000#32) (Ideal.ofBits .f32 0x3F800000#32
          + Ideal.exp (0 - ∑ n : Fin 1024, (k0_pay2 (F := Ideal) X g (ix2 r n) : EReal) * w (ix2 n k))) := by
    unfold k0_pay3
    generalize k0_pay2 (F := Ideal) X g = h
    pointwise
  rw [e, zero_sub]
  unfold gate logistic
  exact congrArg (fun s : EReal => Ideal.div (Ideal.ofBits .f32 0x3F800000#32) (Ideal.ofBits .f32 0x3F800000#32 + Ideal.exp (-s)))
    (Finset.sum_congr rfl fun n _ => congrArg (fun z : EReal => z * w (ix2 n k)) (pay2_at X g r n))

/-- A row of the embedding with a column of the projection. -/
def proj (p : FVec Ideal S1024x256 .f32) (w : FVec Ideal S256x1024 .bf16) (r k : Fin 1024) : EReal :=
  ∑ n : Fin 256, p (ix2 r n) * w (ix2 n k)

theorem pay4_at (p : FVec Ideal S1024x256 .f32) (w : FVec Ideal S256x1024 .bf16) (r k : Fin 1024) :
    (k0_pay4 (F := Ideal) p w (ix2 r k) : EReal) = proj p w r k := by
  pointwise [k0_pay4, proj]

/-! ## What a point leaves -/

variable (X : FVec Ideal S1024x1024 .f32) (g : FVec Ideal S1x1024 .f32) (w : FVec Ideal S1024x1024 .bf16)
  (p : FVec Ideal S1024x256 .f32) (v : FVec Ideal S256x1024 .bf16) (r k : Fin 1024)

/-- The normalised input. -/
theorem hn_at : (out0_5 (F := Ideal) X g w p v (ix2 r k) : EReal) = Cert.Entries.norm (row X r) (gain g) k := by
  frame_out
  exact pay2_at X g r k

/-- The stream with the gated projection added. -/
theorem out_at : (out0_6 (F := Ideal) X g w p v (ix2 r k) : EReal)
    = X (ix2 r k) + proj p v r k * gate (row X r) (gain g) (fun n => w (ix2 n k)) := by
  frame_out
  rw [← pay3_at, ← pay4_at]
  unfold k0_pay1
  rfl

/-- The gate. -/
theorem gate_at : (out0_7 (F := Ideal) X g w p v (ix2 r k) : EReal) = gate (row X r) (gain g) (fun n => w (ix2 n k)) := by
  frame_out
  exact pay3_at X g w r k

/-- The projected embedding. -/
theorem pp_at : (out0_8 (F := Ideal) X g w p v (ix2 r k) : EReal) = proj p v r k := by
  frame_out
  exact pay4_at p v r k

end Cert.Kernel13Ideal.Ple

end

end
-- ==== Proof.PleArrays.lean ====
/- The per-layer embedding's forward call: the four arrays it leaves, and that they are the reference's. -/
module

public import proofs.«01_k».proof.Proof.PlePoint
public import proofs.«01_k».proof.Proof.InArrays
public import proofs.«01_k».proof.Proof.Gen.Kernel13Ideal.Value
public import proofs.«01_k».proof.Proof.Gen.Reference13Ideal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Ple

open Cert.Kernel13Ideal Cert.Kernel13Ideal.Gen Cert.Reference13Ideal.Read
open Cert.Kernel6Ideal.InBwd (row gain arow again)

/-- The blocks of point `t`: row tile `t`, and of the embedding the tile `4 + t`, its second layer's. -/
theorem idx : ∀ t : Fin cfg0.N, win0_0.index t = ![t.val, 0] ∧ win0_1.index t = ![0, 0]
    ∧ win0_2.index t = ![0, 0] ∧ win0_3.index t = ![4 + t.val, 0] ∧ win0_4.index t = ![0, 0]
    ∧ win0_5.index t = ![t.val, 0] ∧ win0_6.index t = ![t.val, 0] ∧ win0_7.index t = ![t.val, 0] ∧ win0_8.index t = ![t.val, 0] :=
  (by decide +kernel : ∀ t : Fin grid0.N, _)

section Reads

variable (c : Dev nD) (W : (b : Ref sig .tc) → Buf (Elt Ideal) ((c : Thread nD τ).loc b)) (t : Fin cfg0.N)

/-- Window 0's block is the stream's rows there. -/
theorem read0 (r k : Fin 1024) (i : Fin 4096) (hi : i.val = t.val * 1024 + r.val) :
    (show FVec Ideal S1024x1024 .f32 from ((cfg0.win 0).blk t).view.read (Elt Ideal) (W (Pipeline.arrRef spec0 0))) (ix2 r k)
      = (show FVec Ideal S4096x1024 .f32 from W main_arg0) (ix2 i k) := by
  blk_ext [idx t]

/-- Window 1's block is the gain. -/
theorem read1 (k : Fin 1024) :
    (show FVec Ideal S1x1024 .f32 from ((cfg0.win 1).blk t).view.read (Elt Ideal) (W (Pipeline.arrRef spec0 1))) (ix2 0 k)
      = (show FVec Ideal S1x1024 .f32 from W main_v0) (ix2 0 k) := by
  blk_ext [idx t]

/-- Window 2's block is the whole gate weight. -/
theorem read2 (n k : Fin 1024) :
    (show FVec Ideal S1024x1024 .bf16 from ((cfg0.win 2).blk t).view.read (Elt Ideal) (W (Pipeline.arrRef spec0 2))) (ix2 n k)
      = (show FVec Ideal S1024x1024 .bf16 from W main_v1) (ix2 n k) := by
  blk_ext [idx t]

/-- Window 3's block is the embedding's rows there. -/
theorem read3 (r : Fin 1024) (n : Fin 256) (i : Fin 8192) (hi : i.val = 4096 + t.val * 1024 + r.val) :
    (show FVec Ideal S1024x256 .f32 from ((cfg0.win 3).blk t).view.read (Elt Ideal) (W (Pipeline.arrRef spec0 3))) (ix2 r n)
      = (show FVec Ideal S8192x256 .f32 from W main_arg3) (ix2 i n) := by
  blk_ext [idx t]

/-- Window 4's block is the whole projection. -/
theorem read4 (n : Fin 256) (k : Fin 1024) :
    (show FVec Ideal S256x1024 .bf16 from ((cfg0.win 4).blk t).view.read (Elt Ideal) (W (Pipeline.arrRef spec0 4))) (ix2 n k)
      = (show FVec Ideal S256x1024 .bf16 from W main_v2) (ix2 n k) := by
  blk_ext [idx t]

end Reads

/-! ## The arrays -/

section Arrays

variable (X : FVec Ideal S4096x1024 .f32) (G : FVec Ideal S1024 .f32) (W : FVec Ideal S1024x1024 .f32)
  (P : FVec Ideal S8192x256 .f32) (U : FVec Ideal S256x1024 .f32)

/-- The row of the embedding's second layer a row of the stream meets. -/
def second (i : Fin 4096) : Fin 8192 := ⟨4096 + i.val, by have := i.isLt; omega⟩

def hnArr : S4096x1024.Idx → EReal := fun y => Cert.Entries.norm (arow X (y 0)) (again G) (y 1)
def gateArr : S4096x1024.Idx → EReal := fun y => gate (arow X (y 0)) (again G) (fun n => W (ix2 n (y 1)))
def ppArr : S4096x1024.Idx → EReal := fun y => ∑ n : Fin 256, P (ix2 (second (y 0)) n) * U (ix2 n (y 1))
def outArr : S4096x1024.Idx → EReal := fun y => X (ix2 (y 0) (y 1)) + ppArr P U y * gateArr X G W y

end Arrays

variable (m : (ℓ : Loc nD τ sig) → Buf (Elt Ideal) ℓ) (c : Dev nD)

abbrev argX : FVec Ideal S4096x1024 .f32 := m ((c : Thread nD τ).loc main_arg0)
abbrev argG : FVec Ideal S1024 .f32 := m ((c : Thread nD τ).loc main_arg1)
abbrev argW : FVec Ideal S1024x1024 .f32 := m ((c : Thread nD τ).loc main_arg2)
abbrev argP : FVec Ideal S8192x256 .f32 := m ((c : Thread nD τ).loc main_arg3)
abbrev argU : FVec Ideal S256x1024 .f32 := m ((c : Thread nD τ).loc main_arg4)

theorem arrG_at (k : Fin 1024) : (show FVec Ideal S1x1024 .f32 from V m c main_v0) (ix2 0 k) = argG m c (ix1 k) := by
  entry_read
  pointwise
theorem arrW_at (n k : Fin 1024) : ((show FVec Ideal S1024x1024 .bf16 from V m c main_v1) (ix2 n k) : EReal) = argW m c (ix2 n k) := by
  entry_read
  pointwise
theorem arrU_at (n : Fin 256) (k : Fin 1024) : ((show FVec Ideal S256x1024 .bf16 from V m c main_v2) (ix2 n k) : EReal) = argU m c (ix2 n k) := by
  entry_read
  pointwise
theorem arrX_eq : V m c main_arg0 = argX m c := by entry_read; rfl
theorem arrP_eq : V m c main_arg3 = argP m c := by entry_read; rfl

section Rows

variable (t : Fin cfg0.N) (r : Fin 1024) (i : Fin 4096) (hi : i.val = t.val * 1024 + r.val)
include hi

theorem row_eq : row (iblk m c 0 t) r = arow (argX m c) i :=
  funext fun k => (read0 c (V m c) t r k i hi).trans (congrFun (arrX_eq m c) _)

omit hi in
theorem gain_eq : gain (iblk m c 1 t) = again (argG m c) := funext fun k => (read1 c (V m c) t k).trans (arrG_at m c k)

theorem hn_eq (k : Fin 1024) :
    Cert.Entries.norm (row (iblk m c 0 t) r) (gain (iblk m c 1 t)) k = hnArr (argX m c) (argG m c) (ix2 i k) := by
  rw [row_eq m c t r i hi, gain_eq m c t]
  rfl

theorem gate_eq (k : Fin 1024) :
    gate (row (iblk m c 0 t) r) (gain (iblk m c 1 t)) (fun n => (show FVec Ideal S1024x1024 .bf16 from iblk m c 2 t) (ix2 n k))
      = gateArr (argX m c) (argG m c) (argW m c) (ix2 i k) := by
  rw [row_eq m c t r i hi, gain_eq m c t]
  exact congrArg (gate _ _) (funext fun n => (read2 c (V m c) t n k).trans (arrW_at m c n k))

theorem pp_eq (k : Fin 1024) : proj (iblk m c 3 t) (iblk m c 4 t) r k = ppArr (argP m c) (argU m c) (ix2 i k) := by
  unfold proj ppArr
  exact Finset.sum_congr rfl fun n _ => congrArg₂ (fun x y : EReal => x * y)
    ((read3 c (V m c) t r n (second i) (by unfold second; simp only []; omega)).trans (congrFun (arrP_eq m c) _))
    ((read4 c (V m c) t n k).trans (arrU_at m c n k))

theorem out_eq (k : Fin 1024) :
    (show FVec Ideal S1024x1024 .f32 from iblk m c 0 t) (ix2 r k) + proj (iblk m c 3 t) (iblk m c 4 t) r k
        * gate (row (iblk m c 0 t) r) (gain (iblk m c 1 t)) (fun n => (show FVec Ideal S1024x1024 .bf16 from iblk m c 2 t) (ix2 n k))
      = outArr (argX m c) (argG m c) (argW m c) (argP m c) (argU m c) (ix2 i k) := by
  rw [pp_eq m c t r i hi k, gate_eq m c t r i hi k]
  exact congrArg (fun z : EReal => z + _) (congrFun (row_eq m c t r i hi) k)

end Rows

/-- The place in the array of an index of a row tile. -/
theorem place (f : S4096x1024.Idx → EReal) (t : Fin cfg0.N) (y : S1024x1024.Idx) (j : S4096x1024.Idx) (h1 : (j 1 : ℕ) = (y 1 : ℕ)) :
    f (ix2 (j 0) (y 1)) = f j :=
  (congrArg (fun k : Fin 1024 => f (ix2 (j 0) k)) (Fin.ext h1.symm : (y 1 : Fin 1024) = j 1)).trans
    (congrArg f (Cert.Entries.ix_eta 4096 1024 j).symm)

theorem final_hn : (dats m 0 c).arrAt 5 (cfgs 0).N = hnArr (argX m c) (argG m c) := by
  refine (dats m 0 c).arrAt_eq_of_covers 5 _ (by decide +kernel) fun t hf y => ?_
  blk_simp
  rw [after0_5]
  refine Eq.trans (congrArg _ (Cert.Entries.ix_eta 1024 1024 y)) ((hn_at _ _ _ _ _ (y 0) (y 1)).trans
    ((hn_eq m c t (y 0) _ ?_ (y 1)).trans (place _ t y _ ?_)))
  all_goals (blk_simp [idx t] <;> (try simp only []) <;> (try omega))

theorem final_out : (dats m 0 c).arrAt 6 (cfgs 0).N = outArr (argX m c) (argG m c) (argW m c) (argP m c) (argU m c) := by
  refine (dats m 0 c).arrAt_eq_of_covers 6 _ (by decide +kernel) fun t hf y => ?_
  blk_simp
  rw [after0_6]
  refine Eq.trans (congrArg _ (Cert.Entries.ix_eta 1024 1024 y)) ((out_at _ _ _ _ _ (y 0) (y 1)).trans
    ((out_eq m c t (y 0) _ ?_ (y 1)).trans (place _ t y _ ?_)))
  all_goals (blk_simp [idx t] <;> (try simp only []) <;> (try omega))

theorem final_gate : (dats m 0 c).arrAt 7 (cfgs 0).N = gateArr (argX m c) (argG m c) (argW m c) := by
  refine (dats m 0 c).arrAt_eq_of_covers 7 _ (by decide +kernel) fun t hf y => ?_
  blk_simp
  rw [after0_7]
  refine Eq.trans (congrArg _ (Cert.Entries.ix_eta 1024 1024 y)) ((gate_at _ _ _ _ _ (y 0) (y 1)).trans
    ((gate_eq m c t (y 0) _ ?_ (y 1)).trans (place _ t y _ ?_)))
  all_goals (blk_simp [idx t] <;> (try simp only []) <;> (try omega))

theorem final_pp : (dats m 0 c).arrAt 8 (cfgs 0).N = ppArr (argP m c) (argU m c) := by
  refine (dats m 0 c).arrAt_eq_of_covers 8 _ (by decide +kernel) fun t hf y => ?_
  blk_simp
  rw [after0_8]
  refine Eq.trans (congrArg _ (Cert.Entries.ix_eta 1024 1024 y)) ((pp_at _ _ _ _ _ (y 0) (y 1)).trans
    ((pp_eq m c t (y 0) _ ?_ (y 1)).trans (place _ t y _ ?_)))
  all_goals (blk_simp [idx t] <;> (try simp only []) <;> (try omega))

/-! ## The reference's -/

section Ref

variable (x : FVec Ideal S4096x1024 .f32) (g : FVec Ideal S1024 .f32) (w : FVec Ideal S1024x1024 .f32)
  (p : FVec Ideal S8192x256 .f32) (u : FVec Ideal S256x1024 .f32)

/-- The reference's normalised input. -/
theorem v12_at (i : Fin 4096) (k : Fin 1024) : val_main_v12 (F := Ideal) x g (ix2 i k) = hnArr x g (ix2 i k) := by
  unfold hnArr Cert.Entries.norm val_main_v12 val_main_v11 val_main_v10 val_main_v9 val_main_v8 val_main_v7 val_main_v6
    val_main_v5 val_main_v4 val_main_v3 val_main_v2 val_main_v1 val_main_v0 val_main_cst val_main_cst_0 val_main_cst_1
  pointwise

/-- The reference's gate. -/
theorem v19_at (i : Fin 4096) (k : Fin 1024) : val_main_v19 (F := Ideal) x g w (ix2 i k) = gateArr x g w (ix2 i k) := by
  have e : val_main_v19 (F := Ideal) x g w (ix2 i k)
      = logistic (∑ n : Fin 1024, val_main_v12 (F := Ideal) x g (ix2 i n) * w (ix2 n k)) := by
    unfold logistic val_main_v19 val_main_v18 val_main_v17 val_main_v16 val_main_v15 val_main_v14 val_main_v13 val_main_cst_2 val_main_cst_3
    generalize val_main_v12 (F := Ideal) x g = h
    pointwise
  exact e.trans (congrArg logistic (Finset.sum_congr rfl fun n _ => congrArg (fun z : EReal => z * w (ix2 n k)) (v12_at x g i n)))

/-- The reference's projected embedding. -/
theorem v21_at (i : Fin 4096) (k : Fin 1024) : val_main_v21 (F := Ideal) p u (ix2 i k) = ppArr p u (ix2 i k) := by
  rw [val_main_v21_apply]
  unfold ppArr
  refine Finset.sum_congr rfl fun n _ => congrArg₂ (fun x y : EReal => x * y) ((val_main_v20_apply _ _).trans (congrArg p ?_)) (congrArg u ?_)
  all_goals
    funext a
    match a with
    | ⟨0, _⟩ => rfl
    | ⟨1, _⟩ => rfl

/-- The reference's stream. -/
theorem v24_at (i : Fin 4096) (k : Fin 1024) : val_main_v24 (F := Ideal) x g w p u (ix2 i k) = outArr x g w p u (ix2 i k) :=
  congrArg₂ (fun a b : EReal => x (ix2 i k) + a * b) (v21_at p u i k) (v19_at x g w i k)

/-- The four arrays. -/
theorem arrays_eq : hnArr x g = val_main_v22 (F := Ideal) x g ∧ outArr x g w p u = val_main_v24 (F := Ideal) x g w p u
    ∧ gateArr x g w = val_main_v25 (F := Ideal) x g w ∧ ppArr p u = val_main_v26 (F := Ideal) p u := by
  refine ⟨funext fun y => ?_, funext fun y => ?_, funext fun y => ?_, funext fun y => ?_⟩
  · exact (v12_at x g (y 0) (y 1)).symm.trans (congrArg _ (Cert.Entries.ix_eta 4096 1024 y).symm)
  · exact (v24_at x g w p u (y 0) (y 1)).symm.trans (congrArg _ (Cert.Entries.ix_eta 4096 1024 y).symm)
  · exact (v19_at x g w (y 0) (y 1)).symm.trans (congrArg _ (Cert.Entries.ix_eta 4096 1024 y).symm)
  · exact (v21_at p u (y 0) (y 1)).symm.trans (congrArg _ (Cert.Entries.ix_eta 4096 1024 y).symm)

end Ref

end Cert.Kernel13Ideal.Ple

end

end
-- ==== Proof.NormProduct.lean ====
/- A norm followed by a product, in one call: what a grid point does to its buffers, whatever the shapes. The first point of a
   row tile normalises the tile into a buffer that the later points read, and copies it to the first output; every point
   stores the normalised tile's product with a block of the weight to the second output. -/
module

public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.VecWindow

@[expose] public section

set_option maxRecDepth 16384

noncomputable section

namespace Cert.NormProduct

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The shapes of a point's buffers, and where a whole load of each starts. -/
structure Sizes where
  /-- the input's tile, which is the normalised tile's and the first output's too -/
  x : Shape
  /-- the gain's -/
  g : Shape
  /-- the weight's block -/
  w : Shape
  /-- the second output's block -/
  o : Shape
  xo : Fin x.rank → ℕ
  go : Fin g.rank → ℕ
  wo : Fin w.rank → ℕ
  oo : Fin o.rank → ℕ
  xin : ∀ a, xo a + x.size a ≤ x.size a
  gin : ∀ a, go a + g.size a ≤ g.size a
  win : ∀ a, wo a + w.size a ≤ w.size a
  oin : ∀ a, oo a + o.size a ≤ o.size a

variable {nD : ℕ} {τ : Topo} {sig : RefSig} {Λ : Labels} {F : FTy → Type} [FloatOps F]
variable (S : Sizes)

/-- A point: `cond` says whether it is the first of its row tile, `norm` what it normalises, `prod` what it stores. -/
def point (cond : BitVec 1) (norm : Vec F S.x .f32 → Vec F S.g .f32 → Vec F S.x .bf16) (prod : Vec F S.x .bf16 → Vec F S.w .bf16 → Vec F S.o .bf16)
    (a2 : Memref sig .tc .vmem S.x .f32) (a3 : Memref sig .tc .vmem S.g .f32) (a4 : Memref sig .tc .vmem S.w .bf16)
    (a5 : Memref sig .tc .vmem S.x .bf16) (a6 : Memref sig .tc .vmem S.o .bf16) (a7 : Memref sig .tc .vmem S.x .bf16)
    (l2 : a2.view.LoadsAt (Rect.unit S.xo S.x.size S.xin).toLoadRect) (l3 : a3.view.LoadsAt (Rect.unit S.go S.g.size S.gin).toLoadRect)
    (l4 : a4.view.LoadsAt (Rect.unit S.wo S.w.size S.win).toLoadRect) (l5 : a5.view.LoadsAt (Rect.unit S.xo S.x.size S.xin).toLoadRect)
    (l6 : a6.view.LoadsAt (Rect.unit S.oo S.o.size S.oin).toLoadRect) (l7 : a7.view.LoadsAt (Rect.unit S.xo S.x.size S.xin).toLoadRect)
    (s5 : (a5.access (Rect.unit S.xo S.x.size S.xin)).Stores Finset.univ) (s6 : (a6.access (Rect.unit S.oo S.o.size S.oin)).Stores Finset.univ)
    (s7 : (a7.access (Rect.unit S.xo S.x.size S.xin)).Stores Finset.univ) : Prog (TpuEff nD τ sig (Elt F) Λ .tc) PUnit := do
  if h : cond = 1#1 then do
    let x : Vec F S.x .f32 ← Prog.lift (.load a2 (Rect.unit S.xo S.x.size S.xin).toLoadRect l2)
    let g : Vec F S.g .f32 ← Prog.lift (.load a3 (Rect.unit S.go S.g.size S.gin).toLoadRect l3)
    let _ : Vec F S.x .bf16 ← Prog.lift (.load a7 (Rect.unit S.xo S.x.size S.xin).toLoadRect l7)
    Prog.lift (.store a7 (Rect.unit S.xo S.x.size S.xin) (norm x g) Finset.univ s7 (.inl rfl))
    let n : Vec F S.x .bf16 ← Prog.lift (.load a7 (Rect.unit S.xo S.x.size S.xin).toLoadRect l7)
    let _ : Vec F S.x .bf16 ← Prog.lift (.load a5 (Rect.unit S.xo S.x.size S.xin).toLoadRect l5)
    Prog.lift (.store a5 (Rect.unit S.xo S.x.size S.xin) n Finset.univ s5 (.inl rfl))
    pure ⟨⟩
  else do
    pure ⟨⟩
  let n : Vec F S.x .bf16 ← Prog.lift (.load a7 (Rect.unit S.xo S.x.size S.xin).toLoadRect l7)
  let w : Vec F S.w .bf16 ← Prog.lift (.load a4 (Rect.unit S.wo S.w.size S.win).toLoadRect l4)
  let _ : Vec F S.o .bf16 ← Prog.lift (.load a6 (Rect.unit S.oo S.o.size S.oin).toLoadRect l6)
  Prog.lift (.store a6 (Rect.unit S.oo S.o.size S.oin) (prod n w) Finset.univ s6 (.inl rfl))
  pure ⟨⟩

variable {S}
variable {norm : Vec F S.x .f32 → Vec F S.g .f32 → Vec F S.x .bf16} {prod : Vec F S.x .bf16 → Vec F S.w .bf16 → Vec F S.o .bf16}
variable {a2 : Memref sig .tc .vmem S.x .f32} {a3 : Memref sig .tc .vmem S.g .f32} {a4 : Memref sig .tc .vmem S.w .bf16}
  {a5 : Memref sig .tc .vmem S.x .bf16} {a6 : Memref sig .tc .vmem S.o .bf16} {a7 : Memref sig .tc .vmem S.x .bf16}
  {l2 : a2.view.LoadsAt (Rect.unit S.xo S.x.size S.xin).toLoadRect} {l3 : a3.view.LoadsAt (Rect.unit S.go S.g.size S.gin).toLoadRect}
  {l4 : a4.view.LoadsAt (Rect.unit S.wo S.w.size S.win).toLoadRect} {l5 : a5.view.LoadsAt (Rect.unit S.xo S.x.size S.xin).toLoadRect}
  {l6 : a6.view.LoadsAt (Rect.unit S.oo S.o.size S.oin).toLoadRect} {l7 : a7.view.LoadsAt (Rect.unit S.xo S.x.size S.xin).toLoadRect}
  {s5 : (a5.access (Rect.unit S.xo S.x.size S.xin)).Stores Finset.univ} {s6 : (a6.access (Rect.unit S.oo S.o.size S.oin)).Stores Finset.univ}
  {s7 : (a7.access (Rect.unit S.xo S.x.size S.xin)).Stores Finset.univ}
variable (D : Defs nD τ sig (Elt F) Λ) (c : Dev nD) {cond : BitVec 1}
  (h2 : a2.IsWhole) (h3 : a3.IsWhole) (h4 : a4.IsWhole) (h7 : a7.IsWhole)
  (E : Set ℕ)

include h2 h3 h4 in
/-- A row tile's first point, whatever the last three buffers held. `G` and `O` are what the point does not touch. -/
theorem first (hc : cond = 1#1) (x : Vec F S.x .f32) (g : Vec F S.g .f32) (w : Vec F S.w .bf16)
    {T0 T1 T2 T3 T4 : Type} (b3 : T3 → Vec F S.x .bf16) (b4 : T4 → Vec F S.o .bf16)
    (G O : sProp (MT nD τ sig Unit (Elt F) ℕ (UR sig nD τ) ℕ)) :
    iprop(((∃ d, owns (c : Thread nD τ) a7 fullShare d) ∗ G) ∗ O ∗ (∃ _d : T0, owns (c : Thread nD τ) a2 fullShare x)
        ∗ (∃ _d : T1, owns (c : Thread nD τ) a3 fullShare g) ∗ (∃ _d : T2, owns (c : Thread nD τ) a4 fullShare w)
        ∗ (∃ d : T3, owns (c : Thread nD τ) a5 fullShare (b3 d)) ∗ (∃ d : T4, owns (c : Thread nD τ) a6 fullShare (b4 d)))
      ⊢ wp frame (wpE D Variants.none c none) E (point S cond norm prod a2 a3 a4 a5 a6 a7 l2 l3 l4 l5 l6 l7 s5 s6 s7) (fun _ =>
        iprop((owns (c : Thread nD τ) a7 fullShare (norm x g) ∗ G) ∗ O ∗ owns (c : Thread nD τ) a2 fullShare x
          ∗ owns (c : Thread nD τ) a3 fullShare g ∗ owns (c : Thread nD τ) a4 fullShare w
          ∗ owns (c : Thread nD τ) a5 fullShare (norm x g) ∗ owns (c : Thread nD τ) a6 fullShare (prod (norm x g) w))) := by
  unfold point
  unfold owns
  iintro ⟨⟨⟨%d5, %f5, -, H5⟩, HG⟩, HO, ⟨%d0, %f0, %hf0, H0⟩, ⟨%d1, %f1, %hf1, H1⟩, ⟨%d2, %f2, %hf2, H2⟩, ⟨%d3, %f3, -, H3⟩, ⟨%d4, %f4, -, H4⟩⟩
  obtain rfl := h2.eq_unread hf0; obtain rfl := h3.eq_unread hf1; obtain rfl := h4.eq_unread hf2
  sl_exec (disch := sl_exact hc)
  sl_step
  isplitl [H5 HG]
  · isplitl [H5]
    · iexists _; isplitr
      swap; · iexact H5
      ipureintro
      unfold first.sl.H5_1
      rw [View.read_writes_full, View.readAt_full, View.readAt_full, h2.read_unread, h3.read_unread]
    iexact HG
  isplitl [HO]; · iexact HO
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    unfold first.sl.H5_1
    rw [View.read_writes_full, View.readAt_writes_full, View.readAt_full, View.readAt_full, h2.read_unread, h3.read_unread]
  iexists _; isplitr
  swap; · iexact H4
  ipureintro
  unfold first.sl.H5_1
  rw [View.read_writes_full, View.readAt_writes_full, View.readAt_full, View.readAt_full, View.readAt_full, h2.read_unread,
    h3.read_unread, h4.read_unread]

include h4 h7 in
/-- A row tile's later points: the normalised tile `n` is kept, and the first output holds it already. -/
theorem next (hc : ¬ cond = 1#1) (x : Vec F S.x .f32) (g : Vec F S.g .f32) (w : Vec F S.w .bf16) (n : Vec F S.x .bf16)
    {T0 T1 T2 T3 T4 : Type} (b4 : T4 → Vec F S.o .bf16) (G O : sProp (MT nD τ sig Unit (Elt F) ℕ (UR sig nD τ) ℕ)) :
    iprop((owns (c : Thread nD τ) a7 fullShare n ∗ G) ∗ O ∗ (∃ _d : T0, owns (c : Thread nD τ) a2 fullShare x)
        ∗ (∃ _d : T1, owns (c : Thread nD τ) a3 fullShare g) ∗ (∃ _d : T2, owns (c : Thread nD τ) a4 fullShare w)
        ∗ (∃ _d : T3, owns (c : Thread nD τ) a5 fullShare n) ∗ (∃ d : T4, owns (c : Thread nD τ) a6 fullShare (b4 d)))
      ⊢ wp frame (wpE D Variants.none c none) E (point S cond norm prod a2 a3 a4 a5 a6 a7 l2 l3 l4 l5 l6 l7 s5 s6 s7) (fun _ =>
        iprop((owns (c : Thread nD τ) a7 fullShare n ∗ G) ∗ O ∗ owns (c : Thread nD τ) a2 fullShare x
          ∗ owns (c : Thread nD τ) a3 fullShare g ∗ owns (c : Thread nD τ) a4 fullShare w
          ∗ owns (c : Thread nD τ) a5 fullShare n ∗ owns (c : Thread nD τ) a6 fullShare (prod n w))) := by
  unfold point
  iintro ⟨⟨H5, HG⟩, HO, ⟨%d0, H0⟩, ⟨%d1, H1⟩, ⟨%d2, H2⟩, ⟨%d3, H3⟩, ⟨%d4, H4⟩⟩
  unfold owns
  icases H5 with ⟨%f5, %hf5, H5⟩
  icases H2 with ⟨%f2, %hf2, H2⟩
  icases H4 with ⟨%f4, -, H4⟩
  obtain rfl := h4.eq_unread hf2; obtain rfl := h7.eq_unread hf5
  sl_exec (disch := sl_exact hc)
  sl_step
  isplitl [H5 HG]
  · isplitl [H5]
    · iexists _; isplitr; · ipureintro; exact h7.read_unread _
      iexact H5
    iexact HG
  isplitl [HO]; · iexact HO
  isplitl [H0]; · iexact H0
  isplitl [H1]; · iexact H1
  isplitl [H2]
  · iexists _; isplitr; · ipureintro; exact h4.read_unread _
    iexact H2
  isplitl [H3]; · iexact H3
  iexists _; isplitr
  swap; · iexact H4
  ipureintro
  rw [View.read_writes_full, View.readAt_full, View.readAt_full, h4.read_unread, h7.read_unread]

end Cert.NormProduct

end
-- ==== Proof.UpFwdFrame.lean ====
/- The feed-forward's up projection, forward: its run over the grid, and that it leaves its arguments as launched. -/
module

public import proofs.«01_k».proof.Proof.NormProduct
public import proofs.«01_k».proof.Proof.Gen.Kernel14Ideal.Skeleton
public import proofs.«01_k».proof.Proof.Gen.Kernel14Ideal.Frame
public import Idealize.ShloMosaic.Lib.Pipeline.TableIdle
public import Idealize.ShloMosaic.Lib.Claim

@[expose] public section

set_option maxRecDepth 16384

noncomputable section

namespace Cert.Kernel14Ideal.UpFwd

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The shapes of a point's buffers. -/
abbrev sizes : Cert.NormProduct.Sizes where
  x := S1024x1024
  g := S1x1024
  w := S1024x2816
  o := S1024x2816
  xo := ![0, 0]
  go := ![0, 0]
  wo := ![0, 0]
  oo := ![0, 0]
  xin := inb_S1024x1024_S1024x1024_0_0
  gin := inb_S1x1024_S1x1024_0_0
  win := inb_S1024x2816_S1024x2816_0_0
  oin := inb_S1024x2816_S1024x2816_0_0

/-! ## The grid: four row tiles of two points -/

/-- The first of the two points of `t`'s row tile. -/
def start (t : Fin cfg0.N) : Fin cfg0.N := ⟨2 * (t.val / 2), Nat.lt_of_le_of_lt (by omega) t.isLt⟩

theorem start_of_first (t : Fin cfg0.N) (h : t.val % 2 = 0) : start t = t :=
  Fin.ext (by show 2 * (t.val / 2) = t.val; omega)

/-- A row tile's second point has the same first point as the one before it. -/
theorem start_of_next (t : Fin cfg0.N) (h : ¬ t.val % 2 = 0) (n : ℕ) (hn : n < cfg0.N) (e : n = t.val - 1) : start t = start ⟨n, hn⟩ :=
  Fin.ext (by show 2 * (t.val / 2) = 2 * (n / 2); omega)

theorem cond_iff : ∀ t : Fin cfg0.N, k0_cond1 (grid0.coords t) = 1#1 ↔ t.val % 2 = 0 := by decide +kernel

theorem idle_next : ∀ t : Fin cfg0.N, ¬ t.val % 2 = 0 → cfg0.idle 3 (grid0.coords t) = true := by decide +kernel

theorem live_first : ∀ t : Fin cfg0.N, t.val % 2 = 0 → cfg0.idle 3 (grid0.coords t) = false := by decide +kernel

theorem stored_before_next : ∀ t : Fin cfg0.N, ¬ t.val % 2 = 0 → cfg0.fresh 3 t.val = false := by decide +kernel

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live4 : ∀ t : Fin cfg0.N, cfg0.idle 4 (grid0.coords t) = false := by decide +kernel

/-! ## What the buffers hold after a point -/

/-- The normalised row tile, as the tile's first point computes it. -/
def normAt (c : Dev nD) (t : Fin cfg0.N) : Vec F S1024x1024 .bf16 :=
  k0_pay1 (iblk m c 0 (start t)) (iblk m c 1 (start t))

theorem normAt_first (c : Dev nD) (t : Fin cfg0.N) (h : t.val % 2 = 0) : normAt m c t = k0_pay1 (iblk m c 0 t) (iblk m c 1 t) := by
  unfold normAt; rw [start_of_first t h]

theorem normAt_next (c : Dev nD) (t : Fin cfg0.N) (h : ¬ t.val % 2 = 0) (n : ℕ) (hn : n < cfg0.N) (e : n = t.val - 1) :
    normAt m c t = normAt m c ⟨n, hn⟩ := by
  unfold normAt; rw [start_of_next t h n hn e]

/-- The scratch buffer, whole. -/
abbrev kept : Memref sig .tc .vmem S1024x1024 .bf16 := Memref.whole cc0_scratch0

/-- Before the first point the scratch buffer holds anything, after a point the row tile that point works on, normalised. -/
def keeps (c : Dev nD) : (n : ℕ) → n ≤ cfg0.N → sProp (MT nD τ sig Unit (Elt F) ℕ (UR sig nD τ) ℕ)
  | 0, _ => Pipeline.ΦA spec0 c
  | n + 1, hn => iprop(owns (c : Thread nD τ) kept fullShare (normAt m c ⟨n, hn⟩) ∗ (∃ r, prngReg c r))

theorem keeps_zero (c : Dev nD) (n : ℕ) (h : n ≤ cfg0.N) (hz : n = 0) : keeps m c n h = Pipeline.ΦA spec0 c := by
  subst hz; rfl

theorem keeps_pos (c : Dev nD) (n : ℕ) (h : n ≤ cfg0.N) (hz : n ≠ 0) :
    keeps m c n h = iprop(owns (c : Thread nD τ) kept fullShare (normAt m c ⟨n - 1, by omega⟩) ∗ (∃ r, prngReg c r)) := by
  cases n with
  | zero => exact absurd rfl hz
  | succ n => rfl

theorem anything_eq (c : Dev nD) :
    (Pipeline.ΦA spec0 c : sProp (MT nD τ sig Unit (Elt F) ℕ (UR sig nD τ) ℕ))
      = iprop((∃ d, owns (c : Thread nD τ) kept fullShare d) ∗ (∃ r, prngReg c r)) := by
  unfold Pipeline.ΦA; rw [scopedRest0_eq]; simp only [kept, owns_whole]; rfl

/-- The run's data: every input's buffer at its block, the first output's at the normalised row tile, the second's at the
    tile's product with the weight's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normAt m c t
    | ⟨4, _⟩ => k0_pay2 (normAt m c t) (iblk m c 2 t)
  Φ t := keeps m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = normAt m c t := by dsimp only [dats]
theorem after4 (c : Dev nD) (t : Fin cfg0.N) : (dats m 0 c).after 4 t = k0_pay2 (normAt m c t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- A row tile's second point finds in the first output's buffer what the first point stored there: the normalised tile. -/
theorem before3_next (c : Dev nD) (t : Fin cfg0.N) (h : ¬ t.val % 2 = 0) (d) : (dats m 0 c).before 3 t d = normAt m c t := by
  rw [Dat.before_out_traj _ 3 rfl (fun _ _ => rfl) (fun t hz hi _ => ?_) t.val t rfl d, stored_before_next t h,
    if_neg Bool.false_ne_true, after3]
  · exact (normAt_next m c t h _ _ rfl).symm
  · rw [after3, after3]
    refine normAt_next m c t (fun h0 => ?_) _ _ rfl
    rw [live_first t h0] at hi
    exact Bool.false_ne_true hi

theorem keeps_castSucc (c : Dev nD) (t : Fin cfg0.N) : (dats m 0 c).Φ t.castSucc = keeps m c t.val (Nat.le_of_lt t.isLt) := by
  dsimp only [dats]; exact Pipeline.Dat.Φ_castSucc (keeps m c) t

/-! ## One point -/

theorem leaves0 (c : Dev nD) (t : Fin cfg0.N) : (dats m 0 c).leavesExact 0 t = owns (c : Thread nD τ) (st0_0 t) fullShare (iblk m c 0 t) := by
  unfold Dat.leavesExact; rw [live0 t, after0]
theorem leaves1 (c : Dev nD) (t : Fin cfg0.N) : (dats m 0 c).leavesExact 1 t = owns (c : Thread nD τ) (st0_1 t) fullShare (iblk m c 1 t) := by
  unfold Dat.leavesExact; rw [live1 t, after1]
theorem leaves2 (c : Dev nD) (t : Fin cfg0.N) : (dats m 0 c).leavesExact 2 t = owns (c : Thread nD τ) (st0_2 t) fullShare (iblk m c 2 t) := by
  unfold Dat.leavesExact; rw [live2 t, after2]
/-- The first output, written back or not, ends at the normalised row tile. -/
theorem leaves3 (c : Dev nD) (t : Fin cfg0.N) : (dats m 0 c).leavesExact 3 t = owns (c : Thread nD τ) (st0_3 t) fullShare (normAt m c t) := by
  by_cases h : t.val % 2 = 0
  · unfold Dat.leavesExact; rw [live_first t h, after3]
  · unfold Dat.leavesExact; rw [idle_next t h, (flush0_3 t).mpr (by omega), after3]
theorem leaves4 (c : Dev nD) (t : Fin cfg0.N) :
    (dats m 0 c).leavesExact 4 t = owns (c : Thread nD τ) (st0_4 t) fullShare (k0_pay2 (normAt m c t) (iblk m c 2 t)) := by
  unfold Dat.leavesExact; rw [live4 t, after4]

/-- One point, from what the pipeline hands it to what it hands back. -/
theorem one_point (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t)) := by
  unfold bodyAt0
  rw [cc0_ffn_up_fwd_eq_skeleton]
  simp only [before0, before1, before2, leaves0, leaves1, leaves2, leaves3, leaves4]
  rw [show (dats m 0 c).owesAt () t.succ = (dats m 0 c).owesAt () t.castSucc from rfl]
  rw [show (dats m 0 c).Φ t.succ = iprop(owns (c : Thread nD τ) kept fullShare (normAt m c t) ∗ (∃ r, prngReg c r)) from rfl,
    keeps_castSucc]
  by_cases h : t.val % 2 = 0
  · rw [normAt_first m c t h]
    have hk : keeps m c t.val (Nat.le_of_lt t.isLt) ⊢ iprop((∃ d, owns (c : Thread nD τ) kept fullShare d) ∗ (∃ r, prngReg c r)) := by
      by_cases hz : t.val = 0
      · rw [keeps_zero m c _ _ hz, anything_eq]
      · rw [keeps_pos m c _ _ hz]
        iintro ⟨HS, Hg⟩
        isplitl [HS]; · iexists _; iexact HS
        iexact Hg
    refine (sep_mono hk .rfl).trans ?_
    exact Cert.NormProduct.first (S := sizes) (norm := k0_pay1) (prod := k0_pay2) defs₀ c
      (hstage0_0 ((cfg0.slots t 0).cast nbuf0_0)) (hstage0_1 ((cfg0.slots t 1).cast nbuf0_1)) (hstage0_2 ((cfg0.slots t 2).cast nbuf0_2))
      Set.univ ((cond_iff t).mpr h) (iblk m c 0 t) (iblk m c 1 t) (iblk m c 2 t) ((dats m 0 c).before 3 t) ((dats m 0 c).before 4 t) _ _
  · rw [keeps_pos m c _ _ (fun hz => h (by rw [hz])), ← normAt_next m c t h _ _ rfl]
    simp only [before3_next m c t h]
    exact Cert.NormProduct.next (S := sizes) (norm := k0_pay1) (prod := k0_pay2) defs₀ c
      (hstage0_2 ((cfg0.slots t 2).cast nbuf0_2)) (Memref.isWhole_whole _) Set.univ (fun hc => h ((cond_iff t).mp hc))
      (iblk m c 0 t) (iblk m c 1 t) (iblk m c 2 t) (normAt m c t) ((dats m 0 c).before 4 t) _ _

/-! ## The run -/

theorem every_point (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (one_point m c t) rfl .rfl fun _ => .rfl

theorem enters (c : Dev nD) : Pipeline.ΦA spec0 c ⊢ (dats m 0 c).Φ 0 := by
  rw [show (dats m 0 c).Φ 0 = Pipeline.ΦA spec0 c from rfl]

theorem leaves (c : Dev nD) : (dats m 0 c).Φ (Fin.last cfg0.N) ⊢ Pipeline.ΦA spec0 c := by
  rw [show (dats m 0 c).Φ (Fin.last cfg0.N) = keeps m c cfg0.N (Nat.le_refl _) from rfl,
    keeps_pos m c _ _ (by rw [show cfg0.N = 8 from N_0]; omega), anything_eq]
  iintro ⟨HS, Hg⟩
  isplitl [HS]
  · iexists _; iexact HS
  iexact Hg

set_option backward.isDefEq.respectTransparency.types false in
/-- Every run of the program ends with the windows' arrays at what the points left, the other arrays as the call found
    them, and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (every_point m c).loose) (hshare := fun c => (dats m 0 c).share_full fun _ => rfl)
    (howed := fun _ _ => rfl) (V := V m) (hmain := hmain m Variants.none) (hA := A_eq m) (hin := enters m) (hout := leaves m)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Kernel14Ideal.UpFwd

end
-- ==== Proof.UpFwdBits.lean ====
/- The feed-forward's up projection, forward, at the machine's numbers: the program read at the extended reals is the same
   program, so its frame, proved for any numbers, is this one's. -/
module

public import proofs.«01_k».proof.Proof.UpFwdFrame
public import proofs.«01_k».proof.Proof.Gen.Kernel14.Frame

@[expose] public section

set_option maxRecDepth 16384

noncomputable section

namespace Cert.Kernel14.UpFwd

open Cert.Kernel14 Cert.Kernel14.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine cast ?_ (Cert.Kernel14Ideal.UpFwd.frame (F := F) m ρ)
  sl_kernel_rfl

end Cert.Kernel14.UpFwd

end
-- ==== Proof.UpFwdArrays.lean ====
/- The feed-forward's up projection, forward: the two arrays it leaves, and that they are the reference's. -/
module

public import proofs.«01_k».proof.Proof.UpFwdFrame
public import proofs.«01_k».proof.Proof.Entries
public import proofs.«01_k».proof.Proof.Gen.Reference14Ideal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel14Ideal.UpFwd

open Cert.Kernel14Ideal Cert.Kernel14Ideal.Gen Cert.Reference14Ideal.Read

/-- The blocks of point `t`: row tile `t / 2`, column tile `t % 2`. -/
theorem idx : ∀ t : Fin cfg0.N, win0_0.index t = ![t.val / 2, 0] ∧ win0_1.index t = ![0, 0] ∧ win0_2.index t = ![0, t.val % 2]
    ∧ win0_3.index t = ![t.val / 2, 0] ∧ win0_4.index t = ![t.val / 2, t.val % 2] :=
  (by decide +kernel : ∀ t : Fin grid0.N, _)

section Reads

variable (c : Dev nD) (W : (b : Ref sig .tc) → Buf (Elt Ideal) ((c : Thread nD τ).loc b)) (t : Fin cfg0.N)

/-- Window 0's block is the input's rows there. -/
theorem read0 (r k : Fin 1024) (i : Fin 4096) (hi : i.val = t.val / 2 * 1024 + r.val) :
    (show FVec Ideal S1024x1024 .f32 from ((cfg0.win 0).blk t).view.read (Elt Ideal) (W (Pipeline.arrRef spec0 0))) (ix2 r k)
      = (show FVec Ideal S4096x1024 .f32 from W main_arg0) (ix2 i k) := by
  blk_ext [idx t]

/-- Window 1's block is the gain. -/
theorem read1 (k : Fin 1024) :
    (show FVec Ideal S1x1024 .f32 from ((cfg0.win 1).blk t).view.read (Elt Ideal) (W (Pipeline.arrRef spec0 1))) (ix2 0 k)
      = (show FVec Ideal S1x1024 .f32 from W main_v0) (ix2 0 k) := by
  blk_ext [idx t]

/-- Window 2's block is the weight's columns there. -/
theorem read2 (n : Fin 1024) (k : Fin 2816) (j : Fin 5632) (hj : j.val = t.val % 2 * 2816 + k.val) :
    (show FVec Ideal S1024x2816 .bf16 from ((cfg0.win 2).blk t).view.read (Elt Ideal) (W (Pipeline.arrRef spec0 2))) (ix2 n k)
      = (show FVec Ideal S1024x5632 .bf16 from W main_v1) (ix2 n j) := by
  blk_ext [idx t]

end Reads

/-! ## The arrays -/

section Arrays

variable (X : FVec Ideal S4096x1024 .f32) (G : FVec Ideal S1024 .f32) (W : FVec Ideal S1024x5632 .f32)

/-- The input's rows, normalised. -/
def normArr : S4096x1024.Idx → EReal := fun y => Cert.Entries.norm (fun l => X (ix2 (y 0) l)) (fun l => G (ix1 l)) (y 1)

/-- Their product with the weight. -/
def outArr : S4096x5632.Idx → EReal := fun y => ∑ n : Fin 1024, normArr X G (ix2 (y 0) n) * W (ix2 n (y 1))

end Arrays

/-- The normalised tile, entry by entry. -/
theorem pay1_at (X : FVec Ideal S1024x1024 .f32) (g : FVec Ideal S1x1024 .f32) (r k : Fin 1024) :
    (k0_pay1 (F := Ideal) X g (ix2 r k) : EReal) = Cert.Entries.norm (fun l => X (ix2 r l)) (fun l => g (ix2 0 l)) k := by
  pointwise [k0_pay1, Cert.Entries.norm]

/-- The tile's product with the weight's block, entry by entry. -/
theorem pay2_at (h : FVec Ideal S1024x1024 .bf16) (w : FVec Ideal S1024x2816 .bf16) (r : Fin 1024) (k : Fin 2816) :
    (k0_pay2 (F := Ideal) h w (ix2 r k) : EReal) = ∑ n : Fin 1024, h (ix2 r n) * w (ix2 n k) := by
  pointwise [k0_pay2]

variable (m : (ℓ : Loc nD τ sig) → Buf (Elt Ideal) ℓ) (g : Dev nD → PrngReg) (c : Dev nD)

abbrev argX : FVec Ideal S4096x1024 .f32 := m ((c : Thread nD τ).loc main_arg0)
abbrev argG : FVec Ideal S1024 .f32 := m ((c : Thread nD τ).loc main_arg1)
abbrev argW : FVec Ideal S1024x5632 .f32 := m ((c : Thread nD τ).loc main_arg2)

theorem arrX_eq : V m c main_arg0 = argX m c := by entry_read; rfl
theorem arrG_at (k : Fin 1024) : (show FVec Ideal S1x1024 .f32 from V m c main_v0) (ix2 0 k) = argG m c (ix1 k) := by
  entry_read
  pointwise
theorem arrW_at (n : Fin 1024) (k : Fin 5632) : ((show FVec Ideal S1024x5632 .bf16 from V m c main_v1) (ix2 n k) : EReal) = argW m c (ix2 n k) := by
  entry_read
  pointwise

/-- A point's normalised tile is the array's rows there. -/
theorem norm_at (t : Fin cfg0.N) (r : Fin 1024) (i : Fin 4096) (hi : i.val = t.val / 2 * 1024 + r.val) (k : Fin 1024) :
    (normAt m c t (ix2 r k) : EReal) = normArr (argX m c) (argG m c) (ix2 i k) := by
  have hs : i.val = (start t).val / 2 * 1024 + r.val := by
    show i.val = 2 * (t.val / 2) / 2 * 1024 + r.val
    omega
  unfold normAt normArr
  refine (pay1_at _ _ r k).trans (congrArg₂ (fun x y => Cert.Entries.norm x y k) (funext fun l => ?_) (funext fun l => ?_))
  · exact (read0 c (V m c) (start t) r l i hs).trans (congrFun (arrX_eq m c) _)
  · exact (read1 c (V m c) (start t) l).trans (arrG_at m c l)

theorem out_at (t : Fin cfg0.N) (r : Fin 1024) (k : Fin 2816) (i : Fin 4096) (j : Fin 5632) (hi : i.val = t.val / 2 * 1024 + r.val)
    (hj : j.val = t.val % 2 * 2816 + k.val) :
    (k0_pay2 (normAt m c t) (iblk m c 2 t) (ix2 r k) : EReal) = outArr (argX m c) (argG m c) (argW m c) (ix2 i j) :=
  (pay2_at _ _ r k).trans (Finset.sum_congr rfl fun n _ => congrArg₂ (fun x y : EReal => x * y) (norm_at m c t r i hi n)
    ((read2 c (V m c) t n k j hj).trans (arrW_at m c n j)))

/-- The same, with the array's column named. -/
theorem norm_place (t : Fin cfg0.N) (r k : Fin 1024) (i : Fin 4096) (j : Fin 1024) (hi : i.val = t.val / 2 * 1024 + r.val) (hj : j.val = k.val) :
    (normAt m c t (ix2 r k) : EReal) = normArr (argX m c) (argG m c) (ix2 i j) := by
  obtain rfl : j = k := Fin.ext hj
  exact norm_at m c t r i hi j

theorem final_norm : (dats m 0 c).arrAt 3 (cfgs 0).N = normArr (argX m c) (argG m c) := by
  refine (dats m 0 c).arrAt_eq_of_covers 3 _ (by decide +kernel) fun t hf y => ?_
  blk_simp
  rw [after3]
  refine Eq.trans (congrArg _ (Cert.Entries.ix_eta 1024 1024 y)) ((norm_place m c t (y 0) (y 1) _ _ ?_ ?_).trans
    (congrArg (normArr _ _) (Cert.Entries.ix_eta 4096 1024 _).symm))
  all_goals (blk_simp [idx t] <;> (try simp only []) <;> (try omega))

theorem final_out : (dats m 0 c).arrAt 4 (cfgs 0).N = outArr (argX m c) (argG m c) (argW m c) := by
  refine (dats m 0 c).arrAt_eq_of_covers 4 _ (by decide +kernel) fun t hf y => ?_
  blk_simp
  rw [after4]
  refine Eq.trans (congrArg _ (Cert.Entries.ix_eta 1024 2816 y)) ((out_at m c t (y 0) (y 1) _ _ ?_ ?_).trans
    (congrArg (outArr _ _ _) (Cert.Entries.ix_eta 4096 5632 _).symm))
  all_goals (blk_simp [idx t] <;> (try simp only []) <;> (try omega))

/-- Every run ends with the two arrays, the arguments as launched. -/
theorem run_arrays : θ_run defs (onTc (τ := τ) (main (F := Ideal))) ⟨m, fun _ => 0, g⟩ fun r => ∀ c : Dev nD,
      r.2.mem ((c : Thread nD τ).loc main_v2_0) = normArr (argX m c) (argG m c)
      ∧ r.2.mem ((c : Thread nD τ).loc main_v2_1) = outArr (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final_norm m c), ((h.1 c).1 4).trans (final_out m c), h.2.1 c⟩)
    (θ_run_and ((θ_run defs _ _).mono (fun _ h => h.1) (run m g)) (frame m g))

/-! ## The reference's -/

section Ref

variable (X : FVec Ideal S4096x1024 .f32) (G : FVec Ideal S1024 .f32) (W : FVec Ideal S1024x5632 .f32)

theorem v13_at (i : Fin 4096) (k : Fin 1024) : (val_main_v13 (F := Ideal) X G (ix2 i k) : EReal) = normArr X G (ix2 i k) := by
  unfold normArr Cert.Entries.norm val_main_v13 val_main_v12 val_main_v11 val_main_v10
    val_main_v9 val_main_v8 val_main_v7 val_main_v6 val_main_v5 val_main_v4 val_main_v3 val_main_v2 val_main_v1 val_main_v0
    val_main_cst val_main_cst_0 val_main_cst_1
  pointwise

theorem v12_at (i : Fin 4096) (k : Fin 1024) : (val_main_v12 (F := Ideal) X G (ix2 i k) : EReal) = normArr X G (ix2 i k) := v13_at X G i k

/-- The two arrays. -/
theorem arrays_eq : normArr X G = val_main_v13 (F := Ideal) X G ∧ outArr X G W = val_main_v15 (F := Ideal) X G W := by
  refine ⟨funext fun y => ?_, funext fun y => ?_⟩
  · exact (congrArg (normArr X G) (Cert.Entries.ix_eta 4096 1024 y)).trans
      ((v13_at X G (y 0) (y 1)).symm.trans (congrArg (val_main_v13 (F := Ideal) X G) (Cert.Entries.ix_eta 4096 1024 y).symm))
  · have h : (val_main_v15 (F := Ideal) X G W (ix2 (y 0) (y 1)) : EReal)
        = ∑ n : Fin 1024, val_main_v12 (F := Ideal) X G (ix2 (y 0) n) * W (ix2 n (y 1)) := by
      unfold val_main_v15 val_main_v14
      generalize val_main_v12 (F := Ideal) X G = z
      pointwise
    refine Eq.trans ?_ (h.symm.trans (congrArg (val_main_v15 (F := Ideal) X G W) (Cert.Entries.ix_eta 4096 5632 y).symm))
    exact Finset.sum_congr rfl fun n _ => congrArg (fun z : EReal => z * W (ix2 n (y 1))) (v12_at X G (y 0) n).symm

end Ref

end Cert.Kernel14Ideal.UpFwd

end
-- ==== Proof.MixInFrame.lean ====
/- The mixers' input projection, forward: its run over the grid, and that it leaves its arguments as launched. -/
module

public import proofs.«01_k».proof.Proof.NormProduct
public import proofs.«01_k».proof.Proof.Gen.Kernel15Ideal.Skeleton
public import proofs.«01_k».proof.Proof.Gen.Kernel15Ideal.Frame
public import Idealize.ShloMosaic.Lib.Pipeline.TableIdle
public import Idealize.ShloMosaic.Lib.Claim

@[expose] public section

set_option maxRecDepth 16384

noncomputable section

namespace Cert.Kernel15Ideal.MixIn

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The shapes of a point's buffers. -/
abbrev sizes : Cert.NormProduct.Sizes where
  x := S1024x1024
  g := S1x1024
  w := S1024x1152
  o := S1024x1152
  xo := ![0, 0]
  go := ![0, 0]
  wo := ![0, 0]
  oo := ![0, 0]
  xin := inb_S1024x1024_S1024x1024_0_0
  gin := inb_S1x1024_S1x1024_0_0
  win := inb_S1024x1152_S1024x1152_0_0
  oin := inb_S1024x1152_S1024x1152_0_0

/-! ## The grid: four row tiles of two points -/

/-- The first of the two points of `t`'s row tile. -/
def start (t : Fin cfg0.N) : Fin cfg0.N := ⟨2 * (t.val / 2), Nat.lt_of_le_of_lt (by omega) t.isLt⟩

theorem start_of_first (t : Fin cfg0.N) (h : t.val % 2 = 0) : start t = t :=
  Fin.ext (by show 2 * (t.val / 2) = t.val; omega)

/-- A row tile's second point has the same first point as the one before it. -/
theorem start_of_next (t : Fin cfg0.N) (h : ¬ t.val % 2 = 0) (n : ℕ) (hn : n < cfg0.N) (e : n = t.val - 1) : start t = start ⟨n, hn⟩ :=
  Fin.ext (by show 2 * (t.val / 2) = 2 * (n / 2); omega)

theorem cond_iff : ∀ t : Fin cfg0.N, k0_cond1 (grid0.coords t) = 1#1 ↔ t.val % 2 = 0 := by decide +kernel

theorem idle_next : ∀ t : Fin cfg0.N, ¬ t.val % 2 = 0 → cfg0.idle 3 (grid0.coords t) = true := by decide +kernel

theorem live_first : ∀ t : Fin cfg0.N, t.val % 2 = 0 → cfg0.idle 3 (grid0.coords t) = false := by decide +kernel

theorem stored_before_next : ∀ t : Fin cfg0.N, ¬ t.val % 2 = 0 → cfg0.fresh 3 t.val = false := by decide +kernel

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live4 : ∀ t : Fin cfg0.N, cfg0.idle 4 (grid0.coords t) = false := by decide +kernel

/-! ## What the buffers hold after a point -/

/-- The normalised row tile, as the tile's first point computes it. -/
def normAt (c : Dev nD) (t : Fin cfg0.N) : Vec F S1024x1024 .bf16 :=
  k0_pay1 (iblk m c 0 (start t)) (iblk m c 1 (start t))

theorem normAt_first (c : Dev nD) (t : Fin cfg0.N) (h : t.val % 2 = 0) : normAt m c t = k0_pay1 (iblk m c 0 t) (iblk m c 1 t) := by
  unfold normAt; rw [start_of_first t h]

theorem normAt_next (c : Dev nD) (t : Fin cfg0.N) (h : ¬ t.val % 2 = 0) (n : ℕ) (hn : n < cfg0.N) (e : n = t.val - 1) :
    normAt m c t = normAt m c ⟨n, hn⟩ := by
  unfold normAt; rw [start_of_next t h n hn e]

/-- The scratch buffer, whole. -/
abbrev kept : Memref sig .tc .vmem S1024x1024 .bf16 := Memref.whole cc0_scratch0

/-- Before the first point the scratch buffer holds anything, after a point the row tile that point works on, normalised. -/
def keeps (c : Dev nD) : (n : ℕ) → n ≤ cfg0.N → sProp (MT nD τ sig Unit (Elt F) ℕ (UR sig nD τ) ℕ)
  | 0, _ => Pipeline.ΦA spec0 c
  | n + 1, hn => iprop(owns (c : Thread nD τ) kept fullShare (normAt m c ⟨n, hn⟩) ∗ (∃ r, prngReg c r))

theorem keeps_zero (c : Dev nD) (n : ℕ) (h : n ≤ cfg0.N) (hz : n = 0) : keeps m c n h = Pipeline.ΦA spec0 c := by
  subst hz; rfl

theorem keeps_pos (c : Dev nD) (n : ℕ) (h : n ≤ cfg0.N) (hz : n ≠ 0) :
    keeps m c n h = iprop(owns (c : Thread nD τ) kept fullShare (normAt m c ⟨n - 1, by omega⟩) ∗ (∃ r, prngReg c r)) := by
  cases n with
  | zero => exact absurd rfl hz
  | succ n => rfl

theorem anything_eq (c : Dev nD) :
    (Pipeline.ΦA spec0 c : sProp (MT nD τ sig Unit (Elt F) ℕ (UR sig nD τ) ℕ))
      = iprop((∃ d, owns (c : Thread nD τ) kept fullShare d) ∗ (∃ r, prngReg c r)) := by
  unfold Pipeline.ΦA; rw [scopedRest0_eq]; simp only [kept, owns_whole]; rfl

/-- The run's data: every input's buffer at its block, the first output's at the normalised row tile, the second's at the
    tile's product with the weight's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normAt m c t
    | ⟨4, _⟩ => k0_pay2 (normAt m c t) (iblk m c 2 t)
  Φ t := keeps m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = normAt m c t := by dsimp only [dats]
theorem after4 (c : Dev nD) (t : Fin cfg0.N) : (dats m 0 c).after 4 t = k0_pay2 (normAt m c t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- A row tile's second point finds in the first output's buffer what the first point stored there: the normalised tile. -/
theorem before3_next (c : Dev nD) (t : Fin cfg0.N) (h : ¬ t.val % 2 = 0) (d) : (dats m 0 c).before 3 t d = normAt m c t := by
  rw [Dat.before_out_traj _ 3 rfl (fun _ _ => rfl) (fun t hz hi _ => ?_) t.val t rfl d, stored_before_next t h,
    if_neg Bool.false_ne_true, after3]
  · exact (normAt_next m c t h _ _ rfl).symm
  · rw [after3, after3]
    refine normAt_next m c t (fun h0 => ?_) _ _ rfl
    rw [live_first t h0] at hi
    exact Bool.false_ne_true hi

theorem keeps_castSucc (c : Dev nD) (t : Fin cfg0.N) : (dats m 0 c).Φ t.castSucc = keeps m c t.val (Nat.le_of_lt t.isLt) := by
  dsimp only [dats]; exact Pipeline.Dat.Φ_castSucc (keeps m c) t

/-! ## One point -/

theorem leaves0 (c : Dev nD) (t : Fin cfg0.N) : (dats m 0 c).leavesExact 0 t = owns (c : Thread nD τ) (st0_0 t) fullShare (iblk m c 0 t) := by
  unfold Dat.leavesExact; rw [live0 t, after0]
theorem leaves1 (c : Dev nD) (t : Fin cfg0.N) : (dats m 0 c).leavesExact 1 t = owns (c : Thread nD τ) (st0_1 t) fullShare (iblk m c 1 t) := by
  unfold Dat.leavesExact; rw [live1 t, after1]
theorem leaves2 (c : Dev nD) (t : Fin cfg0.N) : (dats m 0 c).leavesExact 2 t = owns (c : Thread nD τ) (st0_2 t) fullShare (iblk m c 2 t) := by
  unfold Dat.leavesExact; rw [live2 t, after2]
/-- The first output, written back or not, ends at the normalised row tile. -/
theorem leaves3 (c : Dev nD) (t : Fin cfg0.N) : (dats m 0 c).leavesExact 3 t = owns (c : Thread nD τ) (st0_3 t) fullShare (normAt m c t) := by
  by_cases h : t.val % 2 = 0
  · unfold Dat.leavesExact; rw [live_first t h, after3]
  · unfold Dat.leavesExact; rw [idle_next t h, (flush0_3 t).mpr (by omega), after3]
theorem leaves4 (c : Dev nD) (t : Fin cfg0.N) :
    (dats m 0 c).leavesExact 4 t = owns (c : Thread nD τ) (st0_4 t) fullShare (k0_pay2 (normAt m c t) (iblk m c 2 t)) := by
  unfold Dat.leavesExact; rw [live4 t, after4]

/-- One point, from what the pipeline hands it to what it hands back. -/
theorem one_point (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t)) := by
  unfold bodyAt0
  rw [cc0_mix_in_fwd_eq_skeleton]
  simp only [before0, before1, before2, leaves0, leaves1, leaves2, leaves3, leaves4]
  rw [show (dats m 0 c).owesAt () t.succ = (dats m 0 c).owesAt () t.castSucc from rfl]
  rw [show (dats m 0 c).Φ t.succ = iprop(owns (c : Thread nD τ) kept fullShare (normAt m c t) ∗ (∃ r, prngReg c r)) from rfl,
    keeps_castSucc]
  by_cases h : t.val % 2 = 0
  · rw [normAt_first m c t h]
    have hk : keeps m c t.val (Nat.le_of_lt t.isLt) ⊢ iprop((∃ d, owns (c : Thread nD τ) kept fullShare d) ∗ (∃ r, prngReg c r)) := by
      by_cases hz : t.val = 0
      · rw [keeps_zero m c _ _ hz, anything_eq]
      · rw [keeps_pos m c _ _ hz]
        iintro ⟨HS, Hg⟩
        isplitl [HS]; · iexists _; iexact HS
        iexact Hg
    refine (sep_mono hk .rfl).trans ?_
    exact Cert.NormProduct.first (S := sizes) (norm := k0_pay1) (prod := k0_pay2) defs₀ c
      (hstage0_0 ((cfg0.slots t 0).cast nbuf0_0)) (hstage0_1 ((cfg0.slots t 1).cast nbuf0_1)) (hstage0_2 ((cfg0.slots t 2).cast nbuf0_2))
      Set.univ ((cond_iff t).mpr h) (iblk m c 0 t) (iblk m c 1 t) (iblk m c 2 t) ((dats m 0 c).before 3 t) ((dats m 0 c).before 4 t) _ _
  · rw [keeps_pos m c _ _ (fun hz => h (by rw [hz])), ← normAt_next m c t h _ _ rfl]
    simp only [before3_next m c t h]
    exact Cert.NormProduct.next (S := sizes) (norm := k0_pay1) (prod := k0_pay2) defs₀ c
      (hstage0_2 ((cfg0.slots t 2).cast nbuf0_2)) (Memref.isWhole_whole _) Set.univ (fun hc => h ((cond_iff t).mp hc))
      (iblk m c 0 t) (iblk m c 1 t) (iblk m c 2 t) (normAt m c t) ((dats m 0 c).before 4 t) _ _

/-! ## The run -/

theorem every_point (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (one_point m c t) rfl .rfl fun _ => .rfl

theorem enters (c : Dev nD) : Pipeline.ΦA spec0 c ⊢ (dats m 0 c).Φ 0 := by
  rw [show (dats m 0 c).Φ 0 = Pipeline.ΦA spec0 c from rfl]

theorem leaves (c : Dev nD) : (dats m 0 c).Φ (Fin.last cfg0.N) ⊢ Pipeline.ΦA spec0 c := by
  rw [show (dats m 0 c).Φ (Fin.last cfg0.N) = keeps m c cfg0.N (Nat.le_refl _) from rfl,
    keeps_pos m c _ _ (by rw [show cfg0.N = 8 from N_0]; omega), anything_eq]
  iintro ⟨HS, Hg⟩
  isplitl [HS]
  · iexists _; iexact HS
  iexact Hg

set_option backward.isDefEq.respectTransparency.types false in
/-- Every run of the program ends with the windows' arrays at what the points left, the other arrays as the call found
    them, and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (every_point m c).loose) (hshare := fun c => (dats m 0 c).share_full fun _ => rfl)
    (howed := fun _ _ => rfl) (V := V m) (hmain := hmain m Variants.none) (hA := A_eq m) (hin := enters m) (hout := leaves m)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Kernel15Ideal.MixIn

end
-- ==== Proof.MixInBits.lean ====
/- The mixers' input projection, forward, at the machine's numbers: the program read at the extended reals is the same
   program, so its frame, proved for any numbers, is this one's. -/
module

public import proofs.«01_k».proof.Proof.MixInFrame
public import proofs.«01_k».proof.Proof.Gen.Kernel15.Frame

@[expose] public section

set_option maxRecDepth 16384

noncomputable section

namespace Cert.Kernel15.MixIn

open Cert.Kernel15 Cert.Kernel15.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine cast ?_ (Cert.Kernel15Ideal.MixIn.frame (F := F) m ρ)
  sl_kernel_rfl

end Cert.Kernel15.MixIn

end
-- ==== Proof.MixInArrays.lean ====
/- The mixers' input projection, forward: the two arrays it leaves, and that they are the reference's. -/
module

public import proofs.«01_k».proof.Proof.MixInFrame
public import proofs.«01_k».proof.Proof.UpFwdArrays
public import proofs.«01_k».proof.Proof.Entries
public import proofs.«01_k».proof.Proof.Gen.Reference15Ideal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel15Ideal.MixIn

open Cert.Kernel15Ideal Cert.Kernel15Ideal.Gen Cert.Reference15Ideal.Read

/-- The blocks of point `t`: row tile `t / 2`, column tile `t % 2`. -/
theorem idx : ∀ t : Fin cfg0.N, win0_0.index t = ![t.val / 2, 0] ∧ win0_1.index t = ![0, 0] ∧ win0_2.index t = ![0, t.val % 2]
    ∧ win0_3.index t = ![t.val / 2, 0] ∧ win0_4.index t = ![t.val / 2, t.val % 2] :=
  (by decide +kernel : ∀ t : Fin grid0.N, _)

section Reads

variable (c : Dev nD) (W : (b : Ref sig .tc) → Buf (Elt Ideal) ((c : Thread nD τ).loc b)) (t : Fin cfg0.N)

/-- Window 0's block is the input's rows there. -/
theorem read0 (r k : Fin 1024) (i : Fin 4096) (hi : i.val = t.val / 2 * 1024 + r.val) :
    (show FVec Ideal S1024x1024 .f32 from ((cfg0.win 0).blk t).view.read (Elt Ideal) (W (Pipeline.arrRef spec0 0))) (ix2 r k)
      = (show FVec Ideal S4096x1024 .f32 from W main_arg0) (ix2 i k) := by
  blk_ext [idx t]

/-- Window 1's block is the gain. -/
theorem read1 (k : Fin 1024) :
    (show FVec Ideal S1x1024 .f32 from ((cfg0.win 1).blk t).view.read (Elt Ideal) (W (Pipeline.arrRef spec0 1))) (ix2 0 k)
      = (show FVec Ideal S1x1024 .f32 from W main_v0) (ix2 0 k) := by
  blk_ext [idx t]

/-- Window 2's block is the weight's columns there. -/
theorem read2 (n : Fin 1024) (k : Fin 1152) (j : Fin 2304) (hj : j.val = t.val % 2 * 1152 + k.val) :
    (show FVec Ideal S1024x1152 .bf16 from ((cfg0.win 2).blk t).view.read (Elt Ideal) (W (Pipeline.arrRef spec0 2))) (ix2 n k)
      = (show FVec Ideal S1024x2304 .bf16 from W main_v1) (ix2 n j) := by
  blk_ext [idx t]

end Reads

/-! ## The arrays: the normalised one is the up projection's -/

open Cert.Kernel14Ideal.UpFwd (normArr)

/-- The product with the weight. -/
def outArr (X : FVec Ideal S4096x1024 .f32) (G : FVec Ideal S1024 .f32) (W : FVec Ideal S1024x2304 .f32) : S4096x2304.Idx → EReal :=
  fun y => ∑ n : Fin 1024, normArr X G (ix2 (y 0) n) * W (ix2 n (y 1))

/-- The normalised tile, entry by entry: the two calls compute it by the same term. -/
theorem pay1_at (X : FVec Ideal S1024x1024 .f32) (g : FVec Ideal S1x1024 .f32) (r k : Fin 1024) :
    (k0_pay1 (F := Ideal) X g (ix2 r k) : EReal) = Cert.Entries.norm (fun l => X (ix2 r l)) (fun l => g (ix2 0 l)) k :=
  Cert.Kernel14Ideal.UpFwd.pay1_at X g r k

/-- The tile's product with the weight's block, entry by entry. -/
theorem pay2_at (h : FVec Ideal S1024x1024 .bf16) (w : FVec Ideal S1024x1152 .bf16) (r : Fin 1024) (k : Fin 1152) :
    (k0_pay2 (F := Ideal) h w (ix2 r k) : EReal) = ∑ n : Fin 1024, h (ix2 r n) * w (ix2 n k) := by
  pointwise [k0_pay2]

variable (m : (ℓ : Loc nD τ sig) → Buf (Elt Ideal) ℓ) (g : Dev nD → PrngReg) (c : Dev nD)

abbrev argX : FVec Ideal S4096x1024 .f32 := m ((c : Thread nD τ).loc main_arg0)
abbrev argG : FVec Ideal S1024 .f32 := m ((c : Thread nD τ).loc main_arg1)
abbrev argW : FVec Ideal S1024x2304 .f32 := m ((c : Thread nD τ).loc main_arg2)

theorem arrX_eq : V m c main_arg0 = argX m c := by entry_read; rfl
theorem arrG_at (k : Fin 1024) : (show FVec Ideal S1x1024 .f32 from V m c main_v0) (ix2 0 k) = argG m c (ix1 k) := by
  entry_read
  pointwise
theorem arrW_at (n : Fin 1024) (k : Fin 2304) : ((show FVec Ideal S1024x2304 .bf16 from V m c main_v1) (ix2 n k) : EReal) = argW m c (ix2 n k) := by
  entry_read
  pointwise

/-- A point's normalised tile is the array's rows there. -/
theorem norm_at (t : Fin cfg0.N) (r : Fin 1024) (i : Fin 4096) (hi : i.val = t.val / 2 * 1024 + r.val) (k : Fin 1024) :
    (normAt m c t (ix2 r k) : EReal) = normArr (argX m c) (argG m c) (ix2 i k) := by
  have hs : i.val = (start t).val / 2 * 1024 + r.val := by
    show i.val = 2 * (t.val / 2) / 2 * 1024 + r.val
    omega
  unfold normAt normArr
  refine (pay1_at _ _ r k).trans (congrArg₂ (fun x y => Cert.Entries.norm x y k) (funext fun l => ?_) (funext fun l => ?_))
  · exact (read0 c (V m c) (start t) r l i hs).trans (congrFun (arrX_eq m c) _)
  · exact (read1 c (V m c) (start t) l).trans (arrG_at m c l)

theorem out_at (t : Fin cfg0.N) (r : Fin 1024) (k : Fin 1152) (i : Fin 4096) (j : Fin 2304) (hi : i.val = t.val / 2 * 1024 + r.val)
    (hj : j.val = t.val % 2 * 1152 + k.val) :
    (k0_pay2 (normAt m c t) (iblk m c 2 t) (ix2 r k) : EReal) = outArr (argX m c) (argG m c) (argW m c) (ix2 i j) :=
  (pay2_at _ _ r k).trans (Finset.sum_congr rfl fun n _ => congrArg₂ (fun x y : EReal => x * y) (norm_at m c t r i hi n)
    ((read2 c (V m c) t n k j hj).trans (arrW_at m c n j)))

/-- The same, with the array's column named. -/
theorem norm_place (t : Fin cfg0.N) (r k : Fin 1024) (i : Fin 4096) (j : Fin 1024) (hi : i.val = t.val / 2 * 1024 + r.val) (hj : j.val = k.val) :
    (normAt m c t (ix2 r k) : EReal) = normArr (argX m c) (argG m c) (ix2 i j) := by
  obtain rfl : j = k := Fin.ext hj
  exact norm_at m c t r i hi j

theorem final_norm : (dats m 0 c).arrAt 3 (cfgs 0).N = normArr (argX m c) (argG m c) := by
  refine (dats m 0 c).arrAt_eq_of_covers 3 _ (by decide +kernel) fun t hf y => ?_
  blk_simp
  rw [after3]
  refine Eq.trans (congrArg _ (Cert.Entries.ix_eta 1024 1024 y)) ((norm_place m c t (y 0) (y 1) _ _ ?_ ?_).trans
    (congrArg (normArr _ _) (Cert.Entries.ix_eta 4096 1024 _).symm))
  all_goals (blk_simp [idx t] <;> (try simp only []) <;> (try omega))

theorem final_out : (dats m 0 c).arrAt 4 (cfgs 0).N = outArr (argX m c) (argG m c) (argW m c) := by
  refine (dats m 0 c).arrAt_eq_of_covers 4 _ (by decide +kernel) fun t hf y => ?_
  blk_simp
  rw [after4]
  refine Eq.trans (congrArg _ (Cert.Entries.ix_eta 1024 1152 y)) ((out_at m c t (y 0) (y 1) _ _ ?_ ?_).trans
    (congrArg (outArr _ _ _) (Cert.Entries.ix_eta 4096 2304 _).symm))
  all_goals (blk_simp [idx t] <;> (try simp only []) <;> (try omega))

/-- Every run ends with the two arrays, the arguments as launched. -/
theorem run_arrays : θ_run defs (onTc (τ := τ) (main (F := Ideal))) ⟨m, fun _ => 0, g⟩ fun r => ∀ c : Dev nD,
      r.2.mem ((c : Thread nD τ).loc main_v2_0) = normArr (argX m c) (argG m c)
      ∧ r.2.mem ((c : Thread nD τ).loc main_v2_1) = outArr (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final_norm m c), ((h.1 c).1 4).trans (final_out m c), h.2.1 c⟩)
    (θ_run_and ((θ_run defs _ _).mono (fun _ h => h.1) (run m g)) (frame m g))

/-! ## The reference's -/

section Ref

variable (X : FVec Ideal S4096x1024 .f32) (G : FVec Ideal S1024 .f32) (W : FVec Ideal S1024x2304 .f32)

theorem v13_at (i : Fin 4096) (k : Fin 1024) : (val_main_v13 (F := Ideal) X G (ix2 i k) : EReal) = normArr X G (ix2 i k) :=
  Cert.Kernel14Ideal.UpFwd.v13_at X G i k

theorem v12_at (i : Fin 4096) (k : Fin 1024) : (val_main_v12 (F := Ideal) X G (ix2 i k) : EReal) = normArr X G (ix2 i k) := v13_at X G i k

/-- The two arrays. -/
theorem arrays_eq : normArr X G = val_main_v13 (F := Ideal) X G ∧ outArr X G W = val_main_v15 (F := Ideal) X G W := by
  refine ⟨funext fun y => ?_, funext fun y => ?_⟩
  · exact (congrArg (normArr X G) (Cert.Entries.ix_eta 4096 1024 y)).trans
      ((v13_at X G (y 0) (y 1)).symm.trans (congrArg (val_main_v13 (F := Ideal) X G) (Cert.Entries.ix_eta 4096 1024 y).symm))
  · have h : (val_main_v15 (F := Ideal) X G W (ix2 (y 0) (y 1)) : EReal)
        = ∑ n : Fin 1024, val_main_v12 (F := Ideal) X G (ix2 (y 0) n) * W (ix2 n (y 1)) := by
      unfold val_main_v15 val_main_v14
      generalize val_main_v12 (F := Ideal) X G = z
      pointwise
    refine Eq.trans ?_ (h.symm.trans (congrArg (val_main_v15 (F := Ideal) X G W) (Cert.Entries.ix_eta 4096 2304 y).symm))
    exact Finset.sum_congr rfl fun n _ => congrArg (fun z : EReal => z * W (ix2 n (y 1))) (v12_at X G (y 0) n).symm

end Ref

end Cert.Kernel15Ideal.MixIn

end
-- ==== Proof.SoftRow.lean ====
/- A row of the attention's scores: its maximum, exponentials, sum and log-sum, and that the weighted sum may be divided before
   or after it is taken. -/
module

public import proofs.«01_k».proof.Proof.Model

@[expose] public section

noncomputable section

namespace Cert.SoftRow

open Idealize.ShloMosaic Cert.DenseModel

variable (s v : Fin 2048 → EReal)

/-- The row's maximum, from −∞. -/
def top : EReal := Finset.univ.fold max (Ideal.ofBits .f32 0xFF800000#32) s

/-- The exponential of a score less the maximum. -/
def ex (j : Fin 2048) : EReal := Ideal.exp (s j - top s)

/-- The row's sum. -/
def den : EReal := ∑ j : Fin 2048, ex s j

/-- The sum of the values with these exponentials, divided by the row's sum. -/
def out : EReal := Ideal.div (∑ j : Fin 2048, ex s j * v j) (den s)

/-- The row's log-sum. -/
def lse : EReal := top s + Ideal.log (den s)

/-- A sum times a real number that is not negative, in the extended reals. -/
theorem sum_mul {ι : Type*} (t : Finset ι) (f : ι → EReal) (c : ℝ) (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- The sum of a row of real scores is a positive real number. -/
theorem den_real (S : Fin 2048 → ℝ) (h : ∀ j, s j = S j) : ∃ D : ℝ, 0 < D ∧ den s = D := by
  obtain ⟨M, hM⟩ := fold_max_real Finset.univ ⟨0, Finset.mem_univ _⟩ S
  refine ⟨∑ j, Real.exp (S j - M), sum_exp_pos (n := 2047) fun j => S j - M, ?_⟩
  have ht : top s = M := by
    unfold top
    rw [neg_inf, ← hM]
    simp only [h]
  unfold den ex
  simp only [ht, h, ← EReal.coe_sub, exp_coe, coe_sum]

/-- Dividing the weighted sum by the row's sum divides each weight by it. -/
theorem out_eq (S : Fin 2048 → ℝ) (h : ∀ j, s j = S j) : out s v = ∑ j : Fin 2048, v j * Ideal.div (ex s j) (den s) := by
  obtain ⟨D, hD, e⟩ := den_real s S h
  have hd : ∀ x : EReal, Ideal.div x (D : EReal) = x * ((D⁻¹ : ℝ) : EReal) := by
    intro x
    unfold Ideal.div
    rw [if_neg (by exact_mod_cast hD.ne'), ← EReal.coe_inv]
  unfold out
  rw [e]
  simp only [hd]
  rw [sum_mul _ _ _ (inv_nonneg.mpr hD.le)]
  exact Finset.sum_congr rfl fun j _ => by rw [mul_comm (ex s j) (v j), mul_assoc]

end Cert.SoftRow

end

end
-- ==== Proof.AttnPoint.lean ====
/- The dense attention, forward: what each grid point leaves in its two outputs, over the point's blocks. -/
module

public import proofs.«01_k».proof.Proof.Gen.Kernel16Ideal.Frame
public import proofs.«01_k».proof.Proof.SoftRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Attn

open Cert.Kernel16Ideal Cert.Kernel16Ideal.Gen

variable (x0 : FVec Ideal S1x256x256 .bf16) (x1 x2 : FVec Ideal S1x2048x128 .bf16)

/-- The score of key `j` for query row `r`, head `h`: `x0` is the tile of scaled queries, `x1` the example's keys. -/
def score (h : Fin 4) (r : Fin 256) (j : Fin 2048) : EReal :=
  ∑ d : Fin 64, x0 (ix3 0 r ⟨64 * h.val + d.val, by omega⟩) * x1 (ix3 0 j ⟨64 * (h.val / 2) + d.val, by omega⟩)

/-- Component `d` of the values that head `h` reads. -/
def val (h : Fin 4) (d : Fin 64) (j : Fin 2048) : EReal := x2 (ix3 0 j ⟨64 * (h.val / 2) + d.val, by omega⟩)

/-- The output of head `h`, component `d`, in row `r`. -/
theorem out_at (y : S1x256x256.Idx) (hh : Fin 4) (d : Fin 64) (hl : (y 2 : ℕ) = 64 * hh.val + d.val) :
    (out0_3 (F := Ideal) x0 x1 x2 y : EReal) = Cert.SoftRow.out (score x0 x1 hh (y 1)) (val x2 hh d) := by
  frame_out
  canon_tiles x h
  all_goals
    open_payloads; pointwise [Cert.SoftRow.out, Cert.SoftRow.den, Cert.SoftRow.ex, Cert.SoftRow.top, score, val]
    blk_point []

/-- The log-sum of head `h`, the same on each of its lanes, in row `r`. -/
theorem lse_at (y : S1x256x256.Idx) (hh : Fin 4) (d : Fin 64) (hl : (y 2 : ℕ) = 64 * hh.val + d.val) :
    (out0_4 (F := Ideal) x0 x1 x2 y : EReal) = Cert.SoftRow.lse (score x0 x1 hh (y 1)) := by
  frame_out
  canon_tiles x h
  all_goals
    open_payloads; pointwise [Cert.SoftRow.lse, Cert.SoftRow.den, Cert.SoftRow.ex, Cert.SoftRow.top, score]
    blk_point []

end Cert.Kernel16Ideal.Attn

end

end
-- ==== Proof.AttnArrays.lean ====
/- The dense attention, forward: the two arrays that the kernel leaves, over the packed array it reads. -/
module

public import proofs.«01_k».proof.Proof.AttnPoint
public import proofs.«01_k».proof.Proof.Host
public import proofs.«01_k».proof.Proof.Gen.Kernel16Ideal.Value
public import Idealize.ShloMosaic.Lib.Pipeline.ReadBack
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel16Ideal.Attn

open Cert.Kernel16Ideal Cert.Kernel16Ideal.Gen

/-- The blocks of point `t`: example `t / 8`, query tile `t % 8`; all the keys and values of the example. -/
theorem idx : ∀ t : Fin cfg0.N, win0_0.index t = ![t.val / 8, t.val % 8, 0] ∧ win0_1.index t = ![t.val / 8, 0, 2]
    ∧ win0_2.index t = ![t.val / 8, 0, 3] ∧ win0_3.index t = ![t.val / 8, t.val % 8, 0]
    ∧ win0_4.index t = ![t.val / 8, t.val % 8, 0] ∧ t.val / 8 < 2 :=
  (by decide +kernel : ∀ t : Fin grid0.N, _)

section Reads

variable (c : Dev nD) (W : (b : Ref sig .tc) → Buf (Elt Ideal) ((c : Thread nD τ).loc b)) (t : Fin cfg0.N)

/-- Window 0's block is the scaled queries of the point's tile. -/
theorem read0 (r : Fin 256) (l : Fin 256) (b : Fin 2) (i : Fin 2048) (l' : Fin 512)
    (hb : b.val = t.val / 8) (hi : i.val = t.val % 8 * 256 + r.val) (hl : l'.val = l.val) :
    (show FVec Ideal S1x256x256 .bf16 from ((cfg0.win 0).blk t).view.read (Elt Ideal) (W (Pipeline.arrRef spec0 0))) (ix3 0 r l)
      = (show FVec Ideal S2x2048x512 .bf16 from W main_v8) (ix3 b i l') := by
  blk_ext [idx t]

/-- Window 1's block is the example's keys. -/
theorem read1 (r : Fin 2048) (l : Fin 128) (b : Fin 2) (l' : Fin 512) (hb : b.val = t.val / 8) (hl : l'.val = 256 + l.val) :
    (show FVec Ideal S1x2048x128 .bf16 from ((cfg0.win 1).blk t).view.read (Elt Ideal) (W (Pipeline.arrRef spec0 1))) (ix3 0 r l)
      = (show FVec Ideal S2x2048x512 .bf16 from W main_v8) (ix3 b r l') := by
  blk_ext [idx t]

/-- Window 2's block is the example's values. -/
theorem read2 (r : Fin 2048) (l : Fin 128) (b : Fin 2) (l' : Fin 512) (hb : b.val = t.val / 8) (hl : l'.val = 384 + l.val) :
    (show FVec Ideal S1x2048x128 .bf16 from ((cfg0.win 2).blk t).view.read (Elt Ideal) (W (Pipeline.arrRef spec0 2))) (ix3 0 r l)
      = (show FVec Ideal S2x2048x512 .bf16 from W main_v8) (ix3 b r l') := by
  blk_ext [idx t]

end Reads

/-! ## The arrays -/

section Arrays

variable (A : FVec Ideal S2x2048x512 .bf16)

/-- The score of key `j` for query `i`, head `h`. -/
def scoreArr (b : Fin 2) (h : Fin 4) (i j : Fin 2048) : EReal :=
  ∑ d : Fin 64, A (ix3 b i ⟨64 * h.val + d.val, by omega⟩) * A (ix3 b j ⟨256 + 64 * (h.val / 2) + d.val, by omega⟩)

/-- Component `d` of the values that head `h` reads. -/
def valArr (b : Fin 2) (h : Fin 4) (d : Fin 64) (j : Fin 2048) : EReal := A (ix3 b j ⟨384 + 64 * (h.val / 2) + d.val, by omega⟩)

/-- The head and the component of a lane. -/
def headOf (l : Fin 256) : Fin 4 := ⟨l.val / 64, by omega⟩
def compOf (l : Fin 256) : Fin 64 := ⟨l.val % 64, by omega⟩

/-- The attention's output. -/
def outArr : S2x2048x256.Idx → EReal := fun z =>
  Cert.SoftRow.out (scoreArr A (z 0) (headOf (z 2)) (z 1)) (valArr A (z 0) (headOf (z 2)) (compOf (z 2)))

/-- The log-sum of the scores. -/
def lseArr : S2x2048x256.Idx → EReal := fun z => Cert.SoftRow.lse (scoreArr A (z 0) (headOf (z 2)) (z 1))

end Arrays

variable (m : (ℓ : Loc nD τ sig) → Buf (Elt Ideal) ℓ) (g : Dev nD → PrngReg) (c : Dev nD)

/-- The packed queries, keys and values as the kernel finds them. -/
def arrA : FVec Ideal S2x2048x512 .bf16 := V m c main_v8

section Point

variable (t : Fin cfg0.N) (b : Fin 2) (hb : b.val = t.val / 8)
include hb

/-- A tile's scores are the scores of its queries. -/
theorem score_eq (h : Fin 4) (r : Fin 256) (i : Fin 2048) (hi : i.val = t.val % 8 * 256 + r.val) :
    score (iblk m c 0 t) (iblk m c 1 t) h r = scoreArr (arrA m c) b h i := by
  funext j
  unfold score scoreArr
  exact Finset.sum_congr rfl fun d _ => congrArg₂ (fun x y : EReal => x * y) (read0 c (V m c) t r _ b i _ hb hi rfl)
    (read1 c (V m c) t j _ b _ hb (by simp only []; omega))

/-- A tile's values are the example's. -/
theorem val_eq (h : Fin 4) (d : Fin 64) : val (iblk m c 2 t) h d = valArr (arrA m c) b h d := by
  funext j
  exact read2 c (V m c) t j _ b _ hb (by simp only []; omega)

/-- The output of a tile, at the array's index. -/
theorem out_place (y : S1x256x256.Idx) (z : S2x2048x256.Idx) (h0 : z 0 = b) (h1 : (z 1 : ℕ) = t.val % 8 * 256 + (y 1 : ℕ))
    (h2 : (z 2 : ℕ) = (y 2 : ℕ)) :
    (out0_3 (F := Ideal) (iblk m c 0 t) (iblk m c 1 t) (iblk m c 2 t) y : EReal) = outArr (arrA m c) z := by
  refine (out_at _ _ _ y (headOf (z 2)) (compOf (z 2)) (by rw [← h2]; exact (Nat.div_add_mod _ _).symm)).trans ?_
  unfold outArr
  rw [h0, score_eq m c t b hb _ (y 1) (z 1) h1, val_eq m c t b hb]

/-- The log-sum of a tile, at the array's index. -/
theorem lse_place (y : S1x256x256.Idx) (z : S2x2048x256.Idx) (h0 : z 0 = b) (h1 : (z 1 : ℕ) = t.val % 8 * 256 + (y 1 : ℕ))
    (h2 : (z 2 : ℕ) = (y 2 : ℕ)) :
    (out0_4 (F := Ideal) (iblk m c 0 t) (iblk m c 1 t) (iblk m c 2 t) y : EReal) = lseArr (arrA m c) z := by
  refine (lse_at _ _ _ y (headOf (z 2)) (compOf (z 2)) (by rw [← h2]; exact (Nat.div_add_mod _ _).symm)).trans ?_
  unfold lseArr
  rw [h0, score_eq m c t b hb _ (y 1) (z 1) h1]

end Point

theorem final_out : (dats m 0 c).arrAt 3 (cfgs 0).N = outArr (arrA m c) := by
  refine (dats m 0 c).arrAt_eq_of_covers 3 _ (by decide +kernel) fun t _ y => ?_
  blk_simp
  rw [after0_3]
  have hy0 : (y 0 : ℕ) < 1 := (y 0).isLt
  refine out_place m c t ⟨t.val / 8, (idx t).2.2.2.2.2⟩ rfl y _ (Fin.ext ?_) ?_ ?_
  all_goals (blk_simp [idx t] <;> (try simp only []) <;> (try omega))

theorem final_lse : (dats m 0 c).arrAt 4 (cfgs 0).N = lseArr (arrA m c) := by
  refine (dats m 0 c).arrAt_eq_of_covers 4 _ (by decide +kernel) fun t _ y => ?_
  blk_simp
  rw [after0_4]
  have hy0 : (y 0 : ℕ) < 1 := (y 0).isLt
  refine lse_place m c t ⟨t.val / 8, (idx t).2.2.2.2.2⟩ rfl y _ (Fin.ext ?_) ?_ ?_
  all_goals (blk_simp [idx t] <;> (try simp only []) <;> (try omega))

/-- Every run ends with the two arrays, the arguments as launched. -/
theorem run_arrays : θ_run defs (onTc (τ := τ) (main (F := Ideal))) ⟨m, fun _ => 0, g⟩ fun r => ∀ c : Dev nD,
      r.2.mem ((c : Thread nD τ).loc main_v9_0) = outArr (arrA m c)
      ∧ r.2.mem ((c : Thread nD τ).loc main_v9_1) = lseArr (arrA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_out m c), (h c).2.1.trans (final_lse m c), (h c).2.2⟩)
    (Cert.Kernel16Ideal.Value.run_blocks m g)

/-! ## The packed array over the arguments: the host packs them as it does for the backward call -/

abbrev argQ : FVec Ideal S2x2048x4x64 .f32 := m ((c : Thread nD τ).loc main_arg0)
abbrev argK : FVec Ideal S2x2048x2x64 .f32 := m ((c : Thread nD τ).loc main_arg1)
abbrev argV : FVec Ideal S2x2048x2x64 .f32 := m ((c : Thread nD τ).loc main_arg2)

theorem arrA_eq : arrA m c = Cert.KernelIdeal.DenseBwd.hA (argQ m c) (argK m c) (argV m c) := by
  unfold arrA V
  after_reads_simp
  rfl

end Cert.Kernel16Ideal.Attn

end

end
-- ==== Proof.AttnRef.lean ====
/- The dense attention, forward: what its precondition says, and its reference, a row of scores at a time. -/
module

public import proofs.«01_k».proof.Proof.AttnArrays
public import proofs.«01_k».proof.Proof.Equation
public import proofs.«01_k».proof.Proof.Gen.Reference16Ideal.Read
public import proofs.«01_k».proof.Pre_finite16
public import Idealize.ShloMosaic.Lib.Pointwise

@[expose] public section

set_option maxRecDepth 16384

noncomputable section

open Idealize.ShloMosaic Idealize.ShloMosaic.TcCoe Idealize.SL.Sem

/-! ## The precondition: every query and key is a real number -/

namespace Cert.Pre_finite16

/-- The side conditions of the predicate's operations. -/
theorem proved : Facts where
  bcast_S_S2x2048x4x64 := by decide
  reducesTo_S2x2048x4x64_S_d0_1_2_3 := by decide
  h_S_ := by decide
  bcast_S_S2x2048x2x64 := by decide
  reducesTo_S2x2048x2x64_S_d0_1_2_3 := by decide

variable [Facts]
open Facts

theorem finite (q : FVec Ideal S2x2048x4x64 .f32) (k v : FVec Ideal S2x2048x2x64 .f32) (h : fn (F := Ideal) q k v = fun _ => 1#1) :
    (∀ i, q i = ((q i).toReal : EReal)) ∧ ∀ i, k i = ((k i).toReal : EReal) := by
  have e : ∀ x y : BitVec 1, IntOp.andi x y = 1#1 → x = 1#1 ∧ y = 1#1 := by decide
  obtain ⟨h1, h2⟩ := e _ _ (congrFun h ValueIdx.ix0)
  exact ⟨fun i => Cert.Pre_finite.real_of_lt _ (Cert.Pre_finite.reduce_and _ _ _ _ _ h1 i),
    fun i => Cert.Pre_finite.real_of_lt _ (Cert.Pre_finite.reduce_and _ _ _ _ _ h2 i)⟩

end Cert.Pre_finite16

namespace Cert.Kernel16Ideal.Attn

open Cert.Kernel16Ideal Cert.Kernel16Ideal.Gen Cert.DenseModel Cert.Reference16Ideal.Read
open Cert.KernelIdeal.DenseBwd (hA hA_q hA_k hA_v ix_q)

variable (q : FVec Ideal S2x2048x4x64 .f32) (k v : FVec Ideal S2x2048x2x64 .f32)

/-! ## The reference: its softmax is a row's, as in the backward call's reference -/

/-- The reference's scores of a row. -/
def refRow (b g r : Fin 2) (i : Fin 2048) : Fin 2048 → EReal := fun j => val_main_v4 (F := Ideal) q k (ix5 b g r i j)

theorem v5_at (b g r : Fin 2) (i : Fin 2048) : (val_main_v5 (F := Ideal) q k (ix4 b g r i) : EReal) = Cert.SoftRow.top (refRow q k b g r i) :=
  Cert.ReferenceIdeal.Dense.v7_at q k b g r i

theorem v7_at (b g r : Fin 2) (i : Fin 2048) : (val_main_v7 (F := Ideal) q k (ix4 b g r i) : EReal) = Cert.SoftRow.top (refRow q k b g r i) := by
  refine (Cert.ReferenceIdeal.Dense.v14_at q k b g r i).trans ((congrArg₂ max neg_inf (v5_at q k b g r i)).trans ?_)
  exact max_eq_right bot_le

theorem v11_at (b g r : Fin 2) (i j : Fin 2048) : (val_main_v11 (F := Ideal) q k (ix5 b g r i j) : EReal) = Cert.SoftRow.ex (refRow q k b g r i) j :=
  (Cert.ReferenceIdeal.Dense.v27_at q k b g r i j).trans (congrArg (fun x : EReal => Ideal.exp (refRow q k b g r i j - x)) (v7_at q k b g r i))

theorem v13_at (b g r : Fin 2) (i : Fin 2048) : (val_main_v13 (F := Ideal) q k (ix5 b g r i 0) : EReal) = Cert.SoftRow.den (refRow q k b g r i) :=
  (Cert.ReferenceIdeal.Dense.v29_at q k b g r i).trans (Finset.sum_congr rfl fun j _ => v11_at q k b g r i j)

theorem v15_at (b g r : Fin 2) (i j : Fin 2048) :
    (val_main_v15 (F := Ideal) q k (ix5 b g r i j) : EReal) = Ideal.div (Cert.SoftRow.ex (refRow q k b g r i) j) (Cert.SoftRow.den (refRow q k b g r i)) :=
  (Cert.ReferenceIdeal.Dense.v31_at q k b g r i j).trans (congrArg₂ Ideal.div (v11_at q k b g r i j) (v13_at q k b g r i))

/-- The reference's output. -/
theorem v31_at (b : Fin 2) (i : Fin 2048) (g r : Fin 2) (d : Fin 64) :
    (val_main_v31 (F := Ideal) q k v (ix3 b i ⟨64 * (2 * g.val + r.val) + d.val, by omega⟩) : EReal)
      = ∑ j : Fin 2048, v (ix4 b j g d) * Ideal.div (Cert.SoftRow.ex (refRow q k b g r i) j) (Cert.SoftRow.den (refRow q k b g r i)) := by
  have e : (val_main_v31 (F := Ideal) q k v (ix3 b i ⟨64 * (2 * g.val + r.val) + d.val, by omega⟩) : EReal)
      = ∑ j : Fin 2048, v (ix4 b j g d) * val_main_v15 (F := Ideal) q k (ix5 b g r i j) := by
    unfold val_main_v31 val_main_v18 val_main_v17 val_main_v16
    generalize val_main_v15 (F := Ideal) q k = p
    pointwise
  exact e.trans (Finset.sum_congr rfl fun j _ => congrArg (fun x : EReal => _ * x) (v15_at q k b g r i j))

/-! The log-sum takes its maximum and sum as the host code does for the backward call. -/

theorem v20_at (b g r : Fin 2) (i : Fin 2048) : (val_main_v20 (F := Ideal) q k (ix5 b g r i 0) : EReal) = Cert.SoftRow.top (refRow q k b g r i) :=
  Cert.KernelIdeal.DenseBwd.hM_at (val_main_v4 (F := Ideal) q k) b g r i

theorem v23_at (b g r : Fin 2) (i j : Fin 2048) : (val_main_v23 (F := Ideal) q k (ix5 b g r i j) : EReal) = Cert.SoftRow.ex (refRow q k b g r i) j :=
  (Cert.KernelIdeal.DenseBwd.hX_at (val_main_v4 (F := Ideal) q k) (val_main_v20 (F := Ideal) q k) b g r i j).trans
    (congrArg (fun x : EReal => Ideal.exp (refRow q k b g r i j - x)) (v20_at q k b g r i))

theorem v25_at (b g r : Fin 2) (i : Fin 2048) : (val_main_v25 (F := Ideal) q k (ix5 b g r i 0) : EReal) = Cert.SoftRow.den (refRow q k b g r i) :=
  (Cert.KernelIdeal.DenseBwd.hN_at (val_main_v23 (F := Ideal) q k) b g r i).trans (Finset.sum_congr rfl fun j _ => v23_at q k b g r i j)

/-- The logarithm added to a number, as the program's operations. -/
theorem add_log (x y : EReal) :
    (FloatOps.addf (F := Ideal) (φ := .f32) x (FloatOps.hostUnary (F := Ideal) (φ := .f32) .log y) : EReal) = x + Ideal.log y := rfl

/-- The log-sum by example, key head, query head of the key head and query. -/
theorem v27_at (b g r : Fin 2) (i : Fin 2048) : (val_main_v27 (F := Ideal) q k (ix5 b g r i 0) : EReal) = Cert.SoftRow.lse (refRow q k b g r i) := by
  have e : (val_main_v27 (F := Ideal) q k (ix5 b g r i 0) : EReal)
      = val_main_v20 (F := Ideal) q k (ix5 b g r i 0) + Ideal.log (val_main_v25 (F := Ideal) q k (ix5 b g r i 0)) := by
    rw [val_main_v27_apply, val_main_v26_apply]
    exact add_log _ _
  unfold Cert.SoftRow.lse
  rw [e, v20_at, v25_at]

/-- The log-sum by example, query, key head, query head of the key head and lane: the same on each lane. -/
theorem v29_at (b g r : Fin 2) (i : Fin 2048) (d : Fin 64) :
    (val_main_v29 (F := Ideal) q k (ix5 b i g r d) : EReal) = Cert.SoftRow.lse (refRow q k b g r i) := by
  have e : (val_main_v29 (F := Ideal) q k (ix5 b i g r d) : EReal) = val_main_v27 (F := Ideal) q k (ix5 b g r i 0) := by
    unfold val_main_v29 val_main_v28
    generalize val_main_v27 (F := Ideal) q k = w
    pointwise
  exact e.trans (v27_at q k b g r i)

/-- The reference's log-sum. -/
theorem v30_at (b : Fin 2) (i : Fin 2048) (g r : Fin 2) (d : Fin 64) :
    (val_main_v30 (F := Ideal) q k (ix3 b i ⟨64 * (2 * g.val + r.val) + d.val, by omega⟩) : EReal) = Cert.SoftRow.lse (refRow q k b g r i) := by
  have e : (val_main_v30 (F := Ideal) q k (ix3 b i ⟨64 * (2 * g.val + r.val) + d.val, by omega⟩) : EReal)
      = val_main_v29 (F := Ideal) q k (ix5 b i g r d) := by
    unfold val_main_v30
    generalize val_main_v29 (F := Ideal) q k = w
    pointwise
  exact e.trans (v29_at q k b g r i d)

end Cert.Kernel16Ideal.Attn

end

end
-- ==== Proof.AttnEquation.lean ====
/- The dense attention, forward: the kernel's two arrays are the reference's, when queries and keys are real numbers. -/
module

public import proofs.«01_k».proof.Proof.AttnRef
public import proofs.«01_k».proof.Proof.Equation
public import proofs.«01_k».proof.Proof.Gen.Reference16Ideal.Read
public import proofs.«01_k».proof.Pre_finite16
public import Idealize.ShloMosaic.Lib.Pointwise

@[expose] public section

set_option maxRecDepth 16384

noncomputable section

open Idealize.ShloMosaic Idealize.ShloMosaic.TcCoe Idealize.SL.Sem

namespace Cert.Kernel16Ideal.Attn

open Cert.Kernel16Ideal Cert.Kernel16Ideal.Gen Cert.DenseModel Cert.Reference16Ideal.Read
open Cert.KernelIdeal.DenseBwd (hA hA_q hA_k hA_v ix_q)

variable (q : FVec Ideal S2x2048x4x64 .f32) (k v : FVec Ideal S2x2048x2x64 .f32)

/-! ## The two sides -/

section Equal

variable (Q : Fin 2 → Fin 2048 → Fin 4 → Fin 64 → ℝ) (K : Fin 2 → Fin 2048 → Fin 2 → Fin 64 → ℝ)
variable (hq : ∀ b i h d, q (ix4 b i h d) = Q b i h d) (hk : ∀ b i g d, k (ix4 b i g d) = K b i g d)
include hq hk

/-- The reference's scores are the model's. -/
theorem ref_real (b g r : Fin 2) (i j : Fin 2048) : refRow q k b g r i j = DenseModel.score Q K b g r i j :=
  Cert.ReferenceIdeal.Dense.score_real q k Q K hq hk b g r i j

/-- The kernel's scores, of queries scaled beforehand, are the model's. -/
theorem score_real (b g r : Fin 2) (i j : Fin 2048) : scoreArr (hA q k v) b (hd g r) i j = DenseModel.score Q K b g r i j := by
  have ak : ∀ d (l : Fin 512), l.val = 256 + 64 * g.val + d.val → hA q k v (ix3 b j l) = ((K b j g d : ℝ) : EReal) := by
    intro d l hl
    have e : l = ⟨256 + 64 * g.val + d.val, by clear hl l; omega⟩ := Fin.ext hl
    subst e
    exact (hA_k q k v b j g d).trans (hk b j g d)
  unfold scoreArr DenseModel.score
  rw [Finset.sum_mul, coe_sum]
  refine Finset.sum_congr rfl fun d _ => ?_
  rw [ak d _ (by simp only []; omega)]
  refine (congrArg (fun x : EReal => x * _) ((hA_q q k v b i (hd g r) d).trans (congrArg₂ (fun x y : EReal => x * y) (hq b i (hd g r) d) eighth))).trans ?_
  rw [← EReal.coe_mul, ← EReal.coe_mul]
  exact congrArg _ (by ring)

theorem row_eq (b g r : Fin 2) (i : Fin 2048) : scoreArr (hA q k v) b (hd g r) i = refRow q k b g r i :=
  funext fun j => (score_real q k v Q K hq hk b g r i j).trans (ref_real q k Q K hq hk b g r i j).symm

end Equal

/-- The values that head `2g + r` reads. -/
theorem valArr_at (b g r : Fin 2) (d : Fin 64) (j : Fin 2048) : valArr (hA q k v) b (hd g r) d j = v (ix4 b j g d) := by
  have av : ∀ l : Fin 512, l.val = 384 + 64 * g.val + d.val → hA q k v (ix3 b j l) = v (ix4 b j g d) := by
    intro l hl
    have e : l = ⟨384 + 64 * g.val + d.val, by clear hl l; omega⟩ := Fin.ext hl
    subst e
    exact hA_v q k v b j g d
  exact av _ (by simp only []; omega)

/-- The two arrays are the reference's. -/
theorem arrays_eq [Cert.Pre_finite16.Facts] (h : Cert.Pre_finite16.fn (F := Ideal) q k v = fun _ => 1#1) :
    outArr (hA q k v) = val_main_v31 (F := Ideal) q k v ∧ lseArr (hA q k v) = val_main_v30 (F := Ideal) q k := by
  obtain ⟨rq, rk⟩ := Cert.Pre_finite16.finite q k v h
  have row := row_eq q k v (fun b i h d => (q (ix4 b i h d)).toReal) (fun b i g d => (k (ix4 b i g d)).toReal) (fun _ _ _ _ => rq _) (fun _ _ _ _ => rk _)
  have real := ref_real q k (fun b i h d => (q (ix4 b i h d)).toReal) (fun b i g d => (k (ix4 b i g d)).toReal) (fun _ _ _ _ => rq _) (fun _ _ _ _ => rk _)
  have head : ∀ (g r : Fin 2) (d : Fin 64), headOf ⟨64 * (2 * g.val + r.val) + d.val, by omega⟩ = hd g r := fun g r d =>
    Fin.ext (show (64 * (2 * g.val + r.val) + d.val) / 64 = 2 * g.val + r.val by omega)
  have comp : ∀ (g r : Fin 2) (d : Fin 64), compOf ⟨64 * (2 * g.val + r.val) + d.val, by omega⟩ = d := fun g r d =>
    Fin.ext (show (64 * (2 * g.val + r.val) + d.val) % 64 = d.val by omega)
  refine ⟨funext fun y => ?_, funext fun y => ?_⟩
  · obtain ⟨b, i, g, r, d, rfl⟩ := ix_q y
    refine Eq.trans ?_ (v31_at q k v b i g r d).symm
    show Cert.SoftRow.out (scoreArr (hA q k v) b (headOf ⟨64 * (2 * g.val + r.val) + d.val, by omega⟩) i)
      (valArr (hA q k v) b (headOf ⟨64 * (2 * g.val + r.val) + d.val, by omega⟩) (compOf ⟨64 * (2 * g.val + r.val) + d.val, by omega⟩)) = _
    rw [head, comp, row b g r i, Cert.SoftRow.out_eq _ _ _ (real b g r i)]
    exact Finset.sum_congr rfl fun j _ => congrArg (fun x : EReal => x * _) (valArr_at q k v b g r d j)
  · obtain ⟨b, i, g, r, d, rfl⟩ := ix_q y
    refine Eq.trans ?_ (v30_at q k b i g r d).symm
    show Cert.SoftRow.lse (scoreArr (hA q k v) b (headOf ⟨64 * (2 * g.val + r.val) + d.val, by omega⟩) i) = _
    rw [head, row b g r i]

end Cert.Kernel16Ideal.Attn

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel14
public import proofs.«01_k».proof.Proof.Gen.Kernel14.Frame
public import proofs.«01_k».proof.Proof.Gen.Kernel14.Skeleton
public import proofs.«01_k».proof.Proof.Gen.Kernel14Ideal
public import proofs.«01_k».proof.Proof.Gen.Kernel14Ideal.Frame
public import proofs.«01_k».proof.Proof.Gen.Kernel14Ideal.Skeleton
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15.Skeleton
public import proofs.«01_k».proof.Proof.Gen.Kernel15Ideal
public import proofs.«01_k».proof.Proof.Gen.Kernel15Ideal.Frame
public import proofs.«01_k».proof.Proof.Gen.Kernel15Ideal.Skeleton
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Equation
public import proofs.«01_k».proof.Proof.UpEquation
public import proofs.«01_k».proof.Proof.UpWeight
public import proofs.«01_k».proof.Proof.DownWeight
public import proofs.«01_k».proof.Proof.DownInput
public import proofs.«01_k».proof.Proof.InEquation
public import proofs.«01_k».proof.Proof.InWeight
public import proofs.«01_k».proof.Proof.DownOut
public import proofs.«01_k».proof.Proof.OutWeight
public import proofs.«01_k».proof.Proof.GateEquation
public import proofs.«01_k».proof.Proof.MixArrays
public import proofs.«01_k».proof.Proof.MixBackEquation
public import proofs.«01_k».proof.Proof.PleArrays
public import Idealize.ShloMosaic.Adequacy
public import Idealize.ShloMosaic.Init
public import proofs.«01_k».proof.Proof.UpFwdBits
public import proofs.«01_k».proof.Proof.UpFwdArrays
public import proofs.«01_k».proof.Proof.MixInBits
public import proofs.«01_k».proof.Proof.MixInArrays
public import proofs.«01_k».proof.Proof.AttnEquation

@[expose] public section

noncomputable section

namespace Cert.Proof

open Idealize.ShloMosaic Idealize.SL.Sem Idealize.ShloMosaic.TcCoe

/-- The reference runs, leaves its arguments and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run m g)

/-- The three gradients are equal. -/
theorem algebraic [Cert.Pre_finite.Facts] :
    Cert.algebraic_KernelIdeal_ReferenceIdeal_pre_finite := by
  intro m g m' g' hpre hargs
  refine ⟨fun c => Cert.KernelIdeal.DenseBwd.dqArr (Cert.KernelIdeal.DenseBwd.arrA m c) (Cert.KernelIdeal.DenseBwd.arrD m c)
      (Cert.KernelIdeal.DenseBwd.arrL m c) (Cert.KernelIdeal.DenseBwd.arrE m c),
    fun c => Cert.KernelIdeal.DenseBwd.dkArr (Cert.KernelIdeal.DenseBwd.arrA m c) (Cert.KernelIdeal.DenseBwd.arrD m c)
      (Cert.KernelIdeal.DenseBwd.arrL m c) (Cert.KernelIdeal.DenseBwd.arrE m c),
    fun c => Cert.KernelIdeal.DenseBwd.dvArr (Cert.KernelIdeal.DenseBwd.arrA m c) (Cert.KernelIdeal.DenseBwd.arrD m c)
      (Cert.KernelIdeal.DenseBwd.arrL m c), ?_, ?_⟩
  · refine (θ_run Cert.KernelIdeal.defs _ _).mono (fun r h c => ?_) (Cert.KernelIdeal.Value.run_blocks m g)
    obtain ⟨h0, h1, h2, ha⟩ := h c
    exact ⟨h0.trans (Cert.KernelIdeal.DenseBwd.final_dq m c), h1.trans (Cert.KernelIdeal.DenseBwd.final_dk m c),
      h2.trans (Cert.KernelIdeal.DenseBwd.final_dv m c), ha⟩
  · refine (θ_run Cert.ReferenceIdeal.defs _ _).mono (fun r h c => ?_) (Cert.ReferenceIdeal.Value.run m' g')
    obtain ⟨h0, h1, h2, ha⟩ := h c
    obtain ⟨e0, e1, e2, e3⟩ := hargs c
    obtain ⟨eq, ek, ev⟩ := Cert.KernelIdeal.DenseBwd.arrays_eq m c (hpre c)
    refine ⟨h0.trans ((Cert.ReferenceIdeal.Read.val_main_v66_eq m' c).trans ?_),
      h1.trans ((Cert.ReferenceIdeal.Read.val_main_v68_eq m' c).trans ?_),
      h2.trans ((Cert.ReferenceIdeal.Read.val_main_v70_eq _ _ _).trans ?_), ha⟩
    · rw [e0, e1, e2, e3]; exact eq.symm
    · rw [e0, e1, e2, e3]; exact ek.symm
    · rw [e0, e1, e3]; exact ev.symm

/-- The second reference runs, leaves its arguments and declares no semaphore. -/
theorem frame_reference2 : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run m g)

/-- The feed-forward's gradients are equal, whatever the arguments hold. -/
theorem algebraic2 : Cert.algebraic_Kernel2Ideal_Reference2Ideal := by
  intro m g m' g' _ hargs
  refine ⟨fun c => Cert.Kernel2Ideal.UpBwd.dxArr (Cert.Kernel2Ideal.UpBwd.arrDG m c) (Cert.Kernel2Ideal.UpBwd.arrDU m c)
      (Cert.Kernel2Ideal.UpBwd.arrW m c) (Cert.Kernel2Ideal.UpBwd.arrX m c) (Cert.Kernel2Ideal.UpBwd.arrG m c) (Cert.Kernel2Ideal.UpBwd.arrR m c),
    fun c => Cert.Kernel2Ideal.UpBwd.dxArr (Cert.Kernel2Ideal.UpBwd.arrDG m c) (Cert.Kernel2Ideal.UpBwd.arrDU m c)
      (Cert.Kernel2Ideal.UpBwd.arrW m c) (Cert.Kernel2Ideal.UpBwd.arrX m c) (Cert.Kernel2Ideal.UpBwd.arrG m c) (Cert.Kernel2Ideal.UpBwd.arrR m c),
    fun c => Cert.Kernel2Ideal.UpBwd.dgArr (Cert.Kernel2Ideal.UpBwd.arrDG m c) (Cert.Kernel2Ideal.UpBwd.arrDU m c)
      (Cert.Kernel2Ideal.UpBwd.arrW m c) (Cert.Kernel2Ideal.UpBwd.arrX m c), ?_, ?_⟩
  · refine (θ_run Cert.Kernel2Ideal.defs _ _).mono (fun r h c => ?_) (Cert.Kernel2Ideal.Value.run_blocks m g)
    obtain ⟨h0, h1, h2, ha⟩ := h c
    exact ⟨h0.trans (Cert.Kernel2Ideal.UpBwd.final_dx m c), h1.trans (Cert.Kernel2Ideal.UpBwd.final_dxb m c),
      h2.trans (Cert.Kernel2Ideal.UpBwd.final_dg m c), ha⟩
  · refine (θ_run Cert.Reference2Ideal.defs _ _).mono (fun r h c => ?_) (Cert.Reference2Ideal.Value.run m' g')
    obtain ⟨h0, h1, h2, ha⟩ := h c
    obtain ⟨e0, e1, e2, e3, e4, e5⟩ := hargs c
    obtain ⟨q0, q1, q2⟩ := Cert.Kernel2Ideal.UpBwd.arrays_eq m c
    refine ⟨h0.trans ((Cert.Reference2Ideal.Read.val_main_v40_eq m' c).trans ?_),
      h1.trans ((Cert.Reference2Ideal.Read.val_main_v41_eq m' c).trans ?_),
      h2.trans ((Cert.Reference2Ideal.Read.val_main_v42_eq _ _ _ _).trans ?_), ha⟩
    · rw [e0, e1, e2, e3, e4, e5]; exact q0.symm
    · rw [e0, e1, e2, e3, e4, e5]; exact q1.symm
    · rw [e0, e2, e3, e4]; exact q2.symm

/-- The reference of the gradient of the feed-forward's up weight runs, leaves its arguments and declares no semaphore. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- Equal results for the gradient of the feed-forward's up weight, whatever the arguments hold. -/
theorem algebraic3 : Cert.algebraic_Kernel3Ideal_Reference3Ideal := by
  intro m g m' g' _ hargs
  refine ⟨fun c => Cert.Kernel3Ideal.UpWeight.dwArr (Cert.Kernel3Ideal.UpWeight.argX m c) (Cert.Kernel3Ideal.UpWeight.argG m c) (Cert.Kernel3Ideal.UpWeight.argD m c), ?_, ?_⟩
  · refine (θ_run Cert.Kernel3Ideal.defs _ _).mono (fun r h c => ?_) (Cert.Kernel3Ideal.Value.run_blocks m g)
    obtain ⟨h0, ha⟩ := h c
    exact ⟨h0.trans (Cert.Kernel3Ideal.UpWeight.final m c), ha⟩
  · refine (θ_run Cert.Reference3Ideal.defs _ _).mono (fun r h c => ?_) (Cert.Reference3Ideal.Value.run m' g')
    obtain ⟨h0, ha⟩ := h c
    obtain ⟨e0, e1, e2⟩ := hargs c
    refine ⟨h0.trans ((Cert.Reference3Ideal.Read.val_main_v18_eq _ _ _).trans ?_), ha⟩
    rw [e0, e1, e2]
    exact (Cert.Kernel3Ideal.UpWeight.array_eq m c).symm

/-- The reference of the gradient of the feed-forward's down weight runs, leaves its arguments and declares no semaphore. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- Equal results for the gradient of the feed-forward's down weight, whatever the arguments hold. -/
theorem algebraic4 : Cert.algebraic_Kernel4Ideal_Reference4Ideal := by
  intro m g m' g' _ hargs
  refine ⟨fun c => Cert.Kernel4Ideal.DownWeight.dwArr (Cert.Kernel4Ideal.DownWeight.argA m c) (Cert.Kernel4Ideal.DownWeight.argD m c), ?_, ?_⟩
  · refine (θ_run Cert.Kernel4Ideal.defs _ _).mono (fun r h c => ?_) (Cert.Kernel4Ideal.Value.run_blocks m g)
    obtain ⟨h0, ha⟩ := h c
    exact ⟨h0.trans (Cert.Kernel4Ideal.DownWeight.final m c), ha⟩
  · refine (θ_run Cert.Reference4Ideal.defs _ _).mono (fun r h c => ?_) (Cert.Reference4Ideal.Value.run m' g')
    obtain ⟨h0, ha⟩ := h c
    obtain ⟨e0, e1⟩ := hargs c
    refine ⟨h0.trans ((Cert.Reference4Ideal.Read.val_main_v6_eq _ _).trans ?_), ha⟩
    rw [e0, e1]
    exact (Cert.Kernel4Ideal.DownWeight.array_eq m c).symm

/-- The reference of the feed-forward's down projection, backward to its input runs, leaves its arguments and declares no semaphore. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- Equal results for the feed-forward's down projection, backward to its input, whatever the arguments hold. -/
theorem algebraic5 : Cert.algebraic_Kernel5Ideal_Reference5Ideal := by
  intro m g m' g' _ hargs
  refine ⟨fun c => Cert.Kernel5Ideal.DownInput.dxArr (Cert.Kernel5Ideal.DownInput.argW m c) (Cert.Kernel5Ideal.DownInput.argD m c), ?_, ?_⟩
  · refine (θ_run Cert.Kernel5Ideal.defs _ _).mono (fun r h c => ?_) (Cert.Kernel5Ideal.Value.run_blocks m g)
    obtain ⟨h0, ha⟩ := h c
    exact ⟨h0.trans (Cert.Kernel5Ideal.DownInput.final m c), ha⟩
  · refine (θ_run Cert.Reference5Ideal.defs _ _).mono (fun r h c => ?_) (Cert.Reference5Ideal.Value.run m' g')
    obtain ⟨h0, ha⟩ := h c
    obtain ⟨e0, e1⟩ := hargs c
    refine ⟨h0.trans ((Cert.Reference5Ideal.Read.val_main_v4_eq _ _).trans ?_), ha⟩
    rw [e0, e1]
    exact (Cert.Kernel5Ideal.DownInput.array_eq m c).symm

/-- The reference of the mixers' projection, backward to its input, runs, leaves its arguments and declares no semaphore. -/
theorem frame_reference6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

open Cert.Kernel6Ideal.InBwd in
/-- Equal results for the mixers' projection, backward to its input, whatever the arguments hold. -/
theorem algebraic6 : Cert.algebraic_Kernel6Ideal_Reference6Ideal := by
  intro m g m' g' _ hargs
  refine ⟨fun c => dxArr (argX m c) (argG m c) (argW m c) (argD m c) (argR m c), fun c => dgArr (argX m c) (argW m c) (argD m c), ?_, ?_⟩
  · refine (θ_run Cert.Kernel6Ideal.defs _ _).mono (fun r h c => ?_) (Cert.Kernel6Ideal.Value.run_blocks m g)
    obtain ⟨h0, h1, ha⟩ := h c
    exact ⟨h0.trans (final_dx m c), h1.trans (final_dg m c), ha⟩
  · refine (θ_run Cert.Reference6Ideal.defs _ _).mono (fun r h c => ?_) (Cert.Reference6Ideal.Value.run m' g')
    obtain ⟨h0, h1, ha⟩ := h c
    obtain ⟨e0, e1, e2, e3, e4⟩ := hargs c
    obtain ⟨qx, qg⟩ := arrays_eq (argX m c) (argG m c) (argW m c) (argD m c) (argR m c)
    refine ⟨h0.trans ((Cert.Reference6Ideal.Read.val_main_v39_eq m' c).trans ?_),
      h1.trans ((Cert.Reference6Ideal.Read.val_main_v40_eq _ _ _).trans ?_), ha⟩
    · rw [e0, e1, e2, e3, e4]; exact qx.symm
    · rw [e0, e2, e3]; exact qg.symm

/-- The reference of the gradient of the mixers' input weight runs, leaves its arguments and declares no semaphore. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- Equal results for the gradient of the mixers' input weight, whatever the arguments hold. -/
theorem algebraic7 : Cert.algebraic_Kernel7Ideal_Reference7Ideal := by
  intro m g m' g' _ hargs
  refine ⟨fun c => Cert.Kernel7Ideal.InWeight.dwArr (Cert.Kernel7Ideal.InWeight.argX m c) (Cert.Kernel7Ideal.InWeight.argG m c) (Cert.Kernel7Ideal.InWeight.argD m c), ?_, ?_⟩
  · refine (θ_run Cert.Kernel7Ideal.defs _ _).mono (fun r h c => ?_) (Cert.Kernel7Ideal.Value.run_blocks m g)
    obtain ⟨h0, ha⟩ := h c
    exact ⟨h0.trans (Cert.Kernel7Ideal.InWeight.final m c), ha⟩
  · refine (θ_run Cert.Reference7Ideal.defs _ _).mono (fun r h c => ?_) (Cert.Reference7Ideal.Value.run m' g')
    obtain ⟨h0, ha⟩ := h c
    obtain ⟨e0, e1, e2⟩ := hargs c
    refine ⟨h0.trans ((Cert.Reference7Ideal.Read.val_main_v18_eq _ _ _).trans ?_), ha⟩
    rw [e0, e1, e2]
    exact (Cert.Kernel7Ideal.InWeight.array_eq m c).symm

/-- The reference of the down projection runs, leaves its arguments and declares no semaphore. -/
theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

open Cert.Kernel8Ideal.DownOut in
/-- Equal results for the down projection with its residual, whatever the arguments hold. -/
theorem algebraic8 : Cert.algebraic_Kernel8Ideal_Reference8Ideal := by
  intro m g m' g' _ hargs
  refine ⟨fun c => outArr (argA m c) (argW m c) (argX m c), ?_, ?_⟩
  · refine (θ_run Cert.Kernel8Ideal.defs _ _).mono (fun r h c => ?_) (Cert.Kernel8Ideal.Value.run_blocks m g)
    obtain ⟨h0, ha⟩ := h c
    exact ⟨h0.trans (final m c), ha⟩
  · refine (θ_run Cert.Reference8Ideal.defs _ _).mono (fun r h c => ?_) (Cert.Reference8Ideal.Value.run m' g')
    obtain ⟨h0, ha⟩ := h c
    obtain ⟨e0, e1, e2⟩ := hargs c
    refine ⟨h0.trans ((Cert.Reference8Ideal.Read.val_main_v2_eq _ _ _).trans ?_), ha⟩
    rw [e0, e1, e2]
    exact (array_eq m c).symm

/-- The reference of the gradient of the mixers' output weight runs, leaves its arguments and declares no semaphore. -/
theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

open Cert.Kernel9Ideal.OutWeight in
/-- Equal results for the gradient of the mixers' output weight, whatever the arguments hold. -/
theorem algebraic9 : Cert.algebraic_Kernel9Ideal_Reference9Ideal := by
  intro m g m' g' _ hargs
  refine ⟨fun c => dwArr (argA m c) (argD m c), ?_, ?_⟩
  · refine (θ_run Cert.Kernel9Ideal.defs _ _).mono (fun r h c => ?_) (Cert.Kernel9Ideal.Value.run_blocks m g)
    obtain ⟨h0, ha⟩ := h c
    exact ⟨h0.trans (final m c), ha⟩
  · refine (θ_run Cert.Reference9Ideal.defs _ _).mono (fun r h c => ?_) (Cert.Reference9Ideal.Value.run m' g')
    obtain ⟨h0, ha⟩ := h c
    obtain ⟨e0, e1⟩ := hargs c
    refine ⟨h0.trans ((Cert.Reference9Ideal.Read.val_main_v6_eq _ _).trans ?_), ha⟩
    rw [e0, e1]
    exact (array_eq m c).symm

/-- The reference of the embedding's gate, backward to its input, runs, leaves its arguments and declares no semaphore. -/
theorem frame_reference10 : Cert.quiescent_Reference10Ideal := fun m g _ =>
  (θ_run Cert.Reference10Ideal.defs _ _).mono (fun r h => ⟨fun c => (h c).2.2.2, sem_eq_zero_of_no_sems (by decide) r.2⟩)
    (Cert.Reference10Ideal.Value.run m g)

open Cert.Kernel10Ideal.GateBwd in
/-- Equal results for the embedding's gate, backward to its input, whatever the arguments hold. -/
theorem algebraic10 : Cert.algebraic_Kernel10Ideal_Reference10Ideal := by
  intro m g m' g' _ hargs
  refine ⟨fun c => dxArr (argX m c) (argG m c) (argW m c) (argD m c) (argR m c),
    fun c => dxArr (argX m c) (argG m c) (argW m c) (argD m c) (argR m c), fun c => dgArr (argX m c) (argW m c) (argD m c), ?_, ?_⟩
  · refine (θ_run Cert.Kernel10Ideal.defs _ _).mono (fun r h c => ?_) (Cert.Kernel10Ideal.Value.run_blocks m g)
    obtain ⟨h0, h1, h2, ha⟩ := h c
    exact ⟨h0.trans (final_dx m c), h1.trans (final_dxb m c), h2.trans (final_dg m c), ha⟩
  · refine (θ_run Cert.Reference10Ideal.defs _ _).mono (fun r h c => ?_) (Cert.Reference10Ideal.Value.run m' g')
    obtain ⟨h0, h1, h2, ha⟩ := h c
    obtain ⟨e0, e1, e2, e3, e4⟩ := hargs c
    obtain ⟨q0, q1, q2⟩ := arrays_eq (argX m c) (argG m c) (argW m c) (argD m c) (argR m c)
    refine ⟨h0.trans ((Cert.Reference10Ideal.Read.val_main_v39_eq m' c).trans ?_),
      h1.trans ((Cert.Reference10Ideal.Read.val_main_v40_eq m' c).trans ?_),
      h2.trans ((Cert.Reference10Ideal.Read.val_main_v41_eq _ _ _).trans ?_), ha⟩
    · rw [e0, e1, e2, e3, e4]; exact q0.symm
    · rw [e0, e1, e2, e3, e4]; exact q1.symm
    · rw [e0, e2, e3]; exact q2.symm

/-- The reference of the mixers' output runs, leaves its arguments and declares no semaphore. -/
theorem frame_reference11 : Cert.quiescent_Reference11Ideal := fun m g _ =>
  (θ_run Cert.Reference11Ideal.defs _ _).mono (fun r h => ⟨fun c => (h c).2.2, sem_eq_zero_of_no_sems (by decide) r.2⟩)
    (Cert.Reference11Ideal.Value.run m g)

open Cert.Kernel11Ideal.MixOut in
/-- Equal results for the mixers' output, whatever the arguments hold. -/
theorem algebraic11 : Cert.algebraic_Kernel11Ideal_Reference11Ideal := by
  intro m g m' g' _ hargs
  refine ⟨fun c => hArr (arg0 m c) (arg1 m c) (arg2 m c) (arg3 m c) (argG m c),
    fun c => outArr (arg0 m c) (arg1 m c) (arg2 m c) (arg3 m c) (argG m c) (argW m c) (argX m c), ?_, ?_⟩
  · refine (θ_run Cert.Kernel11Ideal.defs _ _).mono (fun r h c => ?_) (Cert.Kernel11Ideal.Value.run_blocks m g)
    obtain ⟨h0, h1, ha⟩ := h c
    exact ⟨h0.trans (final_h m c), h1.trans (final_out m c), ha⟩
  · refine (θ_run Cert.Reference11Ideal.defs _ _).mono (fun r h c => ?_) (Cert.Reference11Ideal.Value.run m' g')
    obtain ⟨h0, h1, ha⟩ := h c
    obtain ⟨e0, e1, e2, e3, e4, e5, e6⟩ := hargs c
    obtain ⟨q0, q1⟩ := arrays_eq (arg0 m c) (arg1 m c) (arg2 m c) (arg3 m c) (argG m c) (argW m c) (argX m c)
    refine ⟨h0.trans ((Cert.Reference11Ideal.Read.val_main_v65_eq _ _ _ _ _).trans ?_),
      h1.trans ((Cert.Reference11Ideal.Read.val_main_v67_eq m' c).trans ?_), ha⟩
    · rw [e0, e1, e2, e3, e4]; exact q0.symm
    · rw [e0, e1, e2, e3, e4, e5, e6]; exact q1.symm

/-- The reference of the mixers' output, backward, runs, leaves its arguments and declares no semaphore. -/
theorem frame_reference12 : Cert.quiescent_Reference12Ideal := fun m g _ =>
  (θ_run Cert.Reference12Ideal.defs _ _).mono (fun r h => ⟨fun c => (h c).2.2, sem_eq_zero_of_no_sems (by decide) r.2⟩)
    (Cert.Reference12Ideal.Value.run m g)

open Cert.Kernel12Ideal.MixBack in
/-- Equal results for the mixers' output, backward, whatever the arguments hold. -/
theorem algebraic12 : Cert.algebraic_Kernel12Ideal_Reference12Ideal := by
  intro m g m' g' _ hargs
  refine ⟨fun c => dxArr (arg0 m c) (arg1 m c) (arg2 m c) (arg3 m c) (argG m c) (argW m c) (argD m c),
    fun c => dgArr (arg0 m c) (arg1 m c) (arg2 m c) (arg3 m c) (argW m c) (argD m c), ?_, ?_⟩
  · refine (θ_run Cert.Kernel12Ideal.defs _ _).mono (fun r h c => ?_) (Cert.Kernel12Ideal.Value.run_blocks m g)
    obtain ⟨h0, h1, ha⟩ := h c
    exact ⟨h0.trans (final_dx m c), h1.trans (final_dg m c), ha⟩
  · refine (θ_run Cert.Reference12Ideal.defs _ _).mono (fun r h c => ?_) (Cert.Reference12Ideal.Value.run m' g')
    obtain ⟨h0, h1, ha⟩ := h c
    obtain ⟨e0, e1, e2, e3, e4, e5, e6⟩ := hargs c
    obtain ⟨q0, q1⟩ := arrays_eq (arg0 m c) (arg1 m c) (arg2 m c) (arg3 m c) (argG m c) (argW m c) (argD m c)
    have l0 : StableHlo.launchContents m' c (Proc.devRef .tc Cert.Reference12Ideal.main_arg0) = arg0 m c := e0
    have l1 : StableHlo.launchContents m' c (Proc.devRef .tc Cert.Reference12Ideal.main_arg1) = arg1 m c := e1
    have l2 : StableHlo.launchContents m' c (Proc.devRef .tc Cert.Reference12Ideal.main_arg2) = arg2 m c := e2
    have l3 : StableHlo.launchContents m' c (Proc.devRef .tc Cert.Reference12Ideal.main_arg3) = arg3 m c := e3
    have l4 : StableHlo.launchContents m' c (Proc.devRef .tc Cert.Reference12Ideal.main_arg4) = argG m c := e4
    have l5 : StableHlo.launchContents m' c (Proc.devRef .tc Cert.Reference12Ideal.main_arg5) = argW m c := e5
    have l6 : StableHlo.launchContents m' c (Proc.devRef .tc Cert.Reference12Ideal.main_arg6) = argD m c := e6
    refine ⟨h0.trans ((Cert.Reference12Ideal.Read.val_main_v175_eq _).trans ?_),
      h1.trans ((Cert.Reference12Ideal.Read.val_main_v176_eq _).trans ?_), ha⟩
    · refine Eq.trans ?_ q0.symm
      rw [l0, l1, l2, l3, l4, l5, l6]
    · refine Eq.trans ?_ q1.symm
      rw [l0, l1, l2, l3, l5, l6]

/-- The reference of the per-layer embedding runs, leaves its arguments and declares no semaphore. -/
theorem frame_reference13 : Cert.quiescent_Reference13Ideal := fun m g _ =>
  (θ_run Cert.Reference13Ideal.defs _ _).mono (fun r h => ⟨fun c => (h c).2.2.2.2, sem_eq_zero_of_no_sems (by decide) r.2⟩)
    (Cert.Reference13Ideal.Value.run m g)

open Cert.Kernel13Ideal.Ple in
/-- Equal results for the per-layer embedding, whatever the arguments hold. -/
theorem algebraic13 : Cert.algebraic_Kernel13Ideal_Reference13Ideal := by
  intro m g m' g' _ hargs
  refine ⟨fun c => hnArr (argX m c) (argG m c), fun c => outArr (argX m c) (argG m c) (argW m c) (argP m c) (argU m c),
    fun c => gateArr (argX m c) (argG m c) (argW m c), fun c => ppArr (argP m c) (argU m c), ?_, ?_⟩
  · refine (θ_run Cert.Kernel13Ideal.defs _ _).mono (fun r h c => ?_) (Cert.Kernel13Ideal.Value.run_blocks m g)
    obtain ⟨h0, h1, h2, h3, ha⟩ := h c
    exact ⟨h0.trans (final_hn m c), h1.trans (final_out m c), h2.trans (final_gate m c), h3.trans (final_pp m c), ha⟩
  · refine (θ_run Cert.Reference13Ideal.defs _ _).mono (fun r h c => ?_) (Cert.Reference13Ideal.Value.run m' g')
    obtain ⟨h0, h1, h2, h3, ha⟩ := h c
    obtain ⟨e0, e1, e2, e3, e4⟩ := hargs c
    obtain ⟨q0, q1, q2, q3⟩ := arrays_eq (argX m c) (argG m c) (argW m c) (argP m c) (argU m c)
    refine ⟨h0.trans ((Cert.Reference13Ideal.Read.val_main_v22_eq _ _).trans ?_),
      h1.trans ((Cert.Reference13Ideal.Read.val_main_v24_eq _ _ _ _ _).trans ?_),
      h2.trans ((Cert.Reference13Ideal.Read.val_main_v25_eq _ _ _).trans ?_),
      h3.trans ((Cert.Reference13Ideal.Read.val_main_v26_eq _ _).trans ?_), ha⟩
    · rw [e0, e1]; exact q0.symm
    · rw [e0, e1, e2, e3, e4]; exact q1.symm
    · rw [e0, e1, e2]; exact q2.symm
    · rw [e3, e4]; exact q3.symm

theorem frame_reference14 : Cert.quiescent_Reference14Ideal := fun m g _ =>
  (θ_run Cert.Reference14Ideal.defs _ _).mono (fun r h => ⟨fun c => (h c).2.2, sem_eq_zero_of_no_sems (by decide) r.2⟩)
    (Cert.Reference14Ideal.Value.run m g)

open Cert.Kernel14Ideal.UpFwd in
/-- Equal results for the up projection, forward, whatever the arguments hold. -/
theorem algebraic14 : Cert.algebraic_Kernel14Ideal_Reference14Ideal := by
  intro m g m' g' _ hargs
  refine ⟨fun c => normArr (argX m c) (argG m c), fun c => outArr (argX m c) (argG m c) (argW m c), run_arrays m g, ?_⟩
  refine (θ_run Cert.Reference14Ideal.defs _ _).mono (fun r h c => ?_) (Cert.Reference14Ideal.Value.run m' g')
  obtain ⟨h0, h1, ha⟩ := h c
  obtain ⟨e0, e1, e2⟩ := hargs c
  obtain ⟨q0, q1⟩ := arrays_eq (argX m c) (argG m c) (argW m c)
  refine ⟨h0.trans ((Cert.Reference14Ideal.Read.val_main_v13_eq _ _).trans ?_),
    h1.trans ((Cert.Reference14Ideal.Read.val_main_v15_eq _ _ _).trans ?_), ha⟩
  · rw [e0, e1]; exact q0.symm
  · rw [e0, e1, e2]; exact q1.symm

theorem frame_reference15 : Cert.quiescent_Reference15Ideal := fun m g _ =>
  (θ_run Cert.Reference15Ideal.defs _ _).mono (fun r h => ⟨fun c => (h c).2.2, sem_eq_zero_of_no_sems (by decide) r.2⟩)
    (Cert.Reference15Ideal.Value.run m g)

open Cert.Kernel14Ideal.UpFwd (normArr) in
open Cert.Kernel15Ideal.MixIn in
/-- Equal results for the mixers' input projection, forward, whatever the arguments hold. -/
theorem algebraic15 : Cert.algebraic_Kernel15Ideal_Reference15Ideal := by
  intro m g m' g' _ hargs
  refine ⟨fun c => normArr (argX m c) (argG m c), fun c => outArr (argX m c) (argG m c) (argW m c), run_arrays m g, ?_⟩
  refine (θ_run Cert.Reference15Ideal.defs _ _).mono (fun r h c => ?_) (Cert.Reference15Ideal.Value.run m' g')
  obtain ⟨h0, h1, ha⟩ := h c
  obtain ⟨e0, e1, e2⟩ := hargs c
  obtain ⟨q0, q1⟩ := arrays_eq (argX m c) (argG m c) (argW m c)
  refine ⟨h0.trans ((Cert.Reference15Ideal.Read.val_main_v13_eq _ _).trans ?_),
    h1.trans ((Cert.Reference15Ideal.Read.val_main_v15_eq _ _ _).trans ?_), ha⟩
  · rw [e0, e1]; exact q0.symm
  · rw [e0, e1, e2]; exact q1.symm

/-- The sixteenth reference runs, leaves its arguments and declares no semaphore. -/
theorem frame_reference16 : Cert.quiescent_Reference16Ideal := fun m g _ =>
  (θ_run Cert.Reference16Ideal.defs _ _).mono (fun r h => ⟨fun c => (h c).2.2, sem_eq_zero_of_no_sems (by decide) r.2⟩)
    (Cert.Reference16Ideal.Value.run m g)

open Cert.Kernel16Ideal.Attn in
/-- Equal results for the dense attention, forward, over finite queries and keys. -/
theorem algebraic16 [Cert.Pre_finite16.Facts] : Cert.algebraic_Kernel16Ideal_Reference16Ideal_pre_finite16 := by
  intro m g m' g' hpre hargs
  refine ⟨fun c => outArr (arrA m c), fun c => lseArr (arrA m c), run_arrays m g, ?_⟩
  refine (θ_run Cert.Reference16Ideal.defs _ _).mono (fun r h c => ?_) (Cert.Reference16Ideal.Value.run m' g')
  obtain ⟨h0, h1, ha⟩ := h c
  obtain ⟨e0, e1, e2⟩ := hargs c
  obtain ⟨q0, q1⟩ := arrays_eq (argQ m c) (argK m c) (argV m c) (hpre c)
  refine ⟨h0.trans ((Cert.Reference16Ideal.Read.val_main_v31_eq _ _ _).trans ?_),
    h1.trans ((Cert.Reference16Ideal.Read.val_main_v30_eq _ _).trans ?_), ha⟩
  · rw [e0, e1, e2]; exact ((congrArg outArr (arrA_eq m c)).trans q0).symm
  · rw [e0, e1]; exact ((congrArg lseArr (arrA_eq m c)).trans q1).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite.proved, Cert.Pre_finite16.proved,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.UpFwd.frame m g, fun m g _ => Cert.Kernel14Ideal.UpFwd.frame m g, frame_reference14,
    fun m g _ => Cert.Kernel15.MixIn.frame m g, fun m g _ => Cert.Kernel15Ideal.MixIn.frame m g, frame_reference15,
    fun m g _ => Cert.Kernel16.Gen.frame m g, fun m g _ => Cert.Kernel16Ideal.Gen.frame m g, fun m g _ => Cert.Kernel16Ideal.Gen.frame m g,
    frame_reference16, fun m g _ => frame_reference16 m g trivial,
    trivial, @algebraic Cert.Pre_finite.proved,
    trivial, algebraic2, trivial, algebraic3, trivial, algebraic4, trivial, algebraic5, trivial, algebraic6, trivial, algebraic7,
    trivial, algebraic8, trivial, algebraic9, trivial, algebraic10, trivial, algebraic11, trivial, algebraic12, trivial, algebraic13,
    trivial, algebraic14, trivial, algebraic15, trivial, @algebraic16 Cert.Pre_finite16.proved⟩

end Cert.Proof

end
